-- ==== Defs.lean ====
def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepRefIdeal (m : (ℓ : Loc Cert.PrepRefIdeal.nD Cert.PrepRefIdeal.τ Cert.PrepRefIdeal.sig) → Buf (Elt Ideal) ℓ) : Prop :=
  True

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_Dx (m : (ℓ : Loc Cert.Dx.nD Cert.Dx.τ Cert.Dx.sig) → Buf (Elt Bits) ℓ) : Prop :=
  True

def Pre_DxIdeal (m : (ℓ : Loc Cert.DxIdeal.nD Cert.DxIdeal.τ Cert.DxIdeal.sig) → Buf (Elt Ideal) ℓ) : Prop :=
  True

def Pre_DxRefIdeal (m : (ℓ : Loc Cert.DxRefIdeal.nD Cert.DxRefIdeal.τ Cert.DxRefIdeal.sig) → Buf (Elt Ideal) ℓ) : Prop :=
  True

def Pre_Dw (m : (ℓ : Loc Cert.Dw.nD Cert.Dw.τ Cert.Dw.sig) → Buf (Elt Bits) ℓ) : Prop :=
  True

def Pre_DwIdeal (m : (ℓ : Loc Cert.DwIdeal.nD Cert.DwIdeal.τ Cert.DwIdeal.sig) → Buf (Elt Ideal) ℓ) : Prop :=
  True

def Pre_DwRefIdeal (m : (ℓ : Loc Cert.DwRefIdeal.nD Cert.DwRefIdeal.τ Cert.DwRefIdeal.sig) → Buf (Elt Ideal) ℓ) : Prop :=
  True

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2)
      ∧ r.2.mem ((c.tc : Thread Cert.Prep.nD Cert.Prep.τ).loc Cert.Prep.main_arg3) = m ((c.tc : Thread Cert.Prep.nD Cert.Prep.τ).loc Cert.Prep.main_arg3)
      ∧ r.2.mem ((c.tc : Thread Cert.Prep.nD Cert.Prep.τ).loc Cert.Prep.main_arg4) = m ((c.tc : Thread Cert.Prep.nD Cert.Prep.τ).loc Cert.Prep.main_arg4)
      ∧ r.2.mem ((c.tc : Thread Cert.Prep.nD Cert.Prep.τ).loc Cert.Prep.main_arg5) = m ((c.tc : Thread Cert.Prep.nD Cert.Prep.τ).loc Cert.Prep.main_arg5))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
      ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5))
      ∧ r.2.sem = fun _ => 0)

def quiescent_PrepRefIdeal [hPrepRefIdeal : Cert.PrepRefIdeal.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2)
      ∧ r.2.mem ((c.tc : Thread Cert.PrepRefIdeal.nD Cert.PrepRefIdeal.τ).loc Cert.PrepRefIdeal.main_arg3) = m ((c.tc : Thread Cert.PrepRefIdeal.nD Cert.PrepRefIdeal.τ).loc Cert.PrepRefIdeal.main_arg3)
      ∧ r.2.mem ((c.tc : Thread Cert.PrepRefIdeal.nD Cert.PrepRefIdeal.τ).loc Cert.PrepRefIdeal.main_arg4) = m ((c.tc : Thread Cert.PrepRefIdeal.nD Cert.PrepRefIdeal.τ).loc Cert.PrepRefIdeal.main_arg4)
      ∧ r.2.mem ((c.tc : Thread Cert.PrepRefIdeal.nD Cert.PrepRefIdeal.τ).loc Cert.PrepRefIdeal.main_arg5) = m ((c.tc : Thread Cert.PrepRefIdeal.nD Cert.PrepRefIdeal.τ).loc Cert.PrepRefIdeal.main_arg5))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4)
      ∧ r.2.mem ((c.tc : Thread Cert.Mlp.nD Cert.Mlp.τ).loc Cert.Mlp.main_arg5) = m ((c.tc : Thread Cert.Mlp.nD Cert.Mlp.τ).loc Cert.Mlp.main_arg5)
      ∧ r.2.mem ((c.tc : Thread Cert.Mlp.nD Cert.Mlp.τ).loc Cert.Mlp.main_arg6) = m ((c.tc : Thread Cert.Mlp.nD Cert.Mlp.τ).loc Cert.Mlp.main_arg6))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
      ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4)
      ∧ r.2.mem ((c.tc : Thread Cert.MlpRefIdeal.nD Cert.MlpRefIdeal.τ).loc Cert.MlpRefIdeal.main_arg5) = m ((c.tc : Thread Cert.MlpRefIdeal.nD Cert.MlpRefIdeal.τ).loc Cert.MlpRefIdeal.main_arg5)
      ∧ r.2.mem ((c.tc : Thread Cert.MlpRefIdeal.nD Cert.MlpRefIdeal.τ).loc Cert.MlpRefIdeal.main_arg6) = m ((c.tc : Thread Cert.MlpRefIdeal.nD Cert.MlpRefIdeal.τ).loc Cert.MlpRefIdeal.main_arg6))
      ∧ r.2.sem = fun _ => 0)

def quiescent_Dx [hDx : Cert.Dx.Facts] : Prop :=
  ∀ (m : (ℓ : Loc Cert.Dx.nD Cert.Dx.τ Cert.Dx.sig) → Buf (Elt Bits) ℓ) (g : Dev Cert.Dx.nD → PrngReg), Pre_Dx m →
    θ_run (Cert.Dx.defs (F := Bits)) (onTc (τ := Cert.Dx.τ) (Cert.Dx.main (F := Bits))) ⟨m, fun _ => 0, g⟩ (fun r => (∀ c : Dev Cert.Dx.nD,
      r.2.mem ((c.tc : Thread Cert.Dx.nD Cert.Dx.τ).loc Cert.Dx.main_arg0) = m ((c.tc : Thread Cert.Dx.nD Cert.Dx.τ).loc Cert.Dx.main_arg0)
      ∧ r.2.mem ((c.tc : Thread Cert.Dx.nD Cert.Dx.τ).loc Cert.Dx.main_arg1) = m ((c.tc : Thread Cert.Dx.nD Cert.Dx.τ).loc Cert.Dx.main_arg1)
      ∧ r.2.mem ((c.tc : Thread Cert.Dx.nD Cert.Dx.τ).loc Cert.Dx.main_arg2) = m ((c.tc : Thread Cert.Dx.nD Cert.Dx.τ).loc Cert.Dx.main_arg2)
      ∧ r.2.mem ((c.tc : Thread Cert.Dx.nD Cert.Dx.τ).loc Cert.Dx.main_arg3) = m ((c.tc : Thread Cert.Dx.nD Cert.Dx.τ).loc Cert.Dx.main_arg3))
      ∧ r.2.sem = fun _ => 0)

def quiescent_DxIdeal [hDxIdeal : Cert.DxIdeal.Facts] : Prop :=
  ∀ (m : (ℓ : Loc Cert.DxIdeal.nD Cert.DxIdeal.τ Cert.DxIdeal.sig) → Buf (Elt Ideal) ℓ) (g : Dev Cert.DxIdeal.nD → PrngReg), Pre_DxIdeal m →
    θ_run (Cert.DxIdeal.defs (F := Ideal)) (onTc (τ := Cert.DxIdeal.τ) (Cert.DxIdeal.main (F := Ideal))) ⟨m, fun _ => 0, g⟩ (fun r => (∀ c : Dev Cert.DxIdeal.nD,
      r.2.mem ((c.tc : Thread Cert.DxIdeal.nD Cert.DxIdeal.τ).loc Cert.DxIdeal.main_arg0) = m ((c.tc : Thread Cert.DxIdeal.nD Cert.DxIdeal.τ).loc Cert.DxIdeal.main_arg0)
      ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
      ∧ r.2.mem ((c.tc : Thread Cert.DxIdeal.nD Cert.DxIdeal.τ).loc Cert.DxIdeal.main_arg2) = m ((c.tc : Thread Cert.DxIdeal.nD Cert.DxIdeal.τ).loc Cert.DxIdeal.main_arg2)
      ∧ r.2.mem ((c.tc : Thread Cert.DxIdeal.nD Cert.DxIdeal.τ).loc Cert.DxIdeal.main_arg3) = m ((c.tc : Thread Cert.DxIdeal.nD Cert.DxIdeal.τ).loc Cert.DxIdeal.main_arg3))
      ∧ r.2.sem = fun _ => 0)

def quiescent_DxRefIdeal [hDxRefIdeal : Cert.DxRefIdeal.Facts] : Prop :=
  ∀ (m : (ℓ : Loc Cert.DxRefIdeal.nD Cert.DxRefIdeal.τ Cert.DxRefIdeal.sig) → Buf (Elt Ideal) ℓ) (g : Dev Cert.DxRefIdeal.nD → PrngReg), Pre_DxRefIdeal m →
    θ_run (Cert.DxRefIdeal.defs (F := Ideal)) (onTc (τ := Cert.DxRefIdeal.τ) (Cert.DxRefIdeal.main (F := Ideal))) ⟨m, fun _ => 0, g⟩ (fun r => (∀ c : Dev Cert.DxRefIdeal.nD,
      r.2.mem ((c.tc : Thread Cert.DxRefIdeal.nD Cert.DxRefIdeal.τ).loc Cert.DxRefIdeal.main_arg0) = m ((c.tc : Thread Cert.DxRefIdeal.nD Cert.DxRefIdeal.τ).loc Cert.DxRefIdeal.main_arg0)
      ∧ r.2.mem ((c.tc : Thread Cert.DxRefIdeal.nD Cert.DxRefIdeal.τ).loc Cert.DxRefIdeal.main_arg1) = m ((c.tc : Thread Cert.DxRefIdeal.nD Cert.DxRefIdeal.τ).loc Cert.DxRefIdeal.main_arg1)
      ∧ r.2.mem ((c.tc : Thread Cert.DxRefIdeal.nD Cert.DxRefIdeal.τ).loc Cert.DxRefIdeal.main_arg2) = m ((c.tc : Thread Cert.DxRefIdeal.nD Cert.DxRefIdeal.τ).loc Cert.DxRefIdeal.main_arg2)
      ∧ r.2.mem ((c.tc : Thread Cert.DxRefIdeal.nD Cert.DxRefIdeal.τ).loc Cert.DxRefIdeal.main_arg3) = m ((c.tc : Thread Cert.DxRefIdeal.nD Cert.DxRefIdeal.τ).loc Cert.DxRefIdeal.main_arg3))
      ∧ r.2.sem = fun _ => 0)

def quiescent_Dw [hDw : Cert.Dw.Facts] : Prop :=
  ∀ (m : (ℓ : Loc Cert.Dw.nD Cert.Dw.τ Cert.Dw.sig) → Buf (Elt Bits) ℓ) (g : Dev Cert.Dw.nD → PrngReg), Pre_Dw m →
    θ_run (Cert.Dw.defs (F := Bits)) (onTc (τ := Cert.Dw.τ) (Cert.Dw.main (F := Bits))) ⟨m, fun _ => 0, g⟩ (fun r => (∀ c : Dev Cert.Dw.nD,
      r.2.mem ((c.tc : Thread Cert.Dw.nD Cert.Dw.τ).loc Cert.Dw.main_arg0) = m ((c.tc : Thread Cert.Dw.nD Cert.Dw.τ).loc Cert.Dw.main_arg0)
      ∧ r.2.mem ((c.tc : Thread Cert.Dw.nD Cert.Dw.τ).loc Cert.Dw.main_arg1) = m ((c.tc : Thread Cert.Dw.nD Cert.Dw.τ).loc Cert.Dw.main_arg1)
      ∧ r.2.mem ((c.tc : Thread Cert.Dw.nD Cert.Dw.τ).loc Cert.Dw.main_arg2) = m ((c.tc : Thread Cert.Dw.nD Cert.Dw.τ).loc Cert.Dw.main_arg2)
      ∧ r.2.mem ((c.tc : Thread Cert.Dw.nD Cert.Dw.τ).loc Cert.Dw.main_arg3) = m ((c.tc : Thread Cert.Dw.nD Cert.Dw.τ).loc Cert.Dw.main_arg3)
      ∧ r.2.mem ((c.tc : Thread Cert.Dw.nD Cert.Dw.τ).loc Cert.Dw.main_arg4) = m ((c.tc : Thread Cert.Dw.nD Cert.Dw.τ).loc Cert.Dw.main_arg4)
      ∧ r.2.mem ((c.tc : Thread Cert.Dw.nD Cert.Dw.τ).loc Cert.Dw.main_arg5) = m ((c.tc : Thread Cert.Dw.nD Cert.Dw.τ).loc Cert.Dw.main_arg5)
      ∧ r.2.mem ((c.tc : Thread Cert.Dw.nD Cert.Dw.τ).loc Cert.Dw.main_arg6) = m ((c.tc : Thread Cert.Dw.nD Cert.Dw.τ).loc Cert.Dw.main_arg6))
      ∧ r.2.sem = fun _ => 0)

def quiescent_DwIdeal [hDwIdeal : Cert.DwIdeal.Facts] : Prop :=
  ∀ (m : (ℓ : Loc Cert.DwIdeal.nD Cert.DwIdeal.τ Cert.DwIdeal.sig) → Buf (Elt Ideal) ℓ) (g : Dev Cert.DwIdeal.nD → PrngReg), Pre_DwIdeal m →
    θ_run (Cert.DwIdeal.defs (F := Ideal)) (onTc (τ := Cert.DwIdeal.τ) (Cert.DwIdeal.main (F := Ideal))) ⟨m, fun _ => 0, g⟩ (fun r => (∀ c : Dev Cert.DwIdeal.nD,
      r.2.mem ((c.tc : Thread Cert.DwIdeal.nD Cert.DwIdeal.τ).loc Cert.DwIdeal.main_arg0) = m ((c.tc : Thread Cert.DwIdeal.nD Cert.DwIdeal.τ).loc Cert.DwIdeal.main_arg0)
      ∧ r.2.mem ((c.tc : Thread Cert.DwIdeal.nD Cert.DwIdeal.τ).loc Cert.DwIdeal.main_arg1) = m ((c.tc : Thread Cert.DwIdeal.nD Cert.DwIdeal.τ).loc Cert.DwIdeal.main_arg1)
      ∧ r.2.mem ((c.tc : Thread Cert.DwIdeal.nD Cert.DwIdeal.τ).loc Cert.DwIdeal.main_arg2) = m ((c.tc : Thread Cert.DwIdeal.nD Cert.DwIdeal.τ).loc Cert.DwIdeal.main_arg2)
      ∧ r.2.mem ((c.tc : Thread Cert.DwIdeal.nD Cert.DwIdeal.τ).loc Cert.DwIdeal.main_arg3) = m ((c.tc : Thread Cert.DwIdeal.nD Cert.DwIdeal.τ).loc Cert.DwIdeal.main_arg3)
      ∧ r.2.mem ((c.tc : Thread Cert.DwIdeal.nD Cert.DwIdeal.τ).loc Cert.DwIdeal.main_arg4) = m ((c.tc : Thread Cert.DwIdeal.nD Cert.DwIdeal.τ).loc Cert.DwIdeal.main_arg4)
      ∧ r.2.mem ((c.tc : Thread Cert.DwIdeal.nD Cert.DwIdeal.τ).loc Cert.DwIdeal.main_arg5) = m ((c.tc : Thread Cert.DwIdeal.nD Cert.DwIdeal.τ).loc Cert.DwIdeal.main_arg5)
      ∧ r.2.mem ((c.tc : Thread Cert.DwIdeal.nD Cert.DwIdeal.τ).loc Cert.DwIdeal.main_arg6) = m ((c.tc : Thread Cert.DwIdeal.nD Cert.DwIdeal.τ).loc Cert.DwIdeal.main_arg6))
      ∧ r.2.sem = fun _ => 0)

def quiescent_DwRefIdeal [hDwRefIdeal : Cert.DwRefIdeal.Facts] : Prop :=
  ∀ (m : (ℓ : Loc Cert.DwRefIdeal.nD Cert.DwRefIdeal.τ Cert.DwRefIdeal.sig) → Buf (Elt Ideal) ℓ) (g : Dev Cert.DwRefIdeal.nD → PrngReg), Pre_DwRefIdeal m →
    θ_run (Cert.DwRefIdeal.defs (F := Ideal)) (onTc (τ := Cert.DwRefIdeal.τ) (Cert.DwRefIdeal.main (F := Ideal))) ⟨m, fun _ => 0, g⟩ (fun r => (∀ c : Dev Cert.DwRefIdeal.nD,
      r.2.mem ((c.tc : Thread Cert.DwRefIdeal.nD Cert.DwRefIdeal.τ).loc Cert.DwRefIdeal.main_arg0) = m ((c.tc : Thread Cert.DwRefIdeal.nD Cert.DwRefIdeal.τ).loc Cert.DwRefIdeal.main_arg0)
      ∧ r.2.mem ((c.tc : Thread Cert.DwRefIdeal.nD Cert.DwRefIdeal.τ).loc Cert.DwRefIdeal.main_arg1) = m ((c.tc : Thread Cert.DwRefIdeal.nD Cert.DwRefIdeal.τ).loc Cert.DwRefIdeal.main_arg1)
      ∧ r.2.mem ((c.tc : Thread Cert.DwRefIdeal.nD Cert.DwRefIdeal.τ).loc Cert.DwRefIdeal.main_arg2) = m ((c.tc : Thread Cert.DwRefIdeal.nD Cert.DwRefIdeal.τ).loc Cert.DwRefIdeal.main_arg2)
      ∧ r.2.mem ((c.tc : Thread Cert.DwRefIdeal.nD Cert.DwRefIdeal.τ).loc Cert.DwRefIdeal.main_arg3) = m ((c.tc : Thread Cert.DwRefIdeal.nD Cert.DwRefIdeal.τ).loc Cert.DwRefIdeal.main_arg3)
      ∧ r.2.mem ((c.tc : Thread Cert.DwRefIdeal.nD Cert.DwRefIdeal.τ).loc Cert.DwRefIdeal.main_arg4) = m ((c.tc : Thread Cert.DwRefIdeal.nD Cert.DwRefIdeal.τ).loc Cert.DwRefIdeal.main_arg4)
      ∧ r.2.mem ((c.tc : Thread Cert.DwRefIdeal.nD Cert.DwRefIdeal.τ).loc Cert.DwRefIdeal.main_arg5) = m ((c.tc : Thread Cert.DwRefIdeal.nD Cert.DwRefIdeal.τ).loc Cert.DwRefIdeal.main_arg5)
      ∧ r.2.mem ((c.tc : Thread Cert.DwRefIdeal.nD Cert.DwRefIdeal.τ).loc Cert.DwRefIdeal.main_arg6) = m ((c.tc : Thread Cert.DwRefIdeal.nD Cert.DwRefIdeal.τ).loc Cert.DwRefIdeal.main_arg6))
      ∧ r.2.sem = fun _ => 0)

def preserves_Prep_PrepIdeal : Prop :=
  True

def algebraic_PrepIdeal_PrepRefIdeal [hPrepIdeal : Cert.PrepIdeal.Facts] [hPrepRefIdeal : Cert.PrepRefIdeal.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepRefIdeal.nD Cert.PrepRefIdeal.τ Cert.PrepRefIdeal.sig) → Buf (Elt Ideal) ℓ) (g' : Dev Cert.PrepRefIdeal.nD → PrngReg), Pre_PrepIdeal m →
    (∀ c : Dev Cert.PrepIdeal.nD,
      m' ((c.tc : Thread Cert.PrepRefIdeal.nD Cert.PrepRefIdeal.τ).loc Cert.PrepRefIdeal.main_arg0) = m ((c.tc : Thread Cert.PrepIdeal.nD Cert.PrepIdeal.τ).loc Cert.PrepIdeal.main_arg0)
      ∧ m' ((c.tc : Thread Cert.PrepRefIdeal.nD Cert.PrepRefIdeal.τ).loc Cert.PrepRefIdeal.main_arg1) = m ((c.tc : Thread Cert.PrepIdeal.nD Cert.PrepIdeal.τ).loc Cert.PrepIdeal.main_arg1)
      ∧ m' ((c.tc : Thread Cert.PrepRefIdeal.nD Cert.PrepRefIdeal.τ).loc Cert.PrepRefIdeal.main_arg2) = m ((c.tc : Thread Cert.PrepIdeal.nD Cert.PrepIdeal.τ).loc Cert.PrepIdeal.main_arg2)
      ∧ m' ((c.tc : Thread Cert.PrepRefIdeal.nD Cert.PrepRefIdeal.τ).loc Cert.PrepRefIdeal.main_arg3) = m ((c.tc : Thread Cert.PrepIdeal.nD Cert.PrepIdeal.τ).loc Cert.PrepIdeal.main_arg3)
      ∧ m' ((c.tc : Thread Cert.PrepRefIdeal.nD Cert.PrepRefIdeal.τ).loc Cert.PrepRefIdeal.main_arg4) = m ((c.tc : Thread Cert.PrepIdeal.nD Cert.PrepIdeal.τ).loc Cert.PrepIdeal.main_arg4)
      ∧ m' ((c.tc : Thread Cert.PrepRefIdeal.nD Cert.PrepRefIdeal.τ).loc Cert.PrepRefIdeal.main_arg5) = m ((c.tc : Thread Cert.PrepIdeal.nD Cert.PrepIdeal.τ).loc Cert.PrepIdeal.main_arg5)) →
    ∃ (v0 : (c : Dev Cert.PrepIdeal.nD) → Buf (Elt Ideal) ((c.tc : Thread Cert.PrepIdeal.nD Cert.PrepIdeal.τ).loc Cert.PrepIdeal.main_v47_0)) (v1 : (c : Dev Cert.PrepIdeal.nD) → Buf (Elt Ideal) ((c.tc : Thread Cert.PrepIdeal.nD Cert.PrepIdeal.τ).loc Cert.PrepIdeal.main_v47_1)) (v2 : (c : Dev Cert.PrepIdeal.nD) → Buf (Elt Ideal) ((c.tc : Thread Cert.PrepIdeal.nD Cert.PrepIdeal.τ).loc Cert.PrepIdeal.main_v47_2)) (v3 : (c : Dev Cert.PrepIdeal.nD) → Buf (Elt Ideal) ((c.tc : Thread Cert.PrepIdeal.nD Cert.PrepIdeal.τ).loc Cert.PrepIdeal.main_v47_3)) (v4 : (c : Dev Cert.PrepIdeal.nD) → Buf (Elt Ideal) ((c.tc : Thread Cert.PrepIdeal.nD Cert.PrepIdeal.τ).loc Cert.PrepIdeal.main_v47_4)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v47_0) = v0 c
          ∧ r.2.mem ((c.tc : Thread Cert.PrepIdeal.nD Cert.PrepIdeal.τ).loc Cert.PrepIdeal.main_v47_1) = v1 c
          ∧ r.2.mem ((c.tc : Thread Cert.PrepIdeal.nD Cert.PrepIdeal.τ).loc Cert.PrepIdeal.main_v47_2) = v2 c
          ∧ r.2.mem ((c.tc : Thread Cert.PrepIdeal.nD Cert.PrepIdeal.τ).loc Cert.PrepIdeal.main_v47_3) = v3 c
          ∧ r.2.mem ((c.tc : Thread Cert.PrepIdeal.nD Cert.PrepIdeal.τ).loc Cert.PrepIdeal.main_v47_4) = v4 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
          ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
          ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
          ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5))
      ∧ θ_run (Cert.PrepRefIdeal.defs (F := Ideal)) (onTc (τ := Cert.PrepRefIdeal.τ) (Cert.PrepRefIdeal.main (F := Ideal))) ⟨m', fun _ => 0, g'⟩ (fun r => ∀ c : Dev Cert.PrepRefIdeal.nD,
          r.2.mem ((c.tc : Thread Cert.PrepRefIdeal.nD Cert.PrepRefIdeal.τ).loc Cert.PrepRefIdeal.main_v16_0) = v0 c
          ∧ r.2.mem ((c.tc : Thread Cert.PrepRefIdeal.nD Cert.PrepRefIdeal.τ).loc Cert.PrepRefIdeal.main_v16_1) = v1 c
          ∧ r.2.mem ((c.tc : Thread Cert.PrepRefIdeal.nD Cert.PrepRefIdeal.τ).loc Cert.PrepRefIdeal.main_v16_2) = v2 c
          ∧ r.2.mem ((c.tc : Thread Cert.PrepRefIdeal.nD Cert.PrepRefIdeal.τ).loc Cert.PrepRefIdeal.main_v16_3) = v3 c
          ∧ r.2.mem ((c.tc : Thread Cert.PrepRefIdeal.nD Cert.PrepRefIdeal.τ).loc Cert.PrepRefIdeal.main_v16_4) = v4 c
          ∧ r.2.mem ((c.tc : Thread Cert.PrepRefIdeal.nD Cert.PrepRefIdeal.τ).loc Cert.PrepRefIdeal.main_arg0) = m' ((c.tc : Thread Cert.PrepRefIdeal.nD Cert.PrepRefIdeal.τ).loc Cert.PrepRefIdeal.main_arg0)
          ∧ r.2.mem ((c.tc : Thread Cert.PrepRefIdeal.nD Cert.PrepRefIdeal.τ).loc Cert.PrepRefIdeal.main_arg1) = m' ((c.tc : Thread Cert.PrepRefIdeal.nD Cert.PrepRefIdeal.τ).loc Cert.PrepRefIdeal.main_arg1)
          ∧ r.2.mem ((c.tc : Thread Cert.PrepRefIdeal.nD Cert.PrepRefIdeal.τ).loc Cert.PrepRefIdeal.main_arg2) = m' ((c.tc : Thread Cert.PrepRefIdeal.nD Cert.PrepRefIdeal.τ).loc Cert.PrepRefIdeal.main_arg2)
          ∧ r.2.mem ((c.tc : Thread Cert.PrepRefIdeal.nD Cert.PrepRefIdeal.τ).loc Cert.PrepRefIdeal.main_arg3) = m' ((c.tc : Thread Cert.PrepRefIdeal.nD Cert.PrepRefIdeal.τ).loc Cert.PrepRefIdeal.main_arg3)
          ∧ r.2.mem ((c.tc : Thread Cert.PrepRefIdeal.nD Cert.PrepRefIdeal.τ).loc Cert.PrepRefIdeal.main_arg4) = m' ((c.tc : Thread Cert.PrepRefIdeal.nD Cert.PrepRefIdeal.τ).loc Cert.PrepRefIdeal.main_arg4)
          ∧ r.2.mem ((c.tc : Thread Cert.PrepRefIdeal.nD Cert.PrepRefIdeal.τ).loc Cert.PrepRefIdeal.main_arg5) = m' ((c.tc : Thread Cert.PrepRefIdeal.nD Cert.PrepRefIdeal.τ).loc Cert.PrepRefIdeal.main_arg5))

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)
      ∧ m' ((c.tc : Thread Cert.MlpRefIdeal.nD Cert.MlpRefIdeal.τ).loc Cert.MlpRefIdeal.main_arg5) = m ((c.tc : Thread Cert.MlpIdeal.nD Cert.MlpIdeal.τ).loc Cert.MlpIdeal.main_arg5)
      ∧ m' ((c.tc : Thread Cert.MlpRefIdeal.nD Cert.MlpRefIdeal.τ).loc Cert.MlpRefIdeal.main_arg6) = m ((c.tc : Thread Cert.MlpIdeal.nD Cert.MlpIdeal.τ).loc Cert.MlpIdeal.main_arg6)) →
    ∃ (v0 : (c : Dev Cert.MlpIdeal.nD) → Buf (Elt Ideal) ((c.tc : Thread Cert.MlpIdeal.nD Cert.MlpIdeal.τ).loc Cert.MlpIdeal.main_v14_0)) (v1 : (c : Dev Cert.MlpIdeal.nD) → Buf (Elt Ideal) ((c.tc : Thread Cert.MlpIdeal.nD Cert.MlpIdeal.τ).loc Cert.MlpIdeal.main_v14_1)) (v2 : (c : Dev Cert.MlpIdeal.nD) → Buf (Elt Ideal) ((c.tc : Thread Cert.MlpIdeal.nD Cert.MlpIdeal.τ).loc Cert.MlpIdeal.main_v14_2)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v14_0) = v0 c
          ∧ r.2.mem ((c.tc : Thread Cert.MlpIdeal.nD Cert.MlpIdeal.τ).loc Cert.MlpIdeal.main_v14_1) = v1 c
          ∧ r.2.mem ((c.tc : Thread Cert.MlpIdeal.nD Cert.MlpIdeal.τ).loc Cert.MlpIdeal.main_v14_2) = v2 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
          ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
          ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v4_0) = v0 c
          ∧ r.2.mem ((c.tc : Thread Cert.MlpRefIdeal.nD Cert.MlpRefIdeal.τ).loc Cert.MlpRefIdeal.main_v4_1) = v1 c
          ∧ r.2.mem ((c.tc : Thread Cert.MlpRefIdeal.nD Cert.MlpRefIdeal.τ).loc Cert.MlpRefIdeal.main_v4_2) = v2 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4)
          ∧ r.2.mem ((c.tc : Thread Cert.MlpRefIdeal.nD Cert.MlpRefIdeal.τ).loc Cert.MlpRefIdeal.main_arg5) = m' ((c.tc : Thread Cert.MlpRefIdeal.nD Cert.MlpRefIdeal.τ).loc Cert.MlpRefIdeal.main_arg5)
          ∧ r.2.mem ((c.tc : Thread Cert.MlpRefIdeal.nD Cert.MlpRefIdeal.τ).loc Cert.MlpRefIdeal.main_arg6) = m' ((c.tc : Thread Cert.MlpRefIdeal.nD Cert.MlpRefIdeal.τ).loc Cert.MlpRefIdeal.main_arg6))

def preserves_Dx_DxIdeal : Prop :=
  True

def algebraic_DxIdeal_DxRefIdeal [hDxIdeal : Cert.DxIdeal.Facts] [hDxRefIdeal : Cert.DxRefIdeal.Facts] : Prop :=
  ∀ (m : (ℓ : Loc Cert.DxIdeal.nD Cert.DxIdeal.τ Cert.DxIdeal.sig) → Buf (Elt Ideal) ℓ) (g : Dev Cert.DxIdeal.nD → PrngReg)
    (m' : (ℓ : Loc Cert.DxRefIdeal.nD Cert.DxRefIdeal.τ Cert.DxRefIdeal.sig) → Buf (Elt Ideal) ℓ) (g' : Dev Cert.DxRefIdeal.nD → PrngReg), Pre_DxIdeal m →
    (∀ c : Dev Cert.DxIdeal.nD,
      m' ((c.tc : Thread Cert.DxRefIdeal.nD Cert.DxRefIdeal.τ).loc Cert.DxRefIdeal.main_arg0) = m ((c.tc : Thread Cert.DxIdeal.nD Cert.DxIdeal.τ).loc Cert.DxIdeal.main_arg0)
      ∧ m' ((c.tc : Thread Cert.DxRefIdeal.nD Cert.DxRefIdeal.τ).loc Cert.DxRefIdeal.main_arg1) = m ((c.tc : Thread Cert.DxIdeal.nD Cert.DxIdeal.τ).loc Cert.DxIdeal.main_arg1)
      ∧ m' ((c.tc : Thread Cert.DxRefIdeal.nD Cert.DxRefIdeal.τ).loc Cert.DxRefIdeal.main_arg2) = m ((c.tc : Thread Cert.DxIdeal.nD Cert.DxIdeal.τ).loc Cert.DxIdeal.main_arg2)
      ∧ m' ((c.tc : Thread Cert.DxRefIdeal.nD Cert.DxRefIdeal.τ).loc Cert.DxRefIdeal.main_arg3) = m ((c.tc : Thread Cert.DxIdeal.nD Cert.DxIdeal.τ).loc Cert.DxIdeal.main_arg3)) →
    ∃ (v0 : (c : Dev Cert.DxIdeal.nD) → Buf (Elt Ideal) ((c.tc : Thread Cert.DxIdeal.nD Cert.DxIdeal.τ).loc Cert.DxIdeal.main_v0)),
      θ_run (Cert.DxIdeal.defs (F := Ideal)) (onTc (τ := Cert.DxIdeal.τ) (Cert.DxIdeal.main (F := Ideal))) ⟨m, fun _ => 0, g⟩ (fun r => ∀ c : Dev Cert.DxIdeal.nD,
          r.2.mem ((c.tc : Thread Cert.DxIdeal.nD Cert.DxIdeal.τ).loc Cert.DxIdeal.main_v0) = v0 c
          ∧ r.2.mem ((c.tc : Thread Cert.DxIdeal.nD Cert.DxIdeal.τ).loc Cert.DxIdeal.main_arg0) = m ((c.tc : Thread Cert.DxIdeal.nD Cert.DxIdeal.τ).loc Cert.DxIdeal.main_arg0)
          ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
          ∧ r.2.mem ((c.tc : Thread Cert.DxIdeal.nD Cert.DxIdeal.τ).loc Cert.DxIdeal.main_arg2) = m ((c.tc : Thread Cert.DxIdeal.nD Cert.DxIdeal.τ).loc Cert.DxIdeal.main_arg2)
          ∧ r.2.mem ((c.tc : Thread Cert.DxIdeal.nD Cert.DxIdeal.τ).loc Cert.DxIdeal.main_arg3) = m ((c.tc : Thread Cert.DxIdeal.nD Cert.DxIdeal.τ).loc Cert.DxIdeal.main_arg3))
      ∧ θ_run (Cert.DxRefIdeal.defs (F := Ideal)) (onTc (τ := Cert.DxRefIdeal.τ) (Cert.DxRefIdeal.main (F := Ideal))) ⟨m', fun _ => 0, g'⟩ (fun r => ∀ c : Dev Cert.DxRefIdeal.nD,
          r.2.mem ((c.tc : Thread Cert.DxRefIdeal.nD Cert.DxRefIdeal.τ).loc Cert.DxRefIdeal.main_v3) = v0 c
          ∧ r.2.mem ((c.tc : Thread Cert.DxRefIdeal.nD Cert.DxRefIdeal.τ).loc Cert.DxRefIdeal.main_arg0) = m' ((c.tc : Thread Cert.DxRefIdeal.nD Cert.DxRefIdeal.τ).loc Cert.DxRefIdeal.main_arg0)
          ∧ r.2.mem ((c.tc : Thread Cert.DxRefIdeal.nD Cert.DxRefIdeal.τ).loc Cert.DxRefIdeal.main_arg1) = m' ((c.tc : Thread Cert.DxRefIdeal.nD Cert.DxRefIdeal.τ).loc Cert.DxRefIdeal.main_arg1)
          ∧ r.2.mem ((c.tc : Thread Cert.DxRefIdeal.nD Cert.DxRefIdeal.τ).loc Cert.DxRefIdeal.main_arg2) = m' ((c.tc : Thread Cert.DxRefIdeal.nD Cert.DxRefIdeal.τ).loc Cert.DxRefIdeal.main_arg2)
          ∧ r.2.mem ((c.tc : Thread Cert.DxRefIdeal.nD Cert.DxRefIdeal.τ).loc Cert.DxRefIdeal.main_arg3) = m' ((c.tc : Thread Cert.DxRefIdeal.nD Cert.DxRefIdeal.τ).loc Cert.DxRefIdeal.main_arg3))

def preserves_Dw_DwIdeal : Prop :=
  True

def algebraic_DwIdeal_DwRefIdeal [hDwIdeal : Cert.DwIdeal.Facts] [hDwRefIdeal : Cert.DwRefIdeal.Facts] : Prop :=
  ∀ (m : (ℓ : Loc Cert.DwIdeal.nD Cert.DwIdeal.τ Cert.DwIdeal.sig) → Buf (Elt Ideal) ℓ) (g : Dev Cert.DwIdeal.nD → PrngReg)
    (m' : (ℓ : Loc Cert.DwRefIdeal.nD Cert.DwRefIdeal.τ Cert.DwRefIdeal.sig) → Buf (Elt Ideal) ℓ) (g' : Dev Cert.DwRefIdeal.nD → PrngReg), Pre_DwIdeal m →
    (∀ c : Dev Cert.DwIdeal.nD,
      m' ((c.tc : Thread Cert.DwRefIdeal.nD Cert.DwRefIdeal.τ).loc Cert.DwRefIdeal.main_arg0) = m ((c.tc : Thread Cert.DwIdeal.nD Cert.DwIdeal.τ).loc Cert.DwIdeal.main_arg0)
      ∧ m' ((c.tc : Thread Cert.DwRefIdeal.nD Cert.DwRefIdeal.τ).loc Cert.DwRefIdeal.main_arg1) = m ((c.tc : Thread Cert.DwIdeal.nD Cert.DwIdeal.τ).loc Cert.DwIdeal.main_arg1)
      ∧ m' ((c.tc : Thread Cert.DwRefIdeal.nD Cert.DwRefIdeal.τ).loc Cert.DwRefIdeal.main_arg2) = m ((c.tc : Thread Cert.DwIdeal.nD Cert.DwIdeal.τ).loc Cert.DwIdeal.main_arg2)
      ∧ m' ((c.tc : Thread Cert.DwRefIdeal.nD Cert.DwRefIdeal.τ).loc Cert.DwRefIdeal.main_arg3) = m ((c.tc : Thread Cert.DwIdeal.nD Cert.DwIdeal.τ).loc Cert.DwIdeal.main_arg3)
      ∧ m' ((c.tc : Thread Cert.DwRefIdeal.nD Cert.DwRefIdeal.τ).loc Cert.DwRefIdeal.main_arg4) = m ((c.tc : Thread Cert.DwIdeal.nD Cert.DwIdeal.τ).loc Cert.DwIdeal.main_arg4)
      ∧ m' ((c.tc : Thread Cert.DwRefIdeal.nD Cert.DwRefIdeal.τ).loc Cert.DwRefIdeal.main_arg5) = m ((c.tc : Thread Cert.DwIdeal.nD Cert.DwIdeal.τ).loc Cert.DwIdeal.main_arg5)
      ∧ m' ((c.tc : Thread Cert.DwRefIdeal.nD Cert.DwRefIdeal.τ).loc Cert.DwRefIdeal.main_arg6) = m ((c.tc : Thread Cert.DwIdeal.nD Cert.DwIdeal.τ).loc Cert.DwIdeal.main_arg6)) →
    ∃ (v0 : (c : Dev Cert.DwIdeal.nD) → Buf (Elt Ideal) ((c.tc : Thread Cert.DwIdeal.nD Cert.DwIdeal.τ).loc Cert.DwIdeal.main_v16_0)) (v1 : (c : Dev Cert.DwIdeal.nD) → Buf (Elt Ideal) ((c.tc : Thread Cert.DwIdeal.nD Cert.DwIdeal.τ).loc Cert.DwIdeal.main_v16_1)) (v2 : (c : Dev Cert.DwIdeal.nD) → Buf (Elt Ideal) ((c.tc : Thread Cert.DwIdeal.nD Cert.DwIdeal.τ).loc Cert.DwIdeal.main_v16_2)),
      θ_run (Cert.DwIdeal.defs (F := Ideal)) (onTc (τ := Cert.DwIdeal.τ) (Cert.DwIdeal.main (F := Ideal))) ⟨m, fun _ => 0, g⟩ (fun r => ∀ c : Dev Cert.DwIdeal.nD,
          r.2.mem ((c.tc : Thread Cert.DwIdeal.nD Cert.DwIdeal.τ).loc Cert.DwIdeal.main_v16_0) = v0 c
          ∧ r.2.mem ((c.tc : Thread Cert.DwIdeal.nD Cert.DwIdeal.τ).loc Cert.DwIdeal.main_v16_1) = v1 c
          ∧ r.2.mem ((c.tc : Thread Cert.DwIdeal.nD Cert.DwIdeal.τ).loc Cert.DwIdeal.main_v16_2) = v2 c
          ∧ r.2.mem ((c.tc : Thread Cert.DwIdeal.nD Cert.DwIdeal.τ).loc Cert.DwIdeal.main_arg0) = m ((c.tc : Thread Cert.DwIdeal.nD Cert.DwIdeal.τ).loc Cert.DwIdeal.main_arg0)
          ∧ r.2.mem ((c.tc : Thread Cert.DwIdeal.nD Cert.DwIdeal.τ).loc Cert.DwIdeal.main_arg1) = m ((c.tc : Thread Cert.DwIdeal.nD Cert.DwIdeal.τ).loc Cert.DwIdeal.main_arg1)
          ∧ r.2.mem ((c.tc : Thread Cert.DwIdeal.nD Cert.DwIdeal.τ).loc Cert.DwIdeal.main_arg2) = m ((c.tc : Thread Cert.DwIdeal.nD Cert.DwIdeal.τ).loc Cert.DwIdeal.main_arg2)
          ∧ r.2.mem ((c.tc : Thread Cert.DwIdeal.nD Cert.DwIdeal.τ).loc Cert.DwIdeal.main_arg3) = m ((c.tc : Thread Cert.DwIdeal.nD Cert.DwIdeal.τ).loc Cert.DwIdeal.main_arg3)
          ∧ r.2.mem ((c.tc : Thread Cert.DwIdeal.nD Cert.DwIdeal.τ).loc Cert.DwIdeal.main_arg4) = m ((c.tc : Thread Cert.DwIdeal.nD Cert.DwIdeal.τ).loc Cert.DwIdeal.main_arg4)
          ∧ r.2.mem ((c.tc : Thread Cert.DwIdeal.nD Cert.DwIdeal.τ).loc Cert.DwIdeal.main_arg5) = m ((c.tc : Thread Cert.DwIdeal.nD Cert.DwIdeal.τ).loc Cert.DwIdeal.main_arg5)
          ∧ r.2.mem ((c.tc : Thread Cert.DwIdeal.nD Cert.DwIdeal.τ).loc Cert.DwIdeal.main_arg6) = m ((c.tc : Thread Cert.DwIdeal.nD Cert.DwIdeal.τ).loc Cert.DwIdeal.main_arg6))
      ∧ θ_run (Cert.DwRefIdeal.defs (F := Ideal)) (onTc (τ := Cert.DwRefIdeal.τ) (Cert.DwRefIdeal.main (F := Ideal))) ⟨m', fun _ => 0, g'⟩ (fun r => ∀ c : Dev Cert.DwRefIdeal.nD,
          r.2.mem ((c.tc : Thread Cert.DwRefIdeal.nD Cert.DwRefIdeal.τ).loc Cert.DwRefIdeal.main_v4_0) = v0 c
          ∧ r.2.mem ((c.tc : Thread Cert.DwRefIdeal.nD Cert.DwRefIdeal.τ).loc Cert.DwRefIdeal.main_v4_1) = v1 c
          ∧ r.2.mem ((c.tc : Thread Cert.DwRefIdeal.nD Cert.DwRefIdeal.τ).loc Cert.DwRefIdeal.main_v4_2) = v2 c
          ∧ r.2.mem ((c.tc : Thread Cert.DwRefIdeal.nD Cert.DwRefIdeal.τ).loc Cert.DwRefIdeal.main_arg0) = m' ((c.tc : Thread Cert.DwRefIdeal.nD Cert.DwRefIdeal.τ).loc Cert.DwRefIdeal.main_arg0)
          ∧ r.2.mem ((c.tc : Thread Cert.DwRefIdeal.nD Cert.DwRefIdeal.τ).loc Cert.DwRefIdeal.main_arg1) = m' ((c.tc : Thread Cert.DwRefIdeal.nD Cert.DwRefIdeal.τ).loc Cert.DwRefIdeal.main_arg1)
          ∧ r.2.mem ((c.tc : Thread Cert.DwRefIdeal.nD Cert.DwRefIdeal.τ).loc Cert.DwRefIdeal.main_arg2) = m' ((c.tc : Thread Cert.DwRefIdeal.nD Cert.DwRefIdeal.τ).loc Cert.DwRefIdeal.main_arg2)
          ∧ r.2.mem ((c.tc : Thread Cert.DwRefIdeal.nD Cert.DwRefIdeal.τ).loc Cert.DwRefIdeal.main_arg3) = m' ((c.tc : Thread Cert.DwRefIdeal.nD Cert.DwRefIdeal.τ).loc Cert.DwRefIdeal.main_arg3)
          ∧ r.2.mem ((c.tc : Thread Cert.DwRefIdeal.nD Cert.DwRefIdeal.τ).loc Cert.DwRefIdeal.main_arg4) = m' ((c.tc : Thread Cert.DwRefIdeal.nD Cert.DwRefIdeal.τ).loc Cert.DwRefIdeal.main_arg4)
          ∧ r.2.mem ((c.tc : Thread Cert.DwRefIdeal.nD Cert.DwRefIdeal.τ).loc Cert.DwRefIdeal.main_arg5) = m' ((c.tc : Thread Cert.DwRefIdeal.nD Cert.DwRefIdeal.τ).loc Cert.DwRefIdeal.main_arg5)
          ∧ r.2.mem ((c.tc : Thread Cert.DwRefIdeal.nD Cert.DwRefIdeal.τ).loc Cert.DwRefIdeal.main_arg6) = m' ((c.tc : Thread Cert.DwRefIdeal.nD Cert.DwRefIdeal.τ).loc Cert.DwRefIdeal.main_arg6))

def Claim : Prop :=
  ∃ (hPrep : Cert.Prep.Facts) (hPrepIdeal : Cert.PrepIdeal.Facts) (hPrepRefIdeal : Cert.PrepRefIdeal.Facts) (hMlp : Cert.Mlp.Facts) (hMlpIdeal : Cert.MlpIdeal.Facts) (hMlpRefIdeal : Cert.MlpRefIdeal.Facts) (hDx : Cert.Dx.Facts) (hDxIdeal : Cert.DxIdeal.Facts) (hDxRefIdeal : Cert.DxRefIdeal.Facts) (hDw : Cert.Dw.Facts) (hDwIdeal : Cert.DwIdeal.Facts) (hDwRefIdeal : Cert.DwRefIdeal.Facts),
    quiescent_Prep (hPrep := hPrep)
    ∧ quiescent_PrepIdeal (hPrepIdeal := hPrepIdeal)
    ∧ quiescent_PrepRefIdeal (hPrepRefIdeal := hPrepRefIdeal)
    ∧ quiescent_Mlp (hMlp := hMlp)
    ∧ quiescent_MlpIdeal (hMlpIdeal := hMlpIdeal)
    ∧ quiescent_MlpRefIdeal (hMlpRefIdeal := hMlpRefIdeal)
    ∧ quiescent_Dx (hDx := hDx)
    ∧ quiescent_DxIdeal (hDxIdeal := hDxIdeal)
    ∧ quiescent_DxRefIdeal (hDxRefIdeal := hDxRefIdeal)
    ∧ quiescent_Dw (hDw := hDw)
    ∧ quiescent_DwIdeal (hDwIdeal := hDwIdeal)
    ∧ quiescent_DwRefIdeal (hDwRefIdeal := hDwRefIdeal)
    ∧ preserves_Prep_PrepIdeal
    ∧ algebraic_PrepIdeal_PrepRefIdeal (hPrepIdeal := hPrepIdeal) (hPrepRefIdeal := hPrepRefIdeal)
    ∧ preserves_Mlp_MlpIdeal
    ∧ algebraic_MlpIdeal_MlpRefIdeal (hMlpIdeal := hMlpIdeal) (hMlpRefIdeal := hMlpRefIdeal)
    ∧ preserves_Dx_DxIdeal
    ∧ algebraic_DxIdeal_DxRefIdeal (hDxIdeal := hDxIdeal) (hDxRefIdeal := hDxRefIdeal)
    ∧ preserves_Dw_DwIdeal
    ∧ algebraic_DwIdeal_DwRefIdeal (hDwIdeal := hDwIdeal) (hDwRefIdeal := hDwRefIdeal)
-- ==== Prep.lean ====
abbrev S1536x2x6144 : Shape := ⟨3, ![1536, 2, 6144]⟩
abbrev S48x2x6144 : Shape := ⟨3, ![48, 2, 6144]⟩
abbrev S1536x2x192 : Shape := ⟨3, ![1536, 2, 192]⟩
abbrev S6144x1536 : Shape := ⟨2, ![6144, 1536]⟩
abbrev S6144x48 : Shape := ⟨2, ![6144, 48]⟩
abbrev S1536x1x6144 : Shape := ⟨3, ![1536, 1, 6144]⟩
abbrev S1536x6144 : Shape := ⟨2, ![1536, 6144]⟩
abbrev S48x1x6144 : Shape := ⟨3, ![48, 1, 6144]⟩
abbrev S48x6144 : Shape := ⟨2, ![48, 6144]⟩
abbrev S_ : Shape := ⟨0, ![]⟩
abbrev S6144x128 : Shape := ⟨2, ![6144, 128]⟩
abbrev S1536x1x192 : Shape := ⟨3, ![1536, 1, 192]⟩
abbrev S1536x192 : Shape := ⟨2, ![1536, 192]⟩
abbrev S1536x12x16 : Shape := ⟨3, ![1536, 12, 16]⟩
abbrev S12x1536x16 : Shape := ⟨3, ![12, 1536, 16]⟩
abbrev S12x1536x128 : Shape := ⟨3, ![12, 1536, 128]⟩
abbrev S1536x512 : Shape := ⟨2, ![1536, 512]⟩
abbrev S48x512 : Shape := ⟨2, ![48, 512]⟩
abbrev S512x1536 : Shape := ⟨2, ![512, 1536]⟩
abbrev S512x128 : Shape := ⟨2, ![512, 128]⟩
abbrev S1x1536x128 : Shape := ⟨3, ![1, 1536, 128]⟩
abbrev S1x512 : Shape := ⟨2, ![1, 512]⟩
abbrev S16x512 : Shape := ⟨2, ![16, 512]⟩
abbrev S32x512 : Shape := ⟨2, ![32, 512]⟩
abbrev S256x128 : Shape := ⟨2, ![256, 128]⟩
abbrev S256x128x1 : Shape := ⟨3, ![256, 128, 1]⟩
abbrev S1536x128 : Shape := ⟨2, ![1536, 128]⟩
abbrev S768x128 : Shape := ⟨2, ![768, 128]⟩
abbrev S768x128x1 : Shape := ⟨3, ![768, 128, 1]⟩

abbrev nBuf : Space → Nat
  | .hbm => 71
  | .vmem => 30
  | .smem => 0
  | _ => 0

abbrev bufTy : (tb : Table) → Fin (tcTables nBuf tb) → BufTy
  | .hbm, ⟨0, _⟩ => ⟨S1536x2x6144, .fp8e4m3⟩
  | .hbm, ⟨1, _⟩ => ⟨S48x2x6144, .i8⟩
  | .hbm, ⟨2, _⟩ => ⟨S1536x2x6144, .fp8e4m3⟩
  | .hbm, ⟨3, _⟩ => ⟨S1536x2x192, .i8⟩
  | .hbm, ⟨4, _⟩ => ⟨S6144x1536, .fp8e4m3⟩
  | .hbm, ⟨5, _⟩ => ⟨S6144x48, .i8⟩
  | .hbm, ⟨6, _⟩ => ⟨S1536x1x6144, .fp8e4m3⟩
  | .hbm, ⟨7, _⟩ => ⟨S1536x6144, .fp8e4m3⟩
  | .hbm, ⟨8, _⟩ => ⟨S1536x1x6144, .fp8e4m3⟩
  | .hbm, ⟨9, _⟩ => ⟨S1536x6144, .fp8e4m3⟩
  | .hbm, ⟨10, _⟩ => ⟨S48x1x6144, .i8⟩
  | .hbm, ⟨11, _⟩ => ⟨S48x6144, .i8⟩
  | .hbm, ⟨12, _⟩ => ⟨S48x6144, .i32⟩
  | .hbm, ⟨13, _⟩ => ⟨S_, .i32⟩
  | .hbm, ⟨14, _⟩ => ⟨S48x6144, .i32⟩
  | .hbm, ⟨15, _⟩ => ⟨S48x6144, .i32⟩
  | .hbm, ⟨16, _⟩ => ⟨S_, .i32⟩
  | .hbm, ⟨17, _⟩ => ⟨S48x6144, .i32⟩
  | .hbm, ⟨18, _⟩ => ⟨S48x6144, .i32⟩
  | .hbm, ⟨19, _⟩ => ⟨S48x6144, .i32⟩
  | .hbm, ⟨20, _⟩ => ⟨S48x1x6144, .i8⟩
  | .hbm, ⟨21, _⟩ => ⟨S48x6144, .i8⟩
  | .hbm, ⟨22, _⟩ => ⟨S48x6144, .i32⟩
  | .hbm, ⟨23, _⟩ => ⟨S_, .i32⟩
  | .hbm, ⟨24, _⟩ => ⟨S48x6144, .i32⟩
  | .hbm, ⟨25, _⟩ => ⟨S48x6144, .i32⟩
  | .hbm, ⟨26, _⟩ => ⟨S_, .i32⟩
  | .hbm, ⟨27, _⟩ => ⟨S48x6144, .i32⟩
  | .hbm, ⟨28, _⟩ => ⟨S48x6144, .i32⟩
  | .hbm, ⟨29, _⟩ => ⟨S48x6144, .i32⟩
  | .hbm, ⟨30, _⟩ => ⟨S1536x1x6144, .fp8e4m3⟩
  | .hbm, ⟨31, _⟩ => ⟨S1536x6144, .fp8e4m3⟩
  | .hbm, ⟨32, _⟩ => ⟨S1536x1x6144, .fp8e4m3⟩
  | .hbm, ⟨33, _⟩ => ⟨S1536x6144, .fp8e4m3⟩
  | .hbm, ⟨34, _⟩ => ⟨S6144x48, .i32⟩
  | .hbm, ⟨35, _⟩ => ⟨S_, .i32⟩
  | .hbm, ⟨36, _⟩ => ⟨S6144x48, .i32⟩
  | .hbm, ⟨37, _⟩ => ⟨S6144x48, .i32⟩
  | .hbm, ⟨38, _⟩ => ⟨S6144x48, .i16⟩
  | .hbm, ⟨39, _⟩ => ⟨S_, .i32⟩
  | .hbm, ⟨40, _⟩ => ⟨S_, .i16⟩
  | .hbm, ⟨41, _⟩ => ⟨S6144x128, .i16⟩
  | .hbm, ⟨42, _⟩ => ⟨S1536x1x192, .i8⟩
  | .hbm, ⟨43, _⟩ => ⟨S1536x192, .i8⟩
  | .hbm, ⟨44, _⟩ => ⟨S1536x192, .i32⟩
  | .hbm, ⟨45, _⟩ => ⟨S_, .i32⟩
  | .hbm, ⟨46, _⟩ => ⟨S1536x192, .i32⟩
  | .hbm, ⟨47, _⟩ => ⟨S1536x192, .i32⟩
  | .hbm, ⟨48, _⟩ => ⟨S1536x192, .i16⟩
  | .hbm, ⟨49, _⟩ => ⟨S1536x12x16, .i16⟩
  | .hbm, ⟨50, _⟩ => ⟨S12x1536x16, .i16⟩
  | .hbm, ⟨51, _⟩ => ⟨S_, .i32⟩
  | .hbm, ⟨52, _⟩ => ⟨S_, .i16⟩
  | .hbm, ⟨53, _⟩ => ⟨S12x1536x128, .i16⟩
  | .hbm, ⟨54, _⟩ => ⟨S1536x1x192, .i8⟩
  | .hbm, ⟨55, _⟩ => ⟨S1536x192, .i8⟩
  | .hbm, ⟨56, _⟩ => ⟨S1536x192, .i32⟩
  | .hbm, ⟨57, _⟩ => ⟨S_, .i32⟩
  | .hbm, ⟨58, _⟩ => ⟨S1536x192, .i32⟩
  | .hbm, ⟨59, _⟩ => ⟨S1536x192, .i32⟩
  | .hbm, ⟨60, _⟩ => ⟨S1536x192, .i16⟩
  | .hbm, ⟨61, _⟩ => ⟨S1536x12x16, .i16⟩
  | .hbm, ⟨62, _⟩ => ⟨S12x1536x16, .i16⟩
  | .hbm, ⟨63, _⟩ => ⟨S_, .i32⟩
  | .hbm, ⟨64, _⟩ => ⟨S_, .i16⟩
  | .hbm, ⟨65, _⟩ => ⟨S12x1536x128, .i16⟩
  | .hbm, ⟨66, _⟩ => ⟨S1536x6144, .bf16⟩
  | .hbm, ⟨67, _⟩ => ⟨S1536x6144, .bf16⟩
  | .hbm, ⟨68, _⟩ => ⟨S1536x6144, .bf16⟩
  | .hbm, ⟨69, _⟩ => ⟨S6144x1536, .bf16⟩
  | .hbm, ⟨70, _⟩ => ⟨S6144x1536, .bf16⟩
  | .local _ .vmem, ⟨0, _⟩ => ⟨S1536x512, .fp8e4m3⟩
  | .local _ .vmem, ⟨1, _⟩ => ⟨S1536x512, .fp8e4m3⟩
  | .local _ .vmem, ⟨2, _⟩ => ⟨S1536x512, .fp8e4m3⟩
  | .local _ .vmem, ⟨3, _⟩ => ⟨S1536x512, .fp8e4m3⟩
  | .local _ .vmem, ⟨4, _⟩ => ⟨S48x512, .i32⟩
  | .local _ .vmem, ⟨5, _⟩ => ⟨S48x512, .i32⟩
  | .local _ .vmem, ⟨6, _⟩ => ⟨S48x512, .i32⟩
  | .local _ .vmem, ⟨7, _⟩ => ⟨S48x512, .i32⟩
  | .local _ .vmem, ⟨8, _⟩ => ⟨S512x1536, .fp8e4m3⟩
  | .local _ .vmem, ⟨9, _⟩ => ⟨S512x1536, .fp8e4m3⟩
  | .local _ .vmem, ⟨10, _⟩ => ⟨S512x128, .i16⟩
  | .local _ .vmem, ⟨11, _⟩ => ⟨S512x128, .i16⟩
  | .local _ .vmem, ⟨12, _⟩ => ⟨S1536x512, .fp8e4m3⟩
  | .local _ .vmem, ⟨13, _⟩ => ⟨S1536x512, .fp8e4m3⟩
  | .local _ .vmem, ⟨14, _⟩ => ⟨S1536x512, .fp8e4m3⟩
  | .local _ .vmem, ⟨15, _⟩ => ⟨S1536x512, .fp8e4m3⟩
  | .local _ .vmem, ⟨16, _⟩ => ⟨S1x1536x128, .i16⟩
  | .local _ .vmem, ⟨17, _⟩ => ⟨S1x1536x128, .i16⟩
  | .local _ .vmem, ⟨18, _⟩ => ⟨S1x1536x128, .i16⟩
  | .local _ .vmem, ⟨19, _⟩ => ⟨S1x1536x128, .i16⟩
  | .local _ .vmem, ⟨20, _⟩ => ⟨S1536x512, .bf16⟩
  | .local _ .vmem, ⟨21, _⟩ => ⟨S1536x512, .bf16⟩
  | .local _ .vmem, ⟨22, _⟩ => ⟨S1536x512, .bf16⟩
  | .local _ .vmem, ⟨23, _⟩ => ⟨S1536x512, .bf16⟩
  | .local _ .vmem, ⟨24, _⟩ => ⟨S1536x512, .bf16⟩
  | .local _ .vmem, ⟨25, _⟩ => ⟨S1536x512, .bf16⟩
  | .local _ .vmem, ⟨26, _⟩ => ⟨S512x1536, .bf16⟩
  | .local _ .vmem, ⟨27, _⟩ => ⟨S512x1536, .bf16⟩
  | .local _ .vmem, ⟨28, _⟩ => ⟨S512x1536, .bf16⟩
  | .local _ .vmem, ⟨29, _⟩ => ⟨S512x1536, .bf16⟩
  | _, _ => ⟨S1536x2x6144, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_c_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c_1 : Ref sig .tc := ⟨.hbm, 23, rfl⟩
abbrev main_v15 : Ref sig .tc := ⟨.hbm, 24, rfl⟩
abbrev main_v16 : Ref sig .tc := ⟨.hbm, 25, rfl⟩
abbrev main_c_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_c_3 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_c_4 : Ref sig .tc := ⟨.hbm, 39, rfl⟩
abbrev main_call0_v0 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_c_5 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_c_6 : Ref sig .tc := ⟨.hbm, 51, rfl⟩
abbrev main_call1_v0 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_c_7 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_c_8 : Ref sig .tc := ⟨.hbm, 63, rfl⟩
abbrev main_call2_v0 : Ref sig .tc := ⟨.hbm, 64, rfl⟩
abbrev main_v46 : Ref sig .tc := ⟨.hbm, 65, rfl⟩
abbrev main_v47_0 : Ref sig .tc := ⟨.hbm, 66, rfl⟩
abbrev main_v47_1 : Ref sig .tc := ⟨.hbm, 67, rfl⟩
abbrev main_v47_2 : Ref sig .tc := ⟨.hbm, 68, rfl⟩
abbrev main_v47_3 : Ref sig .tc := ⟨.hbm, 69, rfl⟩
abbrev main_v47_4 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1536x512 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1536x512 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S48x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S48x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1536 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .i16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1536x512 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1536x512 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1536x128 .i16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1536x128 .i16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1536x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1536x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1536x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1536 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1536 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== PrepRefIdeal.lean ====
abbrev S1536x2x6144 : Shape := ⟨3, ![1536, 2, 6144]⟩
abbrev S48x2x6144 : Shape := ⟨3, ![48, 2, 6144]⟩
abbrev S1536x2x192 : Shape := ⟨3, ![1536, 2, 192]⟩
abbrev S6144x1536 : Shape := ⟨2, ![6144, 1536]⟩
abbrev S6144x48 : Shape := ⟨2, ![6144, 48]⟩
abbrev S1536x1x6144 : Shape := ⟨3, ![1536, 1, 6144]⟩
abbrev S1536x6144 : Shape := ⟨2, ![1536, 6144]⟩
abbrev S48x1x6144 : Shape := ⟨3, ![48, 1, 6144]⟩
abbrev S48x6144 : Shape := ⟨2, ![48, 6144]⟩
abbrev S1536x1x192 : Shape := ⟨3, ![1536, 1, 192]⟩
abbrev S1536x192 : Shape := ⟨2, ![1536, 192]⟩
abbrev S48x32x6144 : Shape := ⟨3, ![48, 32, 6144]⟩
abbrev S6144x48x32 : Shape := ⟨3, ![6144, 48, 32]⟩
abbrev S6144x48x1 : Shape := ⟨3, ![6144, 48, 1]⟩
abbrev S1536x192x32 : Shape := ⟨3, ![1536, 192, 32]⟩
abbrev S1536x192x1 : Shape := ⟨3, ![1536, 192, 1]⟩

abbrev nBuf : Space → Nat
  | .hbm => 27
  | .vmem => 15
  | .smem => 0
  | _ => 0

abbrev bufTy : (tb : Table) → Fin (tcTables nBuf tb) → BufTy
  | .hbm, ⟨0, _⟩ => ⟨S1536x2x6144, .fp8e4m3⟩
  | .hbm, ⟨1, _⟩ => ⟨S48x2x6144, .i8⟩
  | .hbm, ⟨2, _⟩ => ⟨S1536x2x6144, .fp8e4m3⟩
  | .hbm, ⟨3, _⟩ => ⟨S1536x2x192, .i8⟩
  | .hbm, ⟨4, _⟩ => ⟨S6144x1536, .fp8e4m3⟩
  | .hbm, ⟨5, _⟩ => ⟨S6144x48, .i8⟩
  | .hbm, ⟨6, _⟩ => ⟨S1536x1x6144, .fp8e4m3⟩
  | .hbm, ⟨7, _⟩ => ⟨S1536x6144, .fp8e4m3⟩
  | .hbm, ⟨8, _⟩ => ⟨S48x1x6144, .i8⟩
  | .hbm, ⟨9, _⟩ => ⟨S48x6144, .i8⟩
  | .hbm, ⟨10, _⟩ => ⟨S1536x1x6144, .fp8e4m3⟩
  | .hbm, ⟨11, _⟩ => ⟨S1536x6144, .fp8e4m3⟩
  | .hbm, ⟨12, _⟩ => ⟨S48x1x6144, .i8⟩
  | .hbm, ⟨13, _⟩ => ⟨S48x6144, .i8⟩
  | .hbm, ⟨14, _⟩ => ⟨S1536x1x6144, .fp8e4m3⟩
  | .hbm, ⟨15, _⟩ => ⟨S1536x6144, .fp8e4m3⟩
  | .hbm, ⟨16, _⟩ => ⟨S1536x1x192, .i8⟩
  | .hbm, ⟨17, _⟩ => ⟨S1536x192, .i8⟩
  | .hbm, ⟨18, _⟩ => ⟨S1536x1x6144, .fp8e4m3⟩
  | .hbm, ⟨19, _⟩ => ⟨S1536x6144, .fp8e4m3⟩
  | .hbm, ⟨20, _⟩ => ⟨S1536x1x192, .i8⟩
  | .hbm, ⟨21, _⟩ => ⟨S1536x192, .i8⟩
  | .hbm, ⟨22, _⟩ => ⟨S1536x6144, .bf16⟩
  | .hbm, ⟨23, _⟩ => ⟨S1536x6144, .bf16⟩
  | .hbm, ⟨24, _⟩ => ⟨S1536x6144, .bf16⟩
  | .hbm, ⟨25, _⟩ => ⟨S6144x1536, .bf16⟩
  | .hbm, ⟨26, _⟩ => ⟨S6144x1536, .bf16⟩
  | .local _ .vmem, ⟨0, _⟩ => ⟨S1536x6144, .fp8e4m3⟩
  | .local _ .vmem, ⟨1, _⟩ => ⟨S48x6144, .i8⟩
  | .local _ .vmem, ⟨2, _⟩ => ⟨S1536x6144, .fp8e4m3⟩
  | .local _ .vmem, ⟨3, _⟩ => ⟨S48x6144, .i8⟩
  | .local _ .vmem, ⟨4, _⟩ => ⟨S1536x6144, .fp8e4m3⟩
  | .local _ .vmem, ⟨5, _⟩ => ⟨S1536x192, .i8⟩
  | .local _ .vmem, ⟨6, _⟩ => ⟨S1536x6144, .fp8e4m3⟩
  | .local _ .vmem, ⟨7, _⟩ => ⟨S1536x192, .i8⟩
  | .local _ .vmem, ⟨8, _⟩ => ⟨S6144x1536, .fp8e4m3⟩
  | .local _ .vmem, ⟨9, _⟩ => ⟨S6144x48, .i8⟩
  | .local _ .vmem, ⟨10, _⟩ => ⟨S1536x6144, .bf16⟩
  | .local _ .vmem, ⟨11, _⟩ => ⟨S1536x6144, .bf16⟩
  | .local _ .vmem, ⟨12, _⟩ => ⟨S1536x6144, .bf16⟩
  | .local _ .vmem, ⟨13, _⟩ => ⟨S6144x1536, .bf16⟩
  | .local _ .vmem, ⟨14, _⟩ => ⟨S6144x1536, .bf16⟩
  | _, _ => ⟨S1536x2x6144, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16_0 : Ref sig .tc := ⟨.hbm, 22, rfl⟩
abbrev main_v16_1 : Ref sig .tc := ⟨.hbm, 23, rfl⟩
abbrev main_v16_2 : Ref sig .tc := ⟨.hbm, 24, rfl⟩
abbrev main_v16_3 : Ref sig .tc := ⟨.hbm, 25, rfl⟩
abbrev main_v16_4 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := .none

abbrev stage0_0 : Fin 1 → Memref sig .tc .vmem S1536x6144 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S48x6144 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1536x6144 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S48x6144 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1536x6144 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1536x192 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1536x6144 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1536x192 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S6144x1536 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S6144x48 .i8 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1536x6144 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1536x6144 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1536x6144 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S6144x1536 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S6144x1536 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
-- ==== Mlp.lean ====
abbrev S5x8192x1536 : Shape := ⟨3, ![5, 8192, 1536]⟩
abbrev S5x8192x48 : Shape := ⟨3, ![5, 8192, 48]⟩
abbrev S1536x6144 : Shape := ⟨2, ![1536, 6144]⟩
abbrev S40960x1536 : Shape := ⟨2, ![40960, 1536]⟩
abbrev S40960x48 : Shape := ⟨2, ![40960, 48]⟩
abbrev S_ : Shape := ⟨0, ![]⟩
abbrev S40960x128 : Shape := ⟨2, ![40960, 128]⟩
abbrev S40960x6144 : Shape := ⟨2, ![40960, 6144]⟩
abbrev S1024x1536 : Shape := ⟨2, ![1024, 1536]⟩
abbrev S1024x128 : Shape := ⟨2, ![1024, 128]⟩
abbrev S1536x1024 : Shape := ⟨2, ![1536, 1024]⟩
abbrev S1024x1024 : Shape := ⟨2, ![1024, 1024]⟩
abbrev S512x128 : Shape := ⟨2, ![512, 128]⟩
abbrev S512x128x1 : Shape := ⟨3, ![512, 128, 1]⟩

abbrev nBuf : Space → Nat
  | .hbm => 30
  | .vmem => 20
  | .smem => 0
  | _ => 0

abbrev bufTy : (tb : Table) → Fin (tcTables nBuf tb) → BufTy
  | .hbm, ⟨0, _⟩ => ⟨S5x8192x1536, .fp8e4m3⟩
  | .hbm, ⟨1, _⟩ => ⟨S5x8192x48, .i8⟩
  | .hbm, ⟨2, _⟩ => ⟨S5x8192x1536, .fp8e5m2⟩
  | .hbm, ⟨3, _⟩ => ⟨S5x8192x48, .i8⟩
  | .hbm, ⟨4, _⟩ => ⟨S1536x6144, .bf16⟩
  | .hbm, ⟨5, _⟩ => ⟨S1536x6144, .bf16⟩
  | .hbm, ⟨6, _⟩ => ⟨S1536x6144, .bf16⟩
  | .hbm, ⟨7, _⟩ => ⟨S40960x1536, .fp8e4m3⟩
  | .hbm, ⟨8, _⟩ => ⟨S40960x1536, .fp8e5m2⟩
  | .hbm, ⟨9, _⟩ => ⟨S40960x48, .i8⟩
  | .hbm, ⟨10, _⟩ => ⟨S40960x48, .i32⟩
  | .hbm, ⟨11, _⟩ => ⟨S_, .i32⟩
  | .hbm, ⟨12, _⟩ => ⟨S40960x48, .i32⟩
  | .hbm, ⟨13, _⟩ => ⟨S40960x48, .i32⟩
  | .hbm, ⟨14, _⟩ => ⟨S40960x48, .i16⟩
  | .hbm, ⟨15, _⟩ => ⟨S_, .i32⟩
  | .hbm, ⟨16, _⟩ => ⟨S_, .i16⟩
  | .hbm, ⟨17, _⟩ => ⟨S40960x128, .i16⟩
  | .hbm, ⟨18, _⟩ => ⟨S40960x48, .i8⟩
  | .hbm, ⟨19, _⟩ => ⟨S40960x48, .i32⟩
  | .hbm, ⟨20, _⟩ => ⟨S_, .i32⟩
  | .hbm, ⟨21, _⟩ => ⟨S40960x48, .i32⟩
  | .hbm, ⟨22, _⟩ => ⟨S40960x48, .i32⟩
  | .hbm, ⟨23, _⟩ => ⟨S40960x48, .i16⟩
  | .hbm, ⟨24, _⟩ => ⟨S_, .i32⟩
  | .hbm, ⟨25, _⟩ => ⟨S_, .i16⟩
  | .hbm, ⟨26, _⟩ => ⟨S40960x128, .i16⟩
  | .hbm, ⟨27, _⟩ => ⟨S40960x6144, .bf16⟩
  | .hbm, ⟨28, _⟩ => ⟨S40960x6144, .bf16⟩
  | .hbm, ⟨29, _⟩ => ⟨S40960x6144, .bf16⟩
  | .local _ .vmem, ⟨0, _⟩ => ⟨S1024x1536, .fp8e4m3⟩
  | .local _ .vmem, ⟨1, _⟩ => ⟨S1024x1536, .fp8e4m3⟩
  | .local _ .vmem, ⟨2, _⟩ => ⟨S1024x128, .i16⟩
  | .local _ .vmem, ⟨3, _⟩ => ⟨S1024x128, .i16⟩
  | .local _ .vmem, ⟨4, _⟩ => ⟨S1024x1536, .fp8e5m2⟩
  | .local _ .vmem, ⟨5, _⟩ => ⟨S1024x1536, .fp8e5m2⟩
  | .local _ .vmem, ⟨6, _⟩ => ⟨S1024x128, .i16⟩
  | .local _ .vmem, ⟨7, _⟩ => ⟨S1024x128, .i16⟩
  | .local _ .vmem, ⟨8, _⟩ => ⟨S1536x1024, .bf16⟩
  | .local _ .vmem, ⟨9, _⟩ => ⟨S1536x1024, .bf16⟩
  | .local _ .vmem, ⟨10, _⟩ => ⟨S1536x1024, .bf16⟩
  | .local _ .vmem, ⟨11, _⟩ => ⟨S1536x1024, .bf16⟩
  | .local _ .vmem, ⟨12, _⟩ => ⟨S1536x1024, .bf16⟩
  | .local _ .vmem, ⟨13, _⟩ => ⟨S1536x1024, .bf16⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | .local _ .vmem, ⟨17, _⟩ => ⟨S1024x1024, .bf16⟩
  | .local _ .vmem, ⟨18, _⟩ => ⟨S1024x1024, .bf16⟩
  | .local _ .vmem, ⟨19, _⟩ => ⟨S1024x1024, .bf16⟩
  | _, _ => ⟨S5x8192x1536, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_call0_v0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_call1_v0 : Ref sig .tc := ⟨.hbm, 25, rfl⟩
abbrev main_v13 : Ref sig .tc := ⟨.hbm, 26, rfl⟩
abbrev main_v14_0 : Ref sig .tc := ⟨.hbm, 27, rfl⟩
abbrev main_v14_1 : Ref sig .tc := ⟨.hbm, 28, rfl⟩
abbrev main_v14_2 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![6, 40], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1536 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x128 .i16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1536 .fp8e5m2 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x128 .i16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1536x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1536x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1536x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== MlpRefIdeal.lean ====
abbrev S5x8192x1536 : Shape := ⟨3, ![5, 8192, 1536]⟩
abbrev S5x8192x48 : Shape := ⟨3, ![5, 8192, 48]⟩
abbrev S1536x6144 : Shape := ⟨2, ![1536, 6144]⟩
abbrev S40960x1536 : Shape := ⟨2, ![40960, 1536]⟩
abbrev S40960x48 : Shape := ⟨2, ![40960, 48]⟩
abbrev S40960x6144 : Shape := ⟨2, ![40960, 6144]⟩
abbrev S40960x48x32 : Shape := ⟨3, ![40960, 48, 32]⟩
abbrev S40960x48x1 : Shape := ⟨3, ![40960, 48, 1]⟩

abbrev nBuf : Space → Nat
  | .hbm => 14
  | .vmem => 10
  | .smem => 0
  | _ => 0

abbrev bufTy : (tb : Table) → Fin (tcTables nBuf tb) → BufTy
  | .hbm, ⟨0, _⟩ => ⟨S5x8192x1536, .fp8e4m3⟩
  | .hbm, ⟨1, _⟩ => ⟨S5x8192x48, .i8⟩
  | .hbm, ⟨2, _⟩ => ⟨S5x8192x1536, .fp8e5m2⟩
  | .hbm, ⟨3, _⟩ => ⟨S5x8192x48, .i8⟩
  | .hbm, ⟨4, _⟩ => ⟨S1536x6144, .bf16⟩
  | .hbm, ⟨5, _⟩ => ⟨S1536x6144, .bf16⟩
  | .hbm, ⟨6, _⟩ => ⟨S1536x6144, .bf16⟩
  | .hbm, ⟨7, _⟩ => ⟨S40960x1536, .fp8e4m3⟩
  | .hbm, ⟨8, _⟩ => ⟨S40960x48, .i8⟩
  | .hbm, ⟨9, _⟩ => ⟨S40960x1536, .fp8e5m2⟩
  | .hbm, ⟨10, _⟩ => ⟨S40960x48, .i8⟩
  | .hbm, ⟨11, _⟩ => ⟨S40960x6144, .bf16⟩
  | .hbm, ⟨12, _⟩ => ⟨S40960x6144, .bf16⟩
  | .hbm, ⟨13, _⟩ => ⟨S40960x6144, .bf16⟩
  | .local _ .vmem, ⟨0, _⟩ => ⟨S40960x1536, .fp8e4m3⟩
  | .local _ .vmem, ⟨1, _⟩ => ⟨S40960x48, .i8⟩
  | .local _ .vmem, ⟨2, _⟩ => ⟨S40960x1536, .fp8e5m2⟩
  | .local _ .vmem, ⟨3, _⟩ => ⟨S40960x48, .i8⟩
  | .local _ .vmem, ⟨4, _⟩ => ⟨S1536x6144, .bf16⟩
  | .local _ .vmem, ⟨5, _⟩ => ⟨S1536x6144, .bf16⟩
  | .local _ .vmem, ⟨6, _⟩ => ⟨S1536x6144, .bf16⟩
  | .local _ .vmem, ⟨7, _⟩ => ⟨S40960x6144, .bf16⟩
  | .local _ .vmem, ⟨8, _⟩ => ⟨S40960x6144, .bf16⟩
  | .local _ .vmem, ⟨9, _⟩ => ⟨S40960x6144, .bf16⟩
  | _, _ => ⟨S5x8192x1536, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S40960x1536 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S40960x48 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S40960x1536 .fp8e5m2 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S40960x48 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1536x6144 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1536x6144 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1536x6144 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S40960x6144 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S40960x6144 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S40960x6144 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Dx.lean ====
abbrev S40960x6144 : Shape := ⟨2, ![40960, 6144]⟩
abbrev S6144x1536 : Shape := ⟨2, ![6144, 1536]⟩
abbrev S40960x1536 : Shape := ⟨2, ![40960, 1536]⟩
abbrev S2048x1024 : Shape := ⟨2, ![2048, 1024]⟩
abbrev S1024x1536 : Shape := ⟨2, ![1024, 1536]⟩
abbrev S2048x1536 : Shape := ⟨2, ![2048, 1536]⟩

abbrev nBuf : Space → Nat
  | .hbm => 5
  | .vmem => 11
  | .smem => 0
  | _ => 0

abbrev bufTy : (tb : Table) → Fin (tcTables nBuf tb) → BufTy
  | .hbm, ⟨0, _⟩ => ⟨S40960x6144, .bf16⟩
  | .hbm, ⟨1, _⟩ => ⟨S40960x6144, .bf16⟩
  | .hbm, ⟨2, _⟩ => ⟨S6144x1536, .bf16⟩
  | .hbm, ⟨3, _⟩ => ⟨S6144x1536, .bf16⟩
  | .hbm, ⟨4, _⟩ => ⟨S40960x1536, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1536, .bf16⟩
  | .local _ .vmem, ⟨5, _⟩ => ⟨S1024x1536, .bf16⟩
  | .local _ .vmem, ⟨6, _⟩ => ⟨S1024x1536, .bf16⟩
  | .local _ .vmem, ⟨7, _⟩ => ⟨S1024x1536, .bf16⟩
  | .local _ .vmem, ⟨8, _⟩ => ⟨S2048x1536, .bf16⟩
  | .local _ .vmem, ⟨9, _⟩ => ⟨S2048x1536, .bf16⟩
  | .local _ .vmem, ⟨10, _⟩ => ⟨S2048x1536, .f32⟩
  | _, _ => ⟨S40960x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![20, 6], ![false, false]⟩

def k0_cond2 (i : grid0.Coords) : BitVec 1 :=
  let arg1 : BitVec 32 := BitVec.ofNat 32 (i 1).val
  let c5_i32 : BitVec 32 := 5#32
  let v19 : BitVec 1 := Scalar.cmpi .eq arg1 c5_i32
  let v20 : BitVec 32 := Scalar.extui v19
  let c0_i32_17 : BitVec 32 := 0#32
  let v21 : BitVec 1 := Scalar.cmpi .ne v20 c0_i32_17
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== DxRefIdeal.lean ====
abbrev S40960x6144 : Shape := ⟨2, ![40960, 6144]⟩
abbrev S6144x1536 : Shape := ⟨2, ![6144, 1536]⟩
abbrev S40960x1536 : Shape := ⟨2, ![40960, 1536]⟩

abbrev nBuf : Space → Nat
  | .hbm => 8
  | .vmem => 0
  | .smem => 0
  | _ => 0

abbrev bufTy : (tb : Table) → Fin (tcTables nBuf tb) → BufTy
  | .hbm, ⟨0, _⟩ => ⟨S40960x6144, .bf16⟩
  | .hbm, ⟨1, _⟩ => ⟨S40960x6144, .bf16⟩
  | .hbm, ⟨2, _⟩ => ⟨S6144x1536, .bf16⟩
  | .hbm, ⟨3, _⟩ => ⟨S6144x1536, .bf16⟩
  | .hbm, ⟨4, _⟩ => ⟨S40960x1536, .f32⟩
  | .hbm, ⟨5, _⟩ => ⟨S40960x1536, .f32⟩
  | .hbm, ⟨6, _⟩ => ⟨S40960x1536, .f32⟩
  | .hbm, ⟨7, _⟩ => ⟨S40960x1536, .bf16⟩
  | _, _ => ⟨S40960x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Dw.lean ====
abbrev S5x8192x1536 : Shape := ⟨3, ![5, 8192, 1536]⟩
abbrev S5x256x1536 : Shape := ⟨3, ![5, 256, 1536]⟩
abbrev S40960x6144 : Shape := ⟨2, ![40960, 6144]⟩
abbrev S40960x1536 : Shape := ⟨2, ![40960, 1536]⟩
abbrev S1280x1536 : Shape := ⟨2, ![1280, 1536]⟩
abbrev S_ : Shape := ⟨0, ![]⟩
abbrev S1536x6144 : Shape := ⟨2, ![1536, 6144]⟩
abbrev S6144x1536 : Shape := ⟨2, ![6144, 1536]⟩
abbrev S2048x1536 : Shape := ⟨2, ![2048, 1536]⟩
abbrev S64x1536 : Shape := ⟨2, ![64, 1536]⟩
abbrev S2048x512 : Shape := ⟨2, ![2048, 512]⟩
abbrev S1536x512 : Shape := ⟨2, ![1536, 512]⟩
abbrev S512x1536 : Shape := ⟨2, ![512, 1536]⟩
abbrev S1x1536 : Shape := ⟨2, ![1, 1536]⟩
abbrev S16x1536 : Shape := ⟨2, ![16, 1536]⟩
abbrev S32x1536 : Shape := ⟨2, ![32, 1536]⟩

abbrev nBuf : Space → Nat
  | .hbm => 30
  | .vmem => 20
  | .smem => 0
  | _ => 0

abbrev bufTy : (tb : Table) → Fin (tcTables nBuf tb) → BufTy
  | .hbm, ⟨0, _⟩ => ⟨S5x8192x1536, .fp8e4m3⟩
  | .hbm, ⟨1, _⟩ => ⟨S5x256x1536, .i8⟩
  | .hbm, ⟨2, _⟩ => ⟨S5x8192x1536, .fp8e5m2⟩
  | .hbm, ⟨3, _⟩ => ⟨S5x256x1536, .i8⟩
  | .hbm, ⟨4, _⟩ => ⟨S40960x6144, .bf16⟩
  | .hbm, ⟨5, _⟩ => ⟨S40960x6144, .bf16⟩
  | .hbm, ⟨6, _⟩ => ⟨S40960x6144, .bf16⟩
  | .hbm, ⟨7, _⟩ => ⟨S40960x1536, .fp8e4m3⟩
  | .hbm, ⟨8, _⟩ => ⟨S40960x1536, .fp8e5m2⟩
  | .hbm, ⟨9, _⟩ => ⟨S1280x1536, .i8⟩
  | .hbm, ⟨10, _⟩ => ⟨S1280x1536, .i32⟩
  | .hbm, ⟨11, _⟩ => ⟨S_, .i32⟩
  | .hbm, ⟨12, _⟩ => ⟨S1280x1536, .i32⟩
  | .hbm, ⟨13, _⟩ => ⟨S1280x1536, .i32⟩
  | .hbm, ⟨14, _⟩ => ⟨S_, .i32⟩
  | .hbm, ⟨15, _⟩ => ⟨S1280x1536, .i32⟩
  | .hbm, ⟨16, _⟩ => ⟨S1280x1536, .i32⟩
  | .hbm, ⟨17, _⟩ => ⟨S1280x1536, .i32⟩
  | .hbm, ⟨18, _⟩ => ⟨S1280x1536, .i8⟩
  | .hbm, ⟨19, _⟩ => ⟨S1280x1536, .i32⟩
  | .hbm, ⟨20, _⟩ => ⟨S_, .i32⟩
  | .hbm, ⟨21, _⟩ => ⟨S1280x1536, .i32⟩
  | .hbm, ⟨22, _⟩ => ⟨S1280x1536, .i32⟩
  | .hbm, ⟨23, _⟩ => ⟨S_, .i32⟩
  | .hbm, ⟨24, _⟩ => ⟨S1280x1536, .i32⟩
  | .hbm, ⟨25, _⟩ => ⟨S1280x1536, .i32⟩
  | .hbm, ⟨26, _⟩ => ⟨S1280x1536, .i32⟩
  | .hbm, ⟨27, _⟩ => ⟨S1536x6144, .f32⟩
  | .hbm, ⟨28, _⟩ => ⟨S1536x6144, .f32⟩
  | .hbm, ⟨29, _⟩ => ⟨S6144x1536, .f32⟩
  | .local _ .vmem, ⟨0, _⟩ => ⟨S2048x1536, .fp8e4m3⟩
  | .local _ .vmem, ⟨1, _⟩ => ⟨S2048x1536, .fp8e4m3⟩
  | .local _ .vmem, ⟨2, _⟩ => ⟨S64x1536, .i32⟩
  | .local _ .vmem, ⟨3, _⟩ => ⟨S64x1536, .i32⟩
  | .local _ .vmem, ⟨4, _⟩ => ⟨S2048x1536, .fp8e5m2⟩
  | .local _ .vmem, ⟨5, _⟩ => ⟨S2048x1536, .fp8e5m2⟩
  | .local _ .vmem, ⟨6, _⟩ => ⟨S64x1536, .i32⟩
  | .local _ .vmem, ⟨7, _⟩ => ⟨S64x1536, .i32⟩
  | .local _ .vmem, ⟨8, _⟩ => ⟨S2048x512, .bf16⟩
  | .local _ .vmem, ⟨9, _⟩ => ⟨S2048x512, .bf16⟩
  | .local _ .vmem, ⟨10, _⟩ => ⟨S2048x512, .bf16⟩
  | .local _ .vmem, ⟨11, _⟩ => ⟨S2048x512, .bf16⟩
  | .local _ .vmem, ⟨12, _⟩ => ⟨S2048x512, .bf16⟩
  | .local _ .vmem, ⟨13, _⟩ => ⟨S2048x512, .bf16⟩
  | .local _ .vmem, ⟨14, _⟩ => ⟨S1536x512, .f32⟩
  | .local _ .vmem, ⟨15, _⟩ => ⟨S1536x512, .f32⟩
  | .local _ .vmem, ⟨16, _⟩ => ⟨S1536x512, .f32⟩
  | .local _ .vmem, ⟨17, _⟩ => ⟨S1536x512, .f32⟩
  | .local _ .vmem, ⟨18, _⟩ => ⟨S512x1536, .f32⟩
  | .local _ .vmem, ⟨19, _⟩ => ⟨S512x1536, .f32⟩
  | _, _ => ⟨S5x8192x1536, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16_0 : Ref sig .tc := ⟨.hbm, 27, rfl⟩
abbrev main_v16_1 : Ref sig .tc := ⟨.hbm, 28, rfl⟩
abbrev main_v16_2 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![12, 20], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1536 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S64x1536 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1536 .fp8e5m2 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S64x1536 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1536x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1536x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x1536 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== DwRefIdeal.lean ====
abbrev S5x8192x1536 : Shape := ⟨3, ![5, 8192, 1536]⟩
abbrev S5x256x1536 : Shape := ⟨3, ![5, 256, 1536]⟩
abbrev S40960x6144 : Shape := ⟨2, ![40960, 6144]⟩
abbrev S40960x1536 : Shape := ⟨2, ![40960, 1536]⟩
abbrev S1280x1536 : Shape := ⟨2, ![1280, 1536]⟩
abbrev S1536x6144 : Shape := ⟨2, ![1536, 6144]⟩
abbrev S6144x1536 : Shape := ⟨2, ![6144, 1536]⟩
abbrev S1280x32x1536 : Shape := ⟨3, ![1280, 32, 1536]⟩
abbrev S1280x1x1536 : Shape := ⟨3, ![1280, 1, 1536]⟩
abbrev S1536x40960 : Shape := ⟨2, ![1536, 40960]⟩
abbrev S6144x40960 : Shape := ⟨2, ![6144, 40960]⟩

abbrev nBuf : Space → Nat
  | .hbm => 14
  | .vmem => 10
  | .smem => 0
  | _ => 0

abbrev bufTy : (tb : Table) → Fin (tcTables nBuf tb) → BufTy
  | .hbm, ⟨0, _⟩ => ⟨S5x8192x1536, .fp8e4m3⟩
  | .hbm, ⟨1, _⟩ => ⟨S5x256x1536, .i8⟩
  | .hbm, ⟨2, _⟩ => ⟨S5x8192x1536, .fp8e5m2⟩
  | .hbm, ⟨3, _⟩ => ⟨S5x256x1536, .i8⟩
  | .hbm, ⟨4, _⟩ => ⟨S40960x6144, .bf16⟩
  | .hbm, ⟨5, _⟩ => ⟨S40960x6144, .bf16⟩
  | .hbm, ⟨6, _⟩ => ⟨S40960x6144, .bf16⟩
  | .hbm, ⟨7, _⟩ => ⟨S40960x1536, .fp8e4m3⟩
  | .hbm, ⟨8, _⟩ => ⟨S1280x1536, .i8⟩
  | .hbm, ⟨9, _⟩ => ⟨S40960x1536, .fp8e5m2⟩
  | .hbm, ⟨10, _⟩ => ⟨S1280x1536, .i8⟩
  | .hbm, ⟨11, _⟩ => ⟨S1536x6144, .f32⟩
  | .hbm, ⟨12, _⟩ => ⟨S1536x6144, .f32⟩
  | .hbm, ⟨13, _⟩ => ⟨S6144x1536, .f32⟩
  | .local _ .vmem, ⟨0, _⟩ => ⟨S40960x1536, .fp8e4m3⟩
  | .local _ .vmem, ⟨1, _⟩ => ⟨S1280x1536, .i8⟩
  | .local _ .vmem, ⟨2, _⟩ => ⟨S40960x1536, .fp8e5m2⟩
  | .local _ .vmem, ⟨3, _⟩ => ⟨S1280x1536, .i8⟩
  | .local _ .vmem, ⟨4, _⟩ => ⟨S40960x6144, .bf16⟩
  | .local _ .vmem, ⟨5, _⟩ => ⟨S40960x6144, .bf16⟩
  | .local _ .vmem, ⟨6, _⟩ => ⟨S40960x6144, .bf16⟩
  | .local _ .vmem, ⟨7, _⟩ => ⟨S1536x6144, .f32⟩
  | .local _ .vmem, ⟨8, _⟩ => ⟨S1536x6144, .f32⟩
  | .local _ .vmem, ⟨9, _⟩ => ⟨S6144x1536, .f32⟩
  | _, _ => ⟨S5x8192x1536, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S40960x1536 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1280x1536 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S40960x1536 .fp8e5m2 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1280x1536 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S40960x6144 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S40960x6144 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S40960x6144 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1536x6144 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1536x6144 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S6144x1536 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.Lanes.lean ====
/-
  A block of codes with one scale word per row and 32 columns: what the kernels' sequence of operations computes for it.
  The words of two rows lie in one 32-bit word; for each 128 columns the words are gathered along the lanes, split back
  into rows, and multiplied into the codes. Entry `(r, c)` of the result is code `(r, c)` times the bfloat16 that word
  `(r, c / 32)` denotes.
-/
module

public import Idealize.ShloMosaic.PureOps
public import Idealize.ShloMosaic.Lib.Pointwise
public import Idealize.ShloMosaic.Lib.BitcastPair
public import Idealize.ShloMosaic.Lib.Pipeline.Value

@[expose] public section

noncomputable section

namespace Cert.Proof

open Idealize.ShloMosaic

/-- The shape with `a` rows and `b` columns. -/
abbrev sh (a b : ℕ) : Shape := ⟨2, ![a, b]⟩

/-- The group of each lane, `lane / 32`, as a division rounded down writes it. -/
def laneGroup (H : ℕ) (hi : (sh H 128).Iotas .tc 32 [1]) (h1 : 1 < 32) : IVec (sh H 128) 32 :=
  have v5 : IVec (sh H 128) 32 := iota .tc (sh H 128) 32 [1] hi
  have v6 : IVec (sh H 128) 32 := broadcast (sh H 128) 32#32
  have v7 : IVec (sh H 128) 32 := divsi v5 v6
  have v8 : IVec (sh H 128) 32 := broadcast (sh H 128) 0#32
  have v9 : IVec (sh H 128) 1 := cmpi .sgt v5 v8
  have v10 : IVec (sh H 128) 32 := extui 32 v9 h1
  have v11 : IVec (sh H 128) 32 := broadcast (sh H 128) 0#32
  have v12 : IVec (sh H 128) 1 := cmpi .slt v5 v11
  have v13 : IVec (sh H 128) 32 := extui 32 v12 h1
  have v14 : IVec (sh H 128) 32 := subi v10 v13
  let v15 : BitVec 1 := Scalar.cmpi .sgt 32#32 0#32
  let v16 : BitVec 32 := Scalar.extui v15
  let v17 : BitVec 1 := Scalar.cmpi .slt 32#32 0#32
  let v18 : BitVec 32 := Scalar.extui v17
  let v19 : BitVec 32 := Scalar.subi v16 v18
  have v20 : IVec (sh H 128) 32 := broadcast (sh H 128) v19
  have v21 : IVec (sh H 128) 1 := cmpi .ne v14 v20
  have v22 : IVec (sh H 128) 32 := broadcast (sh H 128) 32#32
  have v23 : IVec (sh H 128) 32 := remsi v5 v22
  have v24 : IVec (sh H 128) 32 := broadcast (sh H 128) 0#32
  have v25 : IVec (sh H 128) 1 := cmpi .ne v23 v24
  have v26 : IVec (sh H 128) 1 := andi v21 v25
  have v27 : IVec (sh H 128) 32 := broadcast (sh H 128) 1#32
  have v28 : IVec (sh H 128) 32 := subi v7 v27
  have v29 : IVec (sh H 128) 32 := select v26 v28 v7
  v29

/-- The lane numbers a gather reads: the groups moved along by `k`, a negative one counted from the end. -/
def shifted {H : ℕ} (v : IVec (sh H 128) 32) (k : BitVec 32) (h3 : (sh H 128).ShapeCasts ⟨3, ![H, 128, 1]⟩)
    (h2 : (⟨3, ![H, 128, 1]⟩ : Shape).ShapeCasts (sh H 128)) : IVec (sh H 128) 32 :=
  have v44 : IVec (sh H 128) 32 := broadcast (sh H 128) k
  have v45 : IVec (sh H 128) 32 := addi v v44
  have v46 : IVec (sh H 128) 32 := broadcast (sh H 128) 0#32
  have v47 : IVec (sh H 128) 1 := cmpi .slt v45 v46
  have v48 : IVec (sh H 128) 32 := broadcast (sh H 128) 128#32
  have v49 : IVec (sh H 128) 32 := addi v45 v48
  have v50 : IVec (sh H 128) 32 := select v47 v49 v45
  shapeCast (sh H 128) (shapeCast ⟨3, ![H, 128, 1]⟩ v50 h3) h2

/-- Lane `l` moved along by `4 b` is word `4 b + l / 32`. -/
theorem shifted_apply {H : ℕ} (hi : (sh H 128).Iotas .tc 32 [1]) (h1 : 1 < 32) (b : Fin 12)
    (h3 : (sh H 128).ShapeCasts ⟨3, ![H, 128, 1]⟩) (h2 : (⟨3, ![H, 128, 1]⟩ : Shape).ShapeCasts (sh H 128)) (r : Fin H) (l : Fin 128) :
    shifted (laneGroup H hi h1) (BitVec.ofNat 32 (4 * b.val)) h3 h2 (ix2 r l) = BitVec.ofNat 32 (4 * b.val + l.val / 32) := by
  unfold shifted
  rw [shapeCast_shapeCast]
  have hio : iota .tc (sh H 128) 32 [1] hi (ix2 r l) = BitVec.ofNat 32 l.val := iota_single_apply .tc (sh H 128) 32 1 hi (ix2 r l)
  unfold laneGroup
  simp only [select, addi, subi, cmpi, andi, extui, divsi, remsi, broadcast, hio]
  clear hio
  revert b l
  decide +kernel

/-- 128 columns of codes, from column `off`, times the words gathered at `idx` and split back into rows. -/
def lanePiece {R H C : ℕ} {φ : FTy} (x : FVec Ideal (sh R C) φ) (words idx : IVec (sh H 128) 32) (off : ℕ)
    (hs : (sh R C).Slices ![0, off] (sh R 128)) (hx : FTy.bits φ < FTy.bits .bf16) (hb : (sh H 128).Bitcasts 32 (sh R 128) 16) :
    FVec Ideal (sh R 128) .bf16 :=
  mulf (extf .bf16 (extractStridedSlice (sh R 128) ![0, off] x hs) hx)
    (bitcastToFloat .bf16 (bitcast (sh R 128) 16 (dynamicGather 1 words idx) hb))

/-- Words paired by rows, gathered along the lanes and split again: word `k` of row `r`. -/
theorem gather_apply {R H : ℕ} (w : IVec (sh R 128) 16) (idx : IVec (sh H 128) 32) (hw : (sh R 128).Bitcasts 16 (sh H 128) 32)
    (hb : (sh H 128).Bitcasts 32 (sh R 128) 16) (r : Fin R) (l k : Fin 128)
    (hk : ∀ q : Fin H, idx (ix2 q l) = BitVec.ofNat 32 k.val) :
    bitcast (sh R 128) 16 (dynamicGather 1 (bitcast (sh H 128) 32 w hw) idx) hb (ix2 r l) = w (ix2 r k) := by
  have hR : R = 2 * H := by
    have h := hb.2.2 (0 : Fin 2)
    have h' : H * 32 = R * 16 := by simpa using h
    omega
  have hr := r.isLt
  rw [bitcast_32_16]
  have hrow : Shape.row (s := sh R 128) (ix2 r l) = r.val := rfl
  have hsrc : ∀ hp, hb.srcIdx (ix2 r l) (Shape.row (s := sh R 128) (ix2 r l) / 2) hp = ix2 (⟨r.val / 2, by omega⟩ : Fin H) l := fun hp => by
    funext a; apply Fin.ext
    match a with
    | ⟨0, _⟩ => exact (Shape.Bitcasts.srcIdx_row hb _ _ hp 0 rfl).trans rfl
    | ⟨1, _⟩ => exact (Shape.Bitcasts.srcIdx_other hb _ _ hp 1 (show ¬ 1 + 2 = 2 by decide)).trans rfl
  rw [hsrc, hrow]
  have hg : dynamicGather 1 (bitcast (sh H 128) 32 w hw) idx (ix2 (⟨r.val / 2, by omega⟩ : Fin H) l)
      = bitcast (sh H 128) 32 w hw (ix2 (⟨r.val / 2, by omega⟩ : Fin H) k) := by
    unfold dynamicGather
    congr 1
    funext a; apply Fin.ext
    match a with
    | ⟨0, _⟩ => rfl
    | ⟨1, _⟩ =>
      show (idx (ix2 (⟨r.val / 2, by omega⟩ : Fin H) l)).toNat % 128 = k.val
      rw [hk, BitVec.toNat_ofNat]
      omega
  rw [hg, bitcast_16_32]
  have hrow2 : Shape.row (s := sh H 128) (ix2 (⟨r.val / 2, by omega⟩ : Fin H) k) = r.val / 2 := rfl
  have hs1 : ∀ p (hp' : p < R) hp, hw.srcIdx (ix2 (⟨r.val / 2, by omega⟩ : Fin H) k) p hp = ix2 (⟨p, hp'⟩ : Fin R) k := fun p hp' hp => by
    funext a; apply Fin.ext
    match a with
    | ⟨0, _⟩ => exact (Shape.Bitcasts.srcIdx_row hw _ _ hp 0 rfl).trans rfl
    | ⟨1, _⟩ => exact (Shape.Bitcasts.srcIdx_other hw _ _ hp 1 (show ¬ 1 + 2 = 2 by decide)).trans rfl
  rw [hs1 _ (by rw [hrow2]; omega), hs1 _ (by rw [hrow2]; omega)]
  rcases Nat.mod_two_eq_zero_or_one r.val with h | h
  · rw [h]
    have e : (⟨2 * Shape.row (s := sh H 128) (ix2 (⟨r.val / 2, by omega⟩ : Fin H) k), by rw [hrow2]; omega⟩ : Fin R) = r := Fin.ext (by
      show 2 * (r.val / 2) = r.val; omega)
    rw [e]
    exact BitVec.extractLsb'_append_eq_right
  · rw [h]
    have e : (⟨2 * Shape.row (s := sh H 128) (ix2 (⟨r.val / 2, by omega⟩ : Fin H) k) + 1, by rw [hrow2]; omega⟩ : Fin R) = r := Fin.ext (by
      show 2 * (r.val / 2) + 1 = r.val; omega)
    rw [e]
    exact BitVec.extractLsb'_append_eq_left

/-- The whole block: the pieces of 128 columns side by side. -/
def lanes {R H C N : ℕ} {φ : FTy} (x : FVec Ideal (sh R C) φ) (w : IVec (sh R 128) 16)
    (hw : (sh R 128).Bitcasts 16 (sh H 128) 32) (hi : (sh H 128).Iotas .tc 32 [1]) (h1 : 1 < 32)
    (h3 : (sh H 128).ShapeCasts ⟨3, ![H, 128, 1]⟩) (h2 : (⟨3, ![H, 128, 1]⟩ : Shape).ShapeCasts (sh H 128))
    (hs : ∀ b : Fin N, (sh R C).Slices ![0, 128 * b.val] (sh R 128)) (hx : FTy.bits φ < FTy.bits .bf16)
    (hb : (sh H 128).Bitcasts 32 (sh R 128) 16)
    (hc : Shape.Concatenates ((List.ofFn fun b : Fin N => (⟨sh R 128, lanePiece x (bitcast (sh H 128) 32 w hw)
      (shifted (laneGroup H hi h1) (BitVec.ofNat 32 (4 * b.val)) h3 h2) (128 * b.val) (hs b) hx hb⟩ : (s : Shape) × (s.Idx → Ideal .bf16))).map (·.1)) (sh R C) 1) :
    FVec Ideal (sh R C) .bf16 :=
  concatenate (sh R C) 1 (List.ofFn fun b : Fin N => (⟨sh R 128, lanePiece x (bitcast (sh H 128) 32 w hw)
    (shifted (laneGroup H hi h1) (BitVec.ofNat 32 (4 * b.val)) h3 h2) (128 * b.val) (hs b) hx hb⟩ : (s : Shape) × (s.Idx → Ideal .bf16))) hc

/-- Entry `(r, c)` of the block: the code times the value of word `(r, c / 32)`. -/
theorem lanes_apply {R H C N : ℕ} {φ : FTy} (x : FVec Ideal (sh R C) φ) (w : IVec (sh R 128) 16)
    (hw : (sh R 128).Bitcasts 16 (sh H 128) 32) (hi : (sh H 128).Iotas .tc 32 [1]) (h1 : 1 < 32)
    (h3 : (sh H 128).ShapeCasts ⟨3, ![H, 128, 1]⟩) (h2 : (⟨3, ![H, 128, 1]⟩ : Shape).ShapeCasts (sh H 128))
    (hs : ∀ b : Fin N, (sh R C).Slices ![0, 128 * b.val] (sh R 128)) (hx : FTy.bits φ < FTy.bits .bf16)
    (hb : (sh H 128).Bitcasts 32 (sh R 128) 16) (hc) (hN : N ≤ 12) (hC : C = 128 * N) (r : Fin R) (c : Fin C) :
    (lanes x w hw hi h1 h3 h2 hs hx hb hc (ix2 r c) : EReal)
      = (x (ix2 r c) : EReal) * Ideal.ofBits .bf16 (w (ix2 r (⟨c.val / 32, by have := c.isLt; omega⟩ : Fin 128))) := by
  have hc' := c.isLt
  unfold lanes
  rw [concatenate_ofFn_apply (1 : Fin (sh R C).rank) _ hc rfl 128 rfl (ix2 r c) (⟨c.val / 128, by omega⟩ : Fin N) rfl
    (ix2 r (⟨c.val % 128, by omega⟩ : Fin 128)) rfl (fun b hb' => by
      match b with
      | ⟨0, _⟩ => rfl
      | ⟨1, _⟩ => exact absurd rfl hb')]
  unfold lanePiece
  show extractStridedSlice (sh R 128) ![0, 128 * (c.val / 128)] x (hs ⟨c.val / 128, by omega⟩) (ix2 r (⟨c.val % 128, by omega⟩ : Fin 128))
    * Ideal.ofBits .bf16 (bitcast (sh R 128) 16 (dynamicGather 1 (bitcast (sh H 128) 32 w hw)
      (shifted (laneGroup H hi h1) (BitVec.ofNat 32 (4 * (c.val / 128))) h3 h2)) hb (ix2 r (⟨c.val % 128, by omega⟩ : Fin 128))) = _
  rw [gather_apply w _ hw hb r ⟨c.val % 128, by omega⟩ ⟨c.val / 32, by omega⟩ (fun q => by
      rw [shifted_apply hi h1 (⟨c.val / 128, by omega⟩ : Fin 12)]
      congr 1
      show 4 * (c.val / 128) + c.val % 128 / 32 = c.val / 32
      omega)]
  rw [extractStridedSlice_apply _ x _ _ (ix2 r c) (fun a => by
    match a with
    | ⟨0, _⟩ => show r.val = 0 + r.val; omega
    | ⟨1, _⟩ => show c.val = 128 * (c.val / 128) + c.val % 128; omega)]

end Cert.Proof

end
-- ==== Proof.Rows.lean ====
/-
  A block of codes with one scale word per column and 32 rows: what the kernels' sequence of operations computes for it.
  Each 32-bit word holds the same bfloat16 in both halves; a row of words, repeated 16 times and split into halves, is
  the scale of 32 rows of codes. Entry `(r, c)` of the result is code `(r, c)` times the bfloat16 that the half of word
  `(r / 32, c)` denotes.
-/
module

public import proofs.«01_k».proof.Proof.Lanes

@[expose] public section

noncomputable section

namespace Cert.Proof

open Idealize.ShloMosaic

/-- 32 rows of codes, from row `off`, times the row of words repeated and split into halves. -/
def rowPiece {R C : ℕ} {φ : FTy} (x : FVec Ideal (sh R C) φ) (row : IVec (sh 1 C) 32) (off : ℕ)
    (hs : (sh R C).Slices ![off, 0] (sh 32 C)) (hx : FTy.bits φ < FTy.bits .bf16) (h11 : (sh 1 C).ShapeCasts (sh 1 C))
    (hbr : (sh 1 C).Broadcasts (sh 16 C)) (hb : (sh 16 C).Bitcasts 32 (sh 32 C) 16) : FVec Ideal (sh 32 C) .bf16 :=
  mulf (extf .bf16 (extractStridedSlice (sh 32 C) ![off, 0] x hs) hx)
    (bitcastToFloat .bf16 (bitcast (sh 32 C) 16
      (broadcastTo (sh 16 C) (shapeCast (sh 1 C) (shapeCast (sh 1 C) row h11) h11) hbr) hb))

/-- The whole block: the pieces of 32 rows on top of each other. -/
def rows {R C N : ℕ} {φ : FTy} (x : FVec Ideal (sh R C) φ) (w : Vec Ideal (sh N C) .i32)
    (inb : ∀ n : Fin N, ∀ a, (![n.val, 0] : Fin (sh N C).rank → ℕ) a + (sh 1 C).size a ≤ (sh N C).size a)
    (hs : ∀ n : Fin N, (sh R C).Slices ![32 * n.val, 0] (sh 32 C)) (hx : FTy.bits φ < FTy.bits .bf16) (h11 : (sh 1 C).ShapeCasts (sh 1 C))
    (hbr : (sh 1 C).Broadcasts (sh 16 C)) (hb : (sh 16 C).Bitcasts 32 (sh 32 C) 16)
    (hc : Shape.Concatenates ((List.ofFn fun n : Fin N => (⟨sh 32 C, rowPiece x
      (View.ld w (Rect.unit (s := sh N C) ![n.val, 0] (sh 1 C).size (inb n))) (32 * n.val) (hs n) hx h11 hbr hb⟩ : (s : Shape) × (s.Idx → Ideal .bf16))).map (·.1)) (sh R C) 0) :
    FVec Ideal (sh R C) .bf16 :=
  concatenate (sh R C) 0 (List.ofFn fun n : Fin N => (⟨sh 32 C, rowPiece x
    (View.ld w (Rect.unit (s := sh N C) ![n.val, 0] (sh 1 C).size (inb n))) (32 * n.val) (hs n) hx h11 hbr hb⟩ : (s : Shape) × (s.Idx → Ideal .bf16))) hc

/-- A row of words repeated and split, at row `q`: the half `q % 2` of the word. -/
theorem split_apply {C : ℕ} (hC : C ≠ 1) (row : IVec (sh 1 C) 32) (h11 : (sh 1 C).ShapeCasts (sh 1 C))
    (hbr : (sh 1 C).Broadcasts (sh 16 C)) (hb : (sh 16 C).Bitcasts 32 (sh 32 C) 16) (q : Fin 32) (c : Fin C) :
    bitcast (sh 32 C) 16 (broadcastTo (sh 16 C) (shapeCast (sh 1 C) (shapeCast (sh 1 C) row h11) h11) hbr) hb (ix2 q c)
      = (row (ix2 (0 : Fin 1) c)).extractLsb' (16 * (q.val % 2)) 16 := by
  rw [shapeCast_self, shapeCast_self, bitcast_32_16]
  show (broadcastTo (sh 16 C) row hbr _).extractLsb' (16 * (q.val % 2)) 16 = _
  congr 1
  refine broadcastTo_apply row hbr _ _ fun a => ?_
  match a with
  | ⟨0, _⟩ => rfl
  | ⟨1, _⟩ =>
    show c.val = if C = 1 then 0 else _
    rw [if_neg hC]
    exact (Shape.Bitcasts.srcIdx_other hb (ix2 q c) (Shape.row (s := sh 32 C) (ix2 q c) / 2) _ (1 : Fin 2) (show ¬ 1 + 2 = 2 by decide)).symm

/-- Entry `(r, c)` of the block: the code times the value of the half of word `(r / 32, c)`. -/
theorem rows_apply {R C N : ℕ} {φ : FTy} (x : FVec Ideal (sh R C) φ) (w : Vec Ideal (sh N C) .i32) (inb)
    (hs : ∀ n : Fin N, (sh R C).Slices ![32 * n.val, 0] (sh 32 C)) (hx : FTy.bits φ < FTy.bits .bf16) (h11 : (sh 1 C).ShapeCasts (sh 1 C))
    (hbr : (sh 1 C).Broadcasts (sh 16 C)) (hb : (sh 16 C).Bitcasts 32 (sh 32 C) 16) (hc) (hC : C ≠ 1) (hR : R = 32 * N) (r : Fin R) (c : Fin C) :
    (rows x w inb hs hx h11 hbr hb hc (ix2 r c) : EReal)
      = (x (ix2 r c) : EReal) * Ideal.ofBits .bf16 (BitVec.extractLsb' (16 * (r.val % 32 % 2)) 16
        (w (ix2 (⟨r.val / 32, by have := r.isLt; omega⟩ : Fin N) c) : BitVec 32)) := by
  have hr := r.isLt
  unfold rows
  rw [concatenate_ofFn_apply (0 : Fin (sh R C).rank) _ hc rfl 32 rfl (ix2 r c) (⟨r.val / 32, by omega⟩ : Fin N) rfl
    (ix2 (⟨r.val % 32, by omega⟩ : Fin 32) c) rfl (fun b hb' => by
      match b with
      | ⟨0, _⟩ => exact absurd rfl hb'
      | ⟨1, _⟩ => rfl)]
  unfold rowPiece
  show extractStridedSlice (sh 32 C) ![32 * (r.val / 32), 0] x (hs ⟨r.val / 32, by omega⟩) (ix2 (⟨r.val % 32, by omega⟩ : Fin 32) c)
    * Ideal.ofBits .bf16 (bitcast (sh 32 C) 16 (broadcastTo (sh 16 C) (shapeCast (sh 1 C) (shapeCast (sh 1 C)
      (View.ld w (Rect.unit (s := sh N C) ![r.val / 32, 0] (sh 1 C).size (inb ⟨r.val / 32, by omega⟩)) : IVec (sh 1 C) 32) h11) h11) hbr) hb
      (ix2 (⟨r.val % 32, by omega⟩ : Fin 32) c)) = _
  rw [split_apply hC, extractStridedSlice_apply _ x _ _ (ix2 r c) (fun a => by
    match a with
    | ⟨0, _⟩ => show r.val = 32 * (r.val / 32) + r.val % 32; omega
    | ⟨1, _⟩ => show c.val = 0 + c.val; omega)]
  congr 3
  show w _ = w _
  congr 1
  funext a; apply Fin.ext
  match a with
  | ⟨0, _⟩ => show r.val / 32 + 1 * 0 = r.val / 32; omega
  | ⟨1, _⟩ => show 0 + 1 * c.val = c.val; omega

end Cert.Proof

end
-- ==== Proof.PrepBlock.lean ====
/-
  What one grid point of the weight kernel leaves in its five output blocks: two blocks of codes dequantised with the scales
  of 32 rows, and three blocks of codes dequantised with the scales of 32 columns and transposed.
-/
module

public import proofs.«01_k».proof.Proof.Rows
public import proofs.«01_k».proof.Proof.Lanes
public import proofs.«01_k».proof.Proof.Gen.PrepIdeal.Value
public import Idealize.ShloMosaic.Lib.Pointwise
public import Idealize.ShloMosaic.Lib.Tactic

@[expose] public section

noncomputable section

namespace Cert.PrepIdeal.Block

open Cert.PrepIdeal Cert.PrepIdeal.Gen Cert.Proof
open Idealize.ShloMosaic Idealize.ShloMosaic.TcCoe Idealize.SL.Sem

theorem hz : (![0, 0] : Fin 2 → Nat) = fun _ => 0 := funext fun a => by fin_cases a <;> rfl
theorem hz3 : (![0, 0, 0] : Fin 3 → Nat) = fun _ => 0 := funext fun a => by fin_cases a <;> rfl

/-- Row `n` of the 48 rows of words lies inside. -/
theorem inb (n : Fin 48) : ∀ a, (![n.val, 0] : Fin (sh 48 512).rank → ℕ) a + (sh 1 512).size a ≤ (sh 48 512).size a := fun a => by
  match a with
  | ⟨0, _⟩ => show n.val + 1 ≤ 48; omega
  | ⟨1, _⟩ => exact le_refl _

/-- The 32 rows of codes of words row `n` lie inside. -/
theorem slc (n : Fin 48) : (sh 1536 512).Slices ![32 * n.val, 0] (sh 32 512) := ⟨rfl, fun a => by
  match a with
  | ⟨0, _⟩ => show 32 * n.val + 32 ≤ 1536; omega
  | ⟨1, _⟩ => exact le_refl _⟩

/-- A block of codes dequantised with the scales of 32 rows. -/
def deqRows (x : FVec Ideal S1536x512 .fp8e4m3) (w : Vec Ideal S48x512 .i32) : FVec Ideal S1536x512 .bf16 :=
  rows (N := 48) x w inb slc bitsLt_fp8e4m3_bf16 shapeCasts_S1x512_S1x512 broadcasts_S1x512_S16x512 bitcasts_S16x512_w32_S32x512_w16
    concatenates_S32x512_S32x512_S32x512_S32x512_S32x512_S32x512_S32x512_S32x512_S32x512_S32x512_S32x512_S32x512_S32x512_S32x512_S32x512_S32x512_S32x512_S32x512_S32x512_S32x512_S32x512_S32x512_S32x512_S32x512_S32x512_S32x512_S32x512_S32x512_S32x512_S32x512_S32x512_S32x512_S32x512_S32x512_S32x512_S32x512_S32x512_S32x512_S32x512_S32x512_S32x512_S32x512_S32x512_S32x512_S32x512_S32x512_S32x512_S32x512_S1536x512_d0

/-- Its entries: the code times the value of the half word of its group. -/
theorem deqRows_entry (x : FVec Ideal S1536x512 .fp8e4m3) (w : Vec Ideal S48x512 .i32) (r : Fin 1536) (k : Fin 512) :
    (deqRows x w (ix2 r k) : EReal) = (x (ix2 r k) : EReal) * Ideal.ofBits .bf16 (BitVec.extractLsb' (16 * (r.val % 32 % 2)) 16
      (w (ix2 (⟨r.val / 32, by have := r.isLt; omega⟩ : Fin 48) k) : BitVec 32)) :=
  rows_apply (N := 48) x w _ _ _ _ _ _ _ (by norm_num) (by norm_num) r k

/-- 128 columns of the block of 1536 columns, and of 512. -/
theorem slcD (n : Fin 12) : (sh 512 1536).Slices ![0, 128 * n.val] (sh 512 128) := ⟨rfl, fun a => by
  match a with
  | ⟨0, _⟩ => exact le_refl _
  | ⟨1, _⟩ => show 128 * n.val + 128 ≤ 1536; omega⟩
theorem slcT (n : Fin 4) : (sh 1536 512).Slices ![0, 128 * n.val] (sh 1536 128) := ⟨rfl, fun a => by
  match a with
  | ⟨0, _⟩ => exact le_refl _
  | ⟨1, _⟩ => show 128 * n.val + 128 ≤ 512; omega⟩

/-- A block of 512 rows of codes dequantised with the scales of 32 columns. -/
def deqD (x : FVec Ideal S512x1536 .fp8e4m3) (w : IVec S512x128 16) : FVec Ideal S512x1536 .bf16 :=
  lanes (N := 12) (H := 256) x w bitcasts_S512x128_w16_S256x128_w32 iota_S256x128_d1_w32 natLt_1_32
    shapeCasts_S256x128_S256x128x1 shapeCasts_S256x128x1_S256x128 slcD bitsLt_fp8e4m3_bf16 bitcasts_S256x128_w32_S512x128_w16
    concatenates_S512x128_S512x128_S512x128_S512x128_S512x128_S512x128_S512x128_S512x128_S512x128_S512x128_S512x128_S512x128_S512x1536_d1

/-- A block of 512 columns of codes dequantised with the scales of 32 columns. -/
def deqT (x : FVec Ideal S1536x512 .fp8e4m3) (w : IVec S1536x128 16) : FVec Ideal S1536x512 .bf16 :=
  lanes (N := 4) (H := 768) x w bitcasts_S1536x128_w16_S768x128_w32 iota_S768x128_d1_w32 natLt_1_32
    shapeCasts_S768x128_S768x128x1 shapeCasts_S768x128x1_S768x128 slcT bitsLt_fp8e4m3_bf16 bitcasts_S768x128_w32_S1536x128_w16
    concatenates_S1536x128_S1536x128_S1536x128_S1536x128_S1536x512_d1

/-- Their entries: the code times the value of the word of its group. -/
theorem deqD_entry (x : FVec Ideal S512x1536 .fp8e4m3) (w : IVec S512x128 16) (r : Fin 512) (k : Fin 1536) (hk : k.val / 32 < 128) :
    (deqD x w (ix2 r k) : EReal) = (x (ix2 r k) : EReal) * Ideal.ofBits .bf16 (w (ix2 r (⟨k.val / 32, hk⟩ : Fin 128))) :=
  lanes_apply (N := 12) x w _ _ _ _ _ _ _ _ _ (by norm_num) (by norm_num) r k
theorem deqT_entry (x : FVec Ideal S1536x512 .fp8e4m3) (w : IVec S1536x128 16) (r : Fin 1536) (k : Fin 512) (hk : k.val / 32 < 128) :
    (deqT x w (ix2 r k) : EReal) = (x (ix2 r k) : EReal) * Ideal.ofBits .bf16 (w (ix2 r (⟨k.val / 32, hk⟩ : Fin 128))) :=
  lanes_apply (N := 4) x w _ _ _ _ _ _ _ _ _ (by norm_num) (by norm_num) r k

/-- The words of a block whose leading axis is a unit. -/
def words (x : Vec Ideal S1x1536x128 .i16) : IVec S1536x128 16 := shapeCast S1536x128 x shapeCasts_S1x1536x128_S1536x128

theorem words_apply (x : Vec Ideal S1x1536x128 .i16) (r : Fin 1536) (g : Fin 128) : words x (ix2 r g) = x (ix3 (0 : Fin 1) r g) := by
  refine shapeCast_apply x _ _ _ ?_
  rw [Shape.rowMajor_val_three, Shape.rowMajor_val_two]
  show (0 * 1536 + r.val) * 128 + g.val = r.val * 128 + g.val
  omega

variable (x0 x1 : Vec Ideal S1536x512 .fp8e4m3) (x2 x3 : Vec Ideal S48x512 .i32) (x4 : Vec Ideal S512x1536 .fp8e4m3)
    (x5 : Vec Ideal S512x128 .i16) (x6 x7 : Vec Ideal S1536x512 .fp8e4m3) (x8 x9 : Vec Ideal S1x1536x128 .i16)

theorem out10_eq : out0_10 (F := Ideal) x0 x1 x2 x3 x4 x5 x6 x7 x8 x9 = deqRows x0 x2 := by
  unfold out0_10
  rw [View.canon_unit_zero (S := S1536x512) hz]
  refine (show _ = deqRows (shapeCast S1536x512 (View.ld x0 r0_0 : FVec Ideal S1536x512 .fp8e4m3) shapeCasts_S1536x512_S1536x512) x2 from rfl).trans ?_
  exact congrArg (fun a => deqRows a x2) ((shapeCast_self _ _).trans (View.ld_unit_zero (S := S1536x512) hz _ _))

theorem out11_eq : out0_11 (F := Ideal) x0 x1 x2 x3 x4 x5 x6 x7 x8 x9 = deqRows x1 x3 := by
  unfold out0_11
  rw [View.canon_unit_zero (S := S1536x512) hz]
  refine (show _ = deqRows (shapeCast S1536x512 (View.ld x1 r0_0 : FVec Ideal S1536x512 .fp8e4m3) shapeCasts_S1536x512_S1536x512) x3 from rfl).trans ?_
  exact congrArg (fun a => deqRows a x3) ((shapeCast_self _ _).trans (View.ld_unit_zero (S := S1536x512) hz _ _))

theorem out12_eq : out0_12 (F := Ideal) x0 x1 x2 x3 x4 x5 x6 x7 x8 x9
    = transpose S1536x512 [1, 0] (deqD x4 x5) transposes_S512x1536_p1_0_S1536x512 := by
  unfold out0_12
  rw [View.canon_unit_zero (S := S1536x512) hz]
  refine (show _ = transpose S1536x512 [1, 0] (deqD (View.ld x4 r0_49 : FVec Ideal S512x1536 .fp8e4m3)
    (shapeCast S512x128 (View.ld x5 r0_50 : IVec S512x128 16) shapeCasts_S512x128_S512x128)) transposes_S512x1536_p1_0_S1536x512 from rfl).trans ?_
  exact congrArg (fun a => transpose S1536x512 [1, 0] a transposes_S512x1536_p1_0_S1536x512) (congrArg₂ deqD
    (View.ld_unit_zero (S := S512x1536) hz _ _) ((shapeCast_self _ _).trans (View.ld_unit_zero (S := S512x128) hz _ _)))

theorem out13_eq : out0_13 (F := Ideal) x0 x1 x2 x3 x4 x5 x6 x7 x8 x9
    = transpose S512x1536 [1, 0] (deqT x6 (words x8)) transposes_S1536x512_p1_0_S512x1536 := by
  unfold out0_13
  rw [View.canon_unit_zero (S := S512x1536) hz]
  refine (show _ = transpose S512x1536 [1, 0] (deqT (shapeCast S1536x512 (View.ld x6 r0_0 : FVec Ideal S1536x512 .fp8e4m3) shapeCasts_S1536x512_S1536x512)
    (words (View.ld x8 r0_51 : Vec Ideal S1x1536x128 .i16))) transposes_S1536x512_p1_0_S512x1536 from rfl).trans ?_
  exact congrArg (fun a => transpose S512x1536 [1, 0] a transposes_S1536x512_p1_0_S512x1536) (congrArg₂ deqT
    ((shapeCast_self _ _).trans (View.ld_unit_zero (S := S1536x512) hz _ _)) (congrArg words (View.ld_unit_zero (S := S1x1536x128) hz3 _ _)))

theorem out14_eq : out0_14 (F := Ideal) x0 x1 x2 x3 x4 x5 x6 x7 x8 x9
    = transpose S512x1536 [1, 0] (deqT x7 (words x9)) transposes_S1536x512_p1_0_S512x1536 := by
  unfold out0_14
  rw [View.canon_unit_zero (S := S512x1536) hz]
  refine (show _ = transpose S512x1536 [1, 0] (deqT (shapeCast S1536x512 (View.ld x7 r0_0 : FVec Ideal S1536x512 .fp8e4m3) shapeCasts_S1536x512_S1536x512)
    (words (View.ld x9 r0_51 : Vec Ideal S1x1536x128 .i16))) transposes_S1536x512_p1_0_S512x1536 from rfl).trans ?_
  exact congrArg (fun a => transpose S512x1536 [1, 0] a transposes_S1536x512_p1_0_S512x1536) (congrArg₂ deqT
    ((shapeCast_self _ _).trans (View.ld_unit_zero (S := S1536x512) hz _ _)) (congrArg words (View.ld_unit_zero (S := S1x1536x128) hz3 _ _)))

/-- Transposed blocks at an index. -/
theorem transD_apply (x : FVec Ideal S512x1536 .bf16) (r : Fin 1536) (l : Fin 512) :
    (transpose S1536x512 [1, 0] x transposes_S512x1536_p1_0_S1536x512 (ix2 r l) : EReal) = x (ix2 l r) :=
  transpose_apply _ _ _ _ _ fun a => by
    match a with
    | ⟨0, _⟩ => rfl
    | ⟨1, _⟩ => rfl
theorem transT_apply (x : FVec Ideal S1536x512 .bf16) (r : Fin 512) (l : Fin 1536) :
    (transpose S512x1536 [1, 0] x transposes_S1536x512_p1_0_S512x1536 (ix2 r l) : EReal) = x (ix2 l r) :=
  transpose_apply _ _ _ _ _ fun a => by
    match a with
    | ⟨0, _⟩ => rfl
    | ⟨1, _⟩ => rfl

end Cert.PrepIdeal.Block

end
-- ==== Proof.Scale.lean ====
/-
  What a power-of-two scale byte means over the extended reals, and that the three ways it is written — moved into the
  exponent field of a bfloat16, doubled into both halves of a 32-bit word, computed with `exp2` — all mean it.
-/
module

public import Idealize.ShloMosaic.PureOps
public import Idealize.ShloMosaic.Lib.Pointwise
public import Idealize.ShloMosaic.Lib.KernelVsHost

@[expose] public section

noncomputable section

namespace Cert.Proof

open Idealize.ShloMosaic

/-- The value of the scale byte `e`: nothing at 0, infinity at 255, otherwise 2 to the power `e - 127`. -/
def scale (e : BitVec 8) : EReal :=
  if e = 0#8 then 0 else if e = 255#8 then ⊤ else (((2 : ℝ) ^ ((e.toNat : ℤ) - 127) : ℝ) : EReal)

/-- The byte in the exponent field of a 16-bit word. -/
def word16 (e : BitVec 8) : BitVec 16 := (e.setWidth 32 <<< 7).setWidth 16

/-- The byte in the exponent fields of both halves of a 32-bit word. -/
def word32 (e : BitVec 8) : BitVec 32 := (e.setWidth 32 <<< 7) ||| (e.setWidth 32 <<< 23)

theorem word16_sign : ∀ e : BitVec 8, (word16 e).extractLsb' 15 1 = 0#1 := by decide +kernel
theorem word16_exponent : ∀ e : BitVec 8, (word16 e).extractLsb' 7 8 = e := by decide +kernel
theorem word16_fraction : ∀ e : BitVec 8, (word16 e).extractLsb' 0 7 = 0#7 := by decide +kernel
theorem word32_low : ∀ e : BitVec 8, (word32 e).extractLsb' 0 16 = word16 e := by decide +kernel
theorem word32_high : ∀ e : BitVec 8, (word32 e).extractLsb' 16 16 = word16 e := by decide +kernel

/-- Either half of the doubled word is the 16-bit word. -/
theorem word32_half (e : BitVec 8) (p : ℕ) (hp : p < 2) : (word32 e).extractLsb' (16 * p) 16 = word16 e := by
  match p, hp with
  | 0, _ => exact word32_low e
  | 1, _ => exact word32_high e

/-- Read as a bfloat16, the 16-bit word is the scale. -/
theorem ofBits_word16 (e : BitVec 8) : Ideal.ofBits .bf16 (word16 e) = scale e := by
  have h1 := word16_sign e
  have h2 := word16_exponent e
  have h3 := word16_fraction e
  unfold scale
  show Ideal.ieee 8 7 (word16 e) = _
  unfold Ideal.ieee
  simp only [show 8 + 7 = 15 from rfl, h1, h2, h3]
  by_cases h0 : e = 0#8
  · subst h0; simp
  · by_cases hf : e = 255#8
    · subst hf; simp
    · have n0 : e.toNat ≠ 0 := fun h => h0 (BitVec.eq_of_toNat_eq (by simpa using h))
      have nf : e.toNat ≠ 255 := fun h => hf (BitVec.eq_of_toNat_eq (by simpa using h))
      rw [if_neg h0, if_neg hf, if_neg (by norm_num; exact nf), if_neg n0]
      congr 1
      have h7 : (128 : ℝ) = (2 : ℝ) ^ (7 : ℤ) := by norm_num
      simp only [show ((0#1 : BitVec 1) == 1#1) = false from rfl]
      push_cast
      simp only [BitVec.toNat_ofNat, Nat.zero_mod, Nat.cast_zero, add_zero, one_mul, Bool.false_eq_true, if_false]
      norm_num
      rw [h7, ← zpow_add₀ (by norm_num : (2 : ℝ) ≠ 0)]
      congr 1
      ring

theorem ofBits_127 : Ideal.ofBits .f32 0x42FE0000#32 = ((127 : ℝ) : EReal) := by
  simp [Ideal.ofBits, Ideal.ieee]
  rw [← EReal.coe_mul]
  congr 1
  norm_num

theorem ofBits_inf : Ideal.ofBits .f32 0x7F800000#32 = ⊤ := by
  simp [Ideal.ofBits, Ideal.ieee]

theorem ext_eq_zero : ∀ e : BitVec 8, (e.setWidth 32 = 0#32) = (e = 0#8) := by
  intro e; exact propext (by revert e; decide +kernel)
theorem ext_eq_255 : ∀ e : BitVec 8, (e.setWidth 32 = 255#32) = (e = 255#8) := by
  intro e; exact propext (by revert e; decide +kernel)
theorem ext_toInt : ∀ e : BitVec 8, (e.setWidth 32).toInt = (e.toNat : ℤ) := by decide +kernel

/-- The scale computed: 0 and 255 set apart, otherwise `exp2 (e - 127)`. -/
theorem scale_eq (e : BitVec 8) :
    (if e.setWidth 32 = 0#32 then (0 : EReal) else if e.setWidth 32 = 255#32 then ⊤
      else Ideal.exp2 ((((e.setWidth 32).toInt : ℝ) : EReal) - ((127 : ℝ) : EReal))) = scale e := by
  unfold scale
  simp only [ext_eq_zero, ext_eq_255, ext_toInt]
  by_cases h0 : e = 0#8
  · rw [if_pos h0, if_pos h0]
  · rw [if_neg h0, if_neg h0]
    by_cases hf : e = 255#8
    · rw [if_pos hf, if_pos hf]
    · rw [if_neg hf, if_neg hf, ← EReal.coe_sub, Ideal.exp2_coe]
      congr 1
      rw [show ((((e.toNat : ℤ) : ℝ)) - 127 : ℝ) = (((e.toNat : ℤ) - 127 : ℤ) : ℝ) by push_cast; ring]
      exact Real.rpow_intCast 2 _

end Cert.Proof

end
-- ==== Proof.Words.lean ====
/-
  The words that carry the scales: an exponent byte widened, shifted, and narrowed or paired with itself, read at an index.
-/
module

public import proofs.«01_k».proof.Proof.Scale
public import proofs.«01_k».proof.Proof.Lanes
public import Idealize.ShloMosaic.Lib.KernelVsHost

@[expose] public section

noncomputable section

namespace Cert.Proof

open Idealize.ShloMosaic

theorem hostShli_seven (x : BitVec 32) : IntOp.shli .host x 7#32 = x <<< 7 := by
  simp [IntOp.shli, IntOp.cornerWord]

theorem hostShli_23 (x : BitVec 32) : IntOp.shli .host x 23#32 = x <<< 23 := by
  simp [IntOp.shli, IntOp.cornerWord]

/-- The byte shifted by 7 and narrowed to 16 bits. -/
theorem shift16_apply {s : Shape} (e : IVec s 8) (h : 8 < 32) (h' : 16 < 32) (b : IVec s 32) (hb : ∀ i, b i = 7#32) (i : s.Idx) :
    trunci 16 (Host.shli (extui 32 e h) b) h' i = word16 (e i) := by
  show (IntOp.shli .host ((e i).setWidth 32) (b i)).setWidth 16 = _
  rw [hb, hostShli_seven]
  rfl

/-- The byte in both halves of a 32-bit word. -/
theorem shift32_apply {s : Shape} (e : IVec s 8) (h : 8 < 32) (b d : IVec s 32) (hb : ∀ i, b i = 7#32) (hd : ∀ i, d i = 23#32)
    (i : s.Idx) : ori (Host.shli (extui 32 e h) b) (Host.shli (extui 32 e h) d) i = word32 (e i) := by
  show IntOp.shli .host ((e i).setWidth 32) (b i) ||| IntOp.shli .host ((e i).setWidth 32) (d i) = _
  rw [hb, hd, hostShli_seven, hostShli_23]
  rfl

/-- An array of `M` columns padded to 128: a column below `M` keeps its word. -/
theorem padCols_apply {R M P : ℕ} {α : Type} (x : (sh R M).Idx → α) {u : Shape} (v : u.Idx → α)
    (h : (sh R M).Pads ![0, 0] ![0, P] ![0, 0] (sh R 128)) (hu : 0 < u.numel) (i : Fin R) (g : Fin M) (hg : g.val < 128) :
    pad (sh R 128) ![0, 0] ![0, P] ![0, 0] x v h hu (ix2 i (⟨g.val, hg⟩ : Fin 128)) = x (ix2 i g) :=
  pad_apply_of_inside _ _ _ x v h hu _ _ fun a => by
    match a with
    | ⟨0, _⟩ => show i.val = 0 + i.val * (0 + 1); omega
    | ⟨1, _⟩ => show g.val = 0 + g.val * (0 + 1); omega

end Cert.Proof

end
-- ==== Proof.RefScale.lean ====
/-
  A block of codes dequantised the plain way: the codes grouped in 32, one computed scale for a group, and the groups put
  back. Entry `(r, c)` is code `(r, c)` times the scale of its group.
-/
module

public import proofs.«01_k».proof.Proof.Scale
public import proofs.«01_k».proof.Proof.Lanes

@[expose] public section

noncomputable section

namespace Cert.Proof

open Idealize.ShloMosaic

/-- Two indices of a matrix with equal coordinates are one. -/
theorem idx_ext2 {n d : ℕ} (p q : (sh n d).Idx) (h0 : (p 0).val = (q 0).val) (h1 : (p 1).val = (q 1).val) : p = q := by
  funext a; apply Fin.ext
  match a with
  | ⟨0, _⟩ => exact h0
  | ⟨1, _⟩ => exact h1

/-- The scales of an array of bytes, computed: 0 and 255 set apart, otherwise `exp2 (e - 127)`. -/
def refScale {s : Shape} (e : IVec s 8) (h : 8 < 32) (hb : FTy.bits .bf16 < FTy.bits .f32) : FVec Ideal s .bf16 :=
  have v6 : IVec s 32 := extui 32 e h
  have v7 : FVec Ideal s .f32 := sitofp .f32 v6
  have cst : Ideal .f32 := Scalar.ofBits .f32 0x42FE0000#32
  have v8 : FVec Ideal s .f32 := broadcast s cst
  have v9 : FVec Ideal s .f32 := subf v7 v8
  have v10 : FVec Ideal s .f32 := exp2 v9
  have v11 : IVec s 32 := broadcast s 0#32
  have v12 : IVec s 1 := cmpi .eq v6 v11
  have v13 : IVec s 32 := broadcast s 255#32
  have v14 : IVec s 1 := cmpi .eq v6 v13
  have cst_3 : Ideal .f32 := Scalar.ofBits .f32 0x7F800000#32
  have v15 : FVec Ideal s .f32 := broadcast s cst_3
  have v16 : FVec Ideal s .f32 := select v14 v15 v10
  have cst_4 : Ideal .f32 := Scalar.ofBits .f32 0x00000000#32
  have v17 : FVec Ideal s .f32 := broadcast s cst_4
  have v18 : FVec Ideal s .f32 := select v12 v17 v16
  truncf .bf16 v18 hb

theorem cmpi_eq_one {w : ℕ} (x y : BitVec w) (α : Type) (a b : α) : Scalar.select (Scalar.cmpi .eq x y) a b = if x = y then a else b := by
  by_cases h : x = y
  · subst h; simp [Scalar.select, Scalar.cmpi, IntOp.cmpi]
  · have hb : (x == y) = false := by simpa using h
    simp [Scalar.select, Scalar.cmpi, IntOp.cmpi, h, hb]

/-- Each is the scale of its byte. -/
theorem refScale_apply {s : Shape} (e : IVec s 8) (h : 8 < 32) (hb : FTy.bits .bf16 < FTy.bits .f32) (i : s.Idx) :
    (refScale e h hb i : EReal) = scale (e i) := by
  rw [← scale_eq]
  have h0 := cmpi_eq_one ((e i).setWidth 32) 0#32 EReal
  have h1 := cmpi_eq_one ((e i).setWidth 32) 255#32 EReal
  rw [← h0, ← h1, ← ofBits_127, ← ofBits_inf, ← Ideal.ofBits_zero_f32]
  rfl

/-- The groups of 32 rows. -/
def refRows {R C N : ℕ} {φ : FTy} (x : FVec Ideal (sh R C) φ) (e : IVec (sh N C) 8) (h : 8 < 32) (hb : FTy.bits .bf16 < FTy.bits .f32)
    (hx : FTy.bits φ < FTy.bits .bf16) (h3 : (sh R C).ShapeCasts ⟨3, ![N, 32, C]⟩) (h2 : (⟨3, ![N, 32, C]⟩ : Shape).ShapeCasts (sh R C))
    (h1 : (sh N C).ShapeCasts ⟨3, ![N, 1, C]⟩) (hbr : (⟨3, ![N, 1, C]⟩ : Shape).Broadcasts ⟨3, ![N, 32, C]⟩) : FVec Ideal (sh R C) .bf16 :=
  shapeCast (sh R C) (mulf (shapeCast ⟨3, ![N, 32, C]⟩ (extf .bf16 x hx) h3)
    (broadcastTo ⟨3, ![N, 32, C]⟩ (shapeCast ⟨3, ![N, 1, C]⟩ (refScale e h hb) h1) hbr)) h2

theorem refRows_apply {R C N : ℕ} {φ : FTy} (x : FVec Ideal (sh R C) φ) (e : IVec (sh N C) 8) (h : 8 < 32) (hb : FTy.bits .bf16 < FTy.bits .f32)
    (hx : FTy.bits φ < FTy.bits .bf16) (h3 : (sh R C).ShapeCasts ⟨3, ![N, 32, C]⟩) (h2 : (⟨3, ![N, 32, C]⟩ : Shape).ShapeCasts (sh R C))
    (h1 : (sh N C).ShapeCasts ⟨3, ![N, 1, C]⟩) (hbr : (⟨3, ![N, 1, C]⟩ : Shape).Broadcasts ⟨3, ![N, 32, C]⟩)
    (hN : N ≠ 1) (hC : C ≠ 1) (hR : R = 32 * N) (r : Fin R) (c : Fin C) :
    (refRows x e h hb hx h3 h2 h1 hbr (ix2 r c) : EReal)
      = (x (ix2 r c) : EReal) * scale (e (ix2 (⟨r.val / 32, by have := r.isLt; omega⟩ : Fin N) c)) := by
  have hr := r.isLt
  unfold refRows
  have hm : r.val / 32 * 32 + r.val % 32 = r.val := by omega
  rw [shapeCast_apply _ h2 (ix2 r c) (ix3 (⟨r.val / 32, by omega⟩ : Fin N) (⟨r.val % 32, by omega⟩ : Fin 32) c) (by
    rw [Shape.rowMajor_val_three, Shape.rowMajor_val_two]
    show (r.val / 32 * 32 + r.val % 32) * C + c.val = r.val * C + c.val
    rw [hm])]
  show (shapeCast ⟨3, ![N, 32, C]⟩ (extf .bf16 x hx) h3 _ : EReal) * broadcastTo ⟨3, ![N, 32, C]⟩ _ hbr _ = _
  rw [shapeCast_apply _ h3 _ (ix2 r c) (by
    rw [Shape.rowMajor_val_three, Shape.rowMajor_val_two]
    show r.val * C + c.val = (r.val / 32 * 32 + r.val % 32) * C + c.val
    rw [hm]), broadcastTo_apply _ hbr _ (ix3 (⟨r.val / 32, by omega⟩ : Fin N) (0 : Fin 1) c) (fun a => by
      match a with
      | ⟨0, _⟩ => show r.val / 32 = if N = 1 then 0 else r.val / 32; rw [if_neg hN]
      | ⟨1, _⟩ => rfl
      | ⟨2, _⟩ => show c.val = if C = 1 then 0 else c.val; rw [if_neg hC]),
    shapeCast_apply _ h1 _ (ix2 (⟨r.val / 32, by omega⟩ : Fin N) c) (by
    rw [Shape.rowMajor_val_three, Shape.rowMajor_val_two]
    show r.val / 32 * C + c.val = (r.val / 32 * 1 + 0) * C + c.val
    rw [Nat.mul_one, Nat.add_zero])]
  exact congrArg _ (refScale_apply e h hb _)

/-- The groups of 32 columns. -/
def refLanes {R C M : ℕ} {φ : FTy} (x : FVec Ideal (sh R C) φ) (e : IVec (sh R M) 8) (h : 8 < 32) (hb : FTy.bits .bf16 < FTy.bits .f32)
    (hx : FTy.bits φ < FTy.bits .bf16) (h3 : (sh R C).ShapeCasts ⟨3, ![R, M, 32]⟩) (h2 : (⟨3, ![R, M, 32]⟩ : Shape).ShapeCasts (sh R C))
    (h1 : (sh R M).ShapeCasts ⟨3, ![R, M, 1]⟩) (hbr : (⟨3, ![R, M, 1]⟩ : Shape).Broadcasts ⟨3, ![R, M, 32]⟩) : FVec Ideal (sh R C) .bf16 :=
  shapeCast (sh R C) (mulf (shapeCast ⟨3, ![R, M, 32]⟩ (extf .bf16 x hx) h3)
    (broadcastTo ⟨3, ![R, M, 32]⟩ (shapeCast ⟨3, ![R, M, 1]⟩ (refScale e h hb) h1) hbr)) h2

theorem refLanes_apply {R C M : ℕ} {φ : FTy} (x : FVec Ideal (sh R C) φ) (e : IVec (sh R M) 8) (h : 8 < 32) (hb : FTy.bits .bf16 < FTy.bits .f32)
    (hx : FTy.bits φ < FTy.bits .bf16) (h3 : (sh R C).ShapeCasts ⟨3, ![R, M, 32]⟩) (h2 : (⟨3, ![R, M, 32]⟩ : Shape).ShapeCasts (sh R C))
    (h1 : (sh R M).ShapeCasts ⟨3, ![R, M, 1]⟩) (hbr : (⟨3, ![R, M, 1]⟩ : Shape).Broadcasts ⟨3, ![R, M, 32]⟩)
    (hR : R ≠ 1) (hM : M ≠ 1) (hC : C = 32 * M) (r : Fin R) (c : Fin C) :
    (refLanes x e h hb hx h3 h2 h1 hbr (ix2 r c) : EReal)
      = (x (ix2 r c) : EReal) * scale (e (ix2 r (⟨c.val / 32, by have := c.isLt; omega⟩ : Fin M))) := by
  have hc := c.isLt
  have hm : (r.val * M + c.val / 32) * 32 + c.val % 32 = r.val * C + c.val := by
    have h := Nat.div_add_mod c.val 32
    have hrC : r.val * C = r.val * M * 32 := by
      rw [Nat.mul_assoc, Nat.mul_comm M 32]; exact congrArg (r.val * ·) hC
    rw [hrC, Nat.add_mul]; omega
  unfold refLanes
  rw [shapeCast_apply _ h2 (ix2 r c) (ix3 r (⟨c.val / 32, by omega⟩ : Fin M) (⟨c.val % 32, by omega⟩ : Fin 32)) (by
    rw [Shape.rowMajor_val_three, Shape.rowMajor_val_two]
    exact hm)]
  show (shapeCast ⟨3, ![R, M, 32]⟩ (extf .bf16 x hx) h3 _ : EReal) * broadcastTo ⟨3, ![R, M, 32]⟩ _ hbr _ = _
  rw [shapeCast_apply _ h3 _ (ix2 r c) (by
    rw [Shape.rowMajor_val_three, Shape.rowMajor_val_two]
    exact hm.symm), broadcastTo_apply _ hbr _ (ix3 r (⟨c.val / 32, by omega⟩ : Fin M) (0 : Fin 1)) (fun a => by
      match a with
      | ⟨0, _⟩ => show r.val = if R = 1 then 0 else r.val; rw [if_neg hR]
      | ⟨1, _⟩ => show c.val / 32 = if M = 1 then 0 else c.val / 32; rw [if_neg hM]
      | ⟨2, _⟩ => rfl),
    shapeCast_apply _ h1 _ (ix2 r (⟨c.val / 32, by omega⟩ : Fin M)) (by
    rw [Shape.rowMajor_val_three, Shape.rowMajor_val_two]
    show r.val * M + c.val / 32 = (r.val * M + c.val / 32) * 1 + 0
    omega)]
  exact congrArg _ (refScale_apply e h hb _)

end Cert.Proof

end
-- ==== Proof.PrepSpec.lean ====
/-
  The mathematics of the weight dequantisation, entry by entry over the extended reals: one of the two matrices held side
  by side in an array, codes with one scale for 32 rows, and codes with one scale for 32 columns, transposed. Also how the
  layout operations of the host read at an index.
-/
module

public import proofs.«01_k».proof.Proof.Words
public import proofs.«01_k».proof.Proof.RefScale

@[expose] public section

noncomputable section

namespace Cert.Proof

open Idealize.ShloMosaic

/-- Matrix `b` of the two that the middle axis of an array holds. -/
def member {R C : ℕ} {α : Type} (x : (⟨3, ![R, 2, C]⟩ : Shape).Idx → α) (b : Fin 2) : (sh R C).Idx → α :=
  fun j => x (ix3 (j 0) b (j 1))

/-- Codes dequantised with one exponent for 32 rows. -/
def wRows (X : (sh 1536 6144).Idx → EReal) (E : (sh 48 6144).Idx → BitVec 8) : (sh 1536 6144).Idx → EReal :=
  fun j => X (ix2 (j 0) (j 1)) * scale (E (ix2 (⟨(j 0).val / 32, by have : (j 0).val < 1536 := (j 0).isLt; omega⟩ : Fin 48) (j 1)))

/-- Codes dequantised with one exponent for 32 columns, transposed. -/
def wLanes {R C M : ℕ} (hC : C = 32 * M) (X : (sh R C).Idx → EReal) (E : (sh R M).Idx → BitVec 8) : (sh C R).Idx → EReal :=
  fun j => X (ix2 (j 1) (j 0)) * scale (E (ix2 (j 1) (⟨(j 0).val / 32, by have : (j 0).val < C := (j 0).isLt; omega⟩ : Fin M)))

/-- The slice of one matrix, its unit axis dropped, is that matrix. -/
theorem member_slice {R C : ℕ} {α : Type} (x : (⟨3, ![R, 2, C]⟩ : Shape).Idx → α) (b : Fin 2)
    (h : (⟨3, ![R, 2, C]⟩ : Shape).Slices ![0, b.val, 0] ⟨3, ![R, 1, C]⟩) (h2 : (⟨3, ![R, 1, C]⟩ : Shape).ShapeCasts (sh R C)) :
    shapeCast (sh R C) (extractStridedSlice ⟨3, ![R, 1, C]⟩ ![0, b.val, 0] x h) h2 = member x b := by
  funext j
  rw [shapeCast_apply _ h2 j (ix3 (j 0) (0 : Fin 1) (j 1)) (by
    rw [Shape.rowMajor_val_three, Shape.rowMajor_val_two]
    show ((j 0).val * 1 + 0) * C + (j 1).val = (j 0).val * C + (j 1).val
    rw [Nat.mul_one, Nat.add_zero])]
  refine extractStridedSlice_apply _ x h _ (ix3 (j 0) b (j 1)) fun a => ?_
  match a with
  | ⟨0, _⟩ => show (j 0).val = 0 + (j 0).val; omega
  | ⟨1, _⟩ => show b.val = b.val + 0; omega
  | ⟨2, _⟩ => show (j 1).val = 0 + (j 1).val; omega

/-- An array of `M` lanes padded to 128: a lane below `M` keeps its word. -/
theorem padLanes_apply {B R M P : ℕ} {α : Type} (x : (⟨3, ![B, R, M]⟩ : Shape).Idx → α) {u : Shape} (v : u.Idx → α)
    (h : (⟨3, ![B, R, M]⟩ : Shape).Pads ![0, 0, 0] ![0, 0, P] ![0, 0, 0] ⟨3, ![B, R, 128]⟩) (hu : 0 < u.numel)
    (b : Fin B) (i : Fin R) (g : Fin M) (hg : g.val < 128) :
    pad ⟨3, ![B, R, 128]⟩ ![0, 0, 0] ![0, 0, P] ![0, 0, 0] x v h hu (ix3 b i (⟨g.val, hg⟩ : Fin 128)) = x (ix3 b i g) :=
  pad_apply_of_inside _ _ _ x v h hu _ _ fun a => by
    match a with
    | ⟨0, _⟩ => show b.val = 0 + b.val * (0 + 1); omega
    | ⟨1, _⟩ => show i.val = 0 + i.val * (0 + 1); omega
    | ⟨2, _⟩ => show g.val = 0 + g.val * (0 + 1); omega

/-- Columns cut into blocks of `M`, the block axis moved to the front. -/
theorem blocksOfCols_apply {R B M C : ℕ} {α : Type} (x : (sh R C).Idx → α) (h : (sh R C).ShapeCasts ⟨3, ![R, B, M]⟩)
    (h2 : (⟨3, ![R, B, M]⟩ : Shape).Transposes [1, 0, 2] ⟨3, ![B, R, M]⟩) (hC : C = B * M) (b : Fin B) (i : Fin R) (g : Fin M)
    (hg : b.val * M + g.val < C) :
    transpose ⟨3, ![B, R, M]⟩ [1, 0, 2] (shapeCast ⟨3, ![R, B, M]⟩ x h) h2 (ix3 b i g) = x (ix2 i (⟨b.val * M + g.val, hg⟩ : Fin C)) := by
  rw [transpose_apply _ _ h2 _ (ix3 i b g) (fun a => by
    match a with
    | ⟨0, _⟩ => rfl
    | ⟨1, _⟩ => rfl
    | ⟨2, _⟩ => rfl)]
  refine shapeCast_apply x h _ _ ?_
  rw [Shape.rowMajor_val_three, Shape.rowMajor_val_two]
  show i.val * C + (b.val * M + g.val) = (i.val * B + b.val) * M + g.val
  rw [Nat.add_mul, Nat.mul_assoc, ← hC, Nat.add_assoc]

end Cert.Proof

end
-- ==== Proof.PrepValue.lean ====
/-
  What the weight kernel's five result arrays hold over the extended reals: the dequantised weights, one block of 512
  columns or rows from each grid point.
-/
module

public import proofs.«01_k».proof.Proof.PrepBlock
public import proofs.«01_k».proof.Proof.PrepSpec
public import Idealize.ShloMosaic.Lib.StableHlo.ReadAt
public import Idealize.ShloMosaic.Lib.Pipeline.ValueKit.Point

@[expose] public section

noncomputable section

namespace Cert.PrepIdeal.Array

open Cert.PrepIdeal Cert.PrepIdeal.Gen Cert.PrepIdeal.Value Cert.PrepIdeal.Block Cert.Proof
open Idealize.ShloMosaic Idealize.ShloMosaic.TcCoe Idealize.SL.Sem

variable (m : (ℓ : Loc nD τ sig) → Buf (Elt Ideal) ℓ)

/-- The gate (`0`) and up (`1`) codes and exponents of device `c`, in both layouts, and the down codes and exponents. -/
abbrev guc (c : Dev nD) (b : Fin 2) : (sh 1536 6144).Idx → EReal := member (m ((c : Thread nD τ).loc main_arg0) : S1536x2x6144.Idx → EReal) b
abbrev gue (c : Dev nD) (b : Fin 2) : (sh 48 6144).Idx → BitVec 8 := member (m ((c : Thread nD τ).loc main_arg1) : S48x2x6144.Idx → BitVec 8) b
abbrev gutc (c : Dev nD) (b : Fin 2) : (sh 1536 6144).Idx → EReal := member (m ((c : Thread nD τ).loc main_arg2) : S1536x2x6144.Idx → EReal) b
abbrev gute (c : Dev nD) (b : Fin 2) : (sh 1536 192).Idx → BitVec 8 := member (m ((c : Thread nD τ).loc main_arg3) : S1536x2x192.Idx → BitVec 8) b
abbrev wdc (c : Dev nD) : (sh 6144 1536).Idx → EReal := m ((c : Thread nD τ).loc main_arg4)
abbrev wde (c : Dev nD) : (sh 6144 48).Idx → BitVec 8 := m ((c : Thread nD τ).loc main_arg5)

theorem V1 (c : Dev nD) : (V m c main_v1 : S1536x6144.Idx → EReal) = guc m c 0 := by
  unfold V
  after_reads_simp
  exact member_slice _ 0 _ _
theorem V3 (c : Dev nD) : (V m c main_v3 : S1536x6144.Idx → EReal) = guc m c 1 := by
  unfold V
  after_reads_simp
  exact member_slice _ 1 _ _
theorem V21 (c : Dev nD) : (V m c main_v21 : S1536x6144.Idx → EReal) = gutc m c 0 := by
  unfold V
  after_reads_simp
  exact member_slice _ 0 _ _
theorem V23 (c : Dev nD) : (V m c main_v23 : S1536x6144.Idx → EReal) = gutc m c 1 := by
  unfold V
  after_reads_simp
  exact member_slice _ 1 _ _

/-- The pair word of each exponent. -/
theorem V11 (c : Dev nD) (i : S48x6144.Idx) : (V m c main_v11 : S48x6144.Idx → BitVec 32) i = word32 (gue m c 0 i) := by
  unfold V
  after_reads_simp
  exact (shift32_apply _ _ _ _ (fun _ => rfl) (fun _ => rfl) _).trans (congrArg word32 (congrFun (member_slice _ 0 _ _) i))
theorem V19 (c : Dev nD) (i : S48x6144.Idx) : (V m c main_v19 : S48x6144.Idx → BitVec 32) i = word32 (gue m c 1 i) := by
  unfold V
  after_reads_simp
  exact (shift32_apply _ _ _ _ (fun _ => rfl) (fun _ => rfl) _).trans (congrArg word32 (congrFun (member_slice _ 1 _ _) i))

/-- The word of group `g` of row `i`'s scales. -/
theorem V28 (c : Dev nD) (i : Fin 6144) (g : Fin 48) (hg : g.val < 128) :
    (V m c main_v28 : S6144x128.Idx → BitVec 16) (ix2 i (⟨g.val, hg⟩ : Fin 128)) = word16 (wde m c (ix2 i g)) := by
  unfold V
  after_reads_simp
  simp only [StableHlo.TRef.toBuf, StableHlo.TRef.ofBuf, cast_eq]
  exact (padCols_apply _ _ _ _ i g hg).trans (shift16_apply _ _ _ _ (fun _ => rfl) _)

/-- The word of group `g` of column block `b` of row `i`'s scales. -/
theorem V37 (c : Dev nD) (b : Fin 12) (i : Fin 1536) (g : Fin 16) (hg : g.val < 128) (hb : b.val * 16 + g.val < 192) :
    (V m c main_v37 : S12x1536x128.Idx → BitVec 16) (ix3 b i (⟨g.val, hg⟩ : Fin 128))
      = word16 (gute m c 0 (ix2 i (⟨b.val * 16 + g.val, hb⟩ : Fin 192))) := by
  unfold V
  after_reads_simp
  simp only [StableHlo.TRef.toBuf, StableHlo.TRef.ofBuf, cast_eq]
  refine (padLanes_apply _ _ _ _ b i g hg).trans ((blocksOfCols_apply _ _ _ (by norm_num) b i g hb).trans
    ((shift16_apply _ _ _ _ (fun _ => rfl) _).trans ?_))
  exact congrArg word16 (congrFun (member_slice _ 0 _ _) _)
theorem V46 (c : Dev nD) (b : Fin 12) (i : Fin 1536) (g : Fin 16) (hg : g.val < 128) (hb : b.val * 16 + g.val < 192) :
    (V m c main_v46 : S12x1536x128.Idx → BitVec 16) (ix3 b i (⟨g.val, hg⟩ : Fin 128))
      = word16 (gute m c 1 (ix2 i (⟨b.val * 16 + g.val, hb⟩ : Fin 192))) := by
  unfold V
  after_reads_simp
  simp only [StableHlo.TRef.toBuf, StableHlo.TRef.ofBuf, cast_eq]
  refine (padLanes_apply _ _ _ _ b i g hg).trans ((blocksOfCols_apply _ _ _ (by norm_num) b i g hb).trans
    ((shift16_apply _ _ _ _ (fun _ => rfl) _).trans ?_))
  exact congrArg word16 (congrFun (member_slice _ 1 _ _) _)

/-- Point `t` has block `t`. -/
theorem index_eq : ∀ t : Fin cfg0.N, (win0_0.index t (0 : Fin 2) = 0 ∧ win0_0.index t (1 : Fin 2) = t.val)
    ∧ (win0_1.index t (0 : Fin 2) = 0 ∧ win0_1.index t (1 : Fin 2) = t.val)
    ∧ (win0_2.index t (0 : Fin 2) = 0 ∧ win0_2.index t (1 : Fin 2) = t.val)
    ∧ (win0_3.index t (0 : Fin 2) = 0 ∧ win0_3.index t (1 : Fin 2) = t.val)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = 0 ∧ win0_6.index t (1 : Fin 2) = t.val)
    ∧ (win0_7.index t (0 : Fin 2) = 0 ∧ win0_7.index t (1 : Fin 2) = t.val) :=
  (by decide +kernel : ∀ t : Fin grid0.N, _)

theorem index3_eq : ∀ t : Fin cfg0.N, (win0_8.index t (0 : Fin 3) = t.val ∧ win0_8.index t (1 : Fin 3) = 0 ∧ win0_8.index t (2 : Fin 3) = 0)
    ∧ (win0_9.index t (0 : Fin 3) = t.val ∧ win0_9.index t (1 : Fin 3) = 0 ∧ win0_9.index t (2 : Fin 3) = 0) :=
  (by decide +kernel : ∀ t : Fin grid0.N, _)

theorem out_index : ∀ t : Fin cfg0.N, (win0_10.index t (0 : Fin 2) = 0 ∧ win0_10.index t (1 : Fin 2) = t.val)
    ∧ (win0_11.index t (0 : Fin 2) = 0 ∧ win0_11.index t (1 : Fin 2) = t.val)
    ∧ (win0_12.index t (0 : Fin 2) = 0 ∧ win0_12.index t (1 : Fin 2) = t.val)
    ∧ (win0_13.index t (0 : Fin 2) = t.val ∧ win0_13.index t (1 : Fin 2) = 0)
    ∧ (win0_14.index t (0 : Fin 2) = t.val ∧ win0_14.index t (1 : Fin 2) = 0) :=
  (by decide +kernel : ∀ t : Fin grid0.N, _)

theorem N_lt (t : Fin cfg0.N) : t.val < 12 := lt_of_lt_of_eq t.isLt N_0

/-- Place `l` of point `t`'s block of 512. -/
abbrev at512 (t : Fin cfg0.N) (l : Fin 512) : Fin 6144 := ⟨t.val * 512 + l.val, by have := N_lt t; omega⟩

abbrev b0 (c : Dev nD) (t : Fin cfg0.N) : S1536x512.Idx → EReal := iblk m c 0 t
abbrev b1 (c : Dev nD) (t : Fin cfg0.N) : S1536x512.Idx → EReal := iblk m c 1 t
abbrev b2 (c : Dev nD) (t : Fin cfg0.N) : S48x512.Idx → BitVec 32 := iblk m c 2 t
abbrev b3 (c : Dev nD) (t : Fin cfg0.N) : S48x512.Idx → BitVec 32 := iblk m c 3 t
abbrev b4 (c : Dev nD) (t : Fin cfg0.N) : S512x1536.Idx → EReal := iblk m c 4 t
abbrev b5 (c : Dev nD) (t : Fin cfg0.N) : S512x128.Idx → BitVec 16 := iblk m c 5 t
abbrev b6 (c : Dev nD) (t : Fin cfg0.N) : S1536x512.Idx → EReal := iblk m c 6 t
abbrev b7 (c : Dev nD) (t : Fin cfg0.N) : S1536x512.Idx → EReal := iblk m c 7 t
abbrev b8 (c : Dev nD) (t : Fin cfg0.N) : S1x1536x128.Idx → BitVec 16 := iblk m c 8 t
abbrev b9 (c : Dev nD) (t : Fin cfg0.N) : S1x1536x128.Idx → BitVec 16 := iblk m c 9 t

/-! Each block at an index. -/

theorem b0_apply (c : Dev nD) (t : Fin cfg0.N) (r : Fin 1536) (l : Fin 512) : b0 m c t (ix2 r l) = guc m c 0 (ix2 r (at512 t l)) := by
  obtain ⟨h0, h1⟩ := (index_eq t).1
  unfold b0 iblk
  rw [View.read_apply, ← V1]
  show V m c main_v1 _ = V m c main_v1 _
  congr 1
  funext a; apply Fin.ext
  match a with
  | ⟨0, _⟩ => show win0_0.index t 0 * 1536 + 1 * r.val = r.val; rw [h0]; omega
  | ⟨1, _⟩ => show win0_0.index t 1 * 512 + 1 * l.val = t.val * 512 + l.val; rw [h1, Nat.one_mul]

theorem b1_apply (c : Dev nD) (t : Fin cfg0.N) (r : Fin 1536) (l : Fin 512) : b1 m c t (ix2 r l) = guc m c 1 (ix2 r (at512 t l)) := by
  obtain ⟨h0, h1⟩ := (index_eq t).2.1
  unfold b1 iblk
  rw [View.read_apply, ← V3]
  show V m c main_v3 _ = V m c main_v3 _
  congr 1
  funext a; apply Fin.ext
  match a with
  | ⟨0, _⟩ => show win0_1.index t 0 * 1536 + 1 * r.val = r.val; rw [h0]; omega
  | ⟨1, _⟩ => show win0_1.index t 1 * 512 + 1 * l.val = t.val * 512 + l.val; rw [h1, Nat.one_mul]

theorem b6_apply (c : Dev nD) (t : Fin cfg0.N) (r : Fin 1536) (l : Fin 512) : b6 m c t (ix2 r l) = gutc m c 0 (ix2 r (at512 t l)) := by
  obtain ⟨h0, h1⟩ := (index_eq t).2.2.2.2.2.2.1
  unfold b6 iblk
  rw [View.read_apply, ← V21]
  show V m c main_v21 _ = V m c main_v21 _
  congr 1
  funext a; apply Fin.ext
  match a with
  | ⟨0, _⟩ => show win0_6.index t 0 * 1536 + 1 * r.val = r.val; rw [h0]; omega
  | ⟨1, _⟩ => show win0_6.index t 1 * 512 + 1 * l.val = t.val * 512 + l.val; rw [h1, Nat.one_mul]

theorem b7_apply (c : Dev nD) (t : Fin cfg0.N) (r : Fin 1536) (l : Fin 512) : b7 m c t (ix2 r l) = gutc m c 1 (ix2 r (at512 t l)) := by
  obtain ⟨h0, h1⟩ := (index_eq t).2.2.2.2.2.2.2
  unfold b7 iblk
  rw [View.read_apply, ← V23]
  show V m c main_v23 _ = V m c main_v23 _
  congr 1
  funext a; apply Fin.ext
  match a with
  | ⟨0, _⟩ => show win0_7.index t 0 * 1536 + 1 * r.val = r.val; rw [h0]; omega
  | ⟨1, _⟩ => show win0_7.index t 1 * 512 + 1 * l.val = t.val * 512 + l.val; rw [h1, Nat.one_mul]

theorem b2_apply (c : Dev nD) (t : Fin cfg0.N) (r : Fin 48) (l : Fin 512) : b2 m c t (ix2 r l) = word32 (gue m c 0 (ix2 r (at512 t l))) := by
  obtain ⟨h0, h1⟩ := (index_eq t).2.2.1
  unfold b2 iblk
  rw [View.read_apply, ← V11]
  show V m c main_v11 _ = V m c main_v11 _
  congr 1
  funext a; apply Fin.ext
  match a with
  | ⟨0, _⟩ => show win0_2.index t 0 * 48 + 1 * r.val = r.val; rw [h0]; omega
  | ⟨1, _⟩ => show win0_2.index t 1 * 512 + 1 * l.val = t.val * 512 + l.val; rw [h1, Nat.one_mul]

theorem b3_apply (c : Dev nD) (t : Fin cfg0.N) (r : Fin 48) (l : Fin 512) : b3 m c t (ix2 r l) = word32 (gue m c 1 (ix2 r (at512 t l))) := by
  obtain ⟨h0, h1⟩ := (index_eq t).2.2.2.1
  unfold b3 iblk
  rw [View.read_apply, ← V19]
  show V m c main_v19 _ = V m c main_v19 _
  congr 1
  funext a; apply Fin.ext
  match a with
  | ⟨0, _⟩ => show win0_3.index t 0 * 48 + 1 * r.val = r.val; rw [h0]; omega
  | ⟨1, _⟩ => show win0_3.index t 1 * 512 + 1 * l.val = t.val * 512 + l.val; rw [h1, Nat.one_mul]

theorem b4_apply (c : Dev nD) (t : Fin cfg0.N) (l : Fin 512) (k : Fin 1536) : b4 m c t (ix2 l k) = wdc m c (ix2 (at512 t l) k) := by
  obtain ⟨h0, h1⟩ := (index_eq t).2.2.2.2.1
  unfold b4 iblk
  rw [View.read_apply]
  refine (congrFun (V_main_arg4 m c) _).trans (congrArg (m ((c : Thread nD τ).loc main_arg4)) ?_)
  funext a; apply Fin.ext
  match a with
  | ⟨0, _⟩ => show win0_4.index t 0 * 512 + 1 * l.val = t.val * 512 + l.val; rw [h0, Nat.one_mul]
  | ⟨1, _⟩ => show win0_4.index t 1 * 1536 + 1 * k.val = k.val; rw [h1]; omega

theorem b5_apply (c : Dev nD) (t : Fin cfg0.N) (l : Fin 512) (g : Fin 48) (hg : g.val < 128) :
    b5 m c t (ix2 l (⟨g.val, hg⟩ : Fin 128)) = word16 (wde m c (ix2 (at512 t l) g)) := by
  obtain ⟨h0, h1⟩ := (index_eq t).2.2.2.2.2.1
  unfold b5 iblk
  rw [View.read_apply, ← V28 m c (at512 t l) g hg]
  show V m c main_v28 _ = V m c main_v28 _
  congr 1
  funext a; apply Fin.ext
  match a with
  | ⟨0, _⟩ => show win0_5.index t 0 * 512 + 1 * l.val = t.val * 512 + l.val; rw [h0, Nat.one_mul]
  | ⟨1, _⟩ => show win0_5.index t 1 * 128 + 1 * g.val = g.val; rw [h1]; omega

theorem b8_apply (c : Dev nD) (t : Fin cfg0.N) (r : Fin 1536) (g : Fin 16) (hg : g.val < 128) (hb : t.val * 16 + g.val < 192) :
    b8 m c t (ix3 (0 : Fin 1) r (⟨g.val, hg⟩ : Fin 128)) = word16 (gute m c 0 (ix2 r (⟨t.val * 16 + g.val, hb⟩ : Fin 192))) := by
  obtain ⟨h0, h1, h2⟩ := (index3_eq t).1
  unfold b8 iblk
  rw [View.read_apply, ← V37 m c ⟨t.val, N_lt t⟩ r g hg hb]
  show V m c main_v37 _ = V m c main_v37 _
  congr 1
  funext a; apply Fin.ext
  match a with
  | ⟨0, _⟩ => show win0_8.index t 0 * 1 + 1 * 0 = t.val; rw [h0]; omega
  | ⟨1, _⟩ => show win0_8.index t 1 * 1536 + 1 * r.val = r.val; rw [h1]; omega
  | ⟨2, _⟩ => show win0_8.index t 2 * 128 + 1 * g.val = g.val; rw [h2]; omega

theorem b9_apply (c : Dev nD) (t : Fin cfg0.N) (r : Fin 1536) (g : Fin 16) (hg : g.val < 128) (hb : t.val * 16 + g.val < 192) :
    b9 m c t (ix3 (0 : Fin 1) r (⟨g.val, hg⟩ : Fin 128)) = word16 (gute m c 1 (ix2 r (⟨t.val * 16 + g.val, hb⟩ : Fin 192))) := by
  obtain ⟨h0, h1, h2⟩ := (index3_eq t).2
  unfold b9 iblk
  rw [View.read_apply, ← V46 m c ⟨t.val, N_lt t⟩ r g hg hb]
  show V m c main_v46 _ = V m c main_v46 _
  congr 1
  funext a; apply Fin.ext
  match a with
  | ⟨0, _⟩ => show win0_9.index t 0 * 1 + 1 * 0 = t.val; rw [h0]; omega
  | ⟨1, _⟩ => show win0_9.index t 1 * 1536 + 1 * r.val = r.val; rw [h1]; omega
  | ⟨2, _⟩ => show win0_9.index t 2 * 128 + 1 * g.val = g.val; rw [h2]; omega

/-! The dequantised blocks hold the dequantised entries of their block. -/

theorem blk10 (c : Dev nD) (t : Fin cfg0.N) (r : Fin 1536) (l : Fin 512) :
    (out0_10 (F := Ideal) (b0 m c t) (b1 m c t) (b2 m c t) (b3 m c t) (b4 m c t) (b5 m c t) (b6 m c t) (b7 m c t) (b8 m c t) (b9 m c t) (ix2 r l) : EReal)
      = wRows (guc m c 0) (gue m c 0) (ix2 r (at512 t l)) := by
  rw [out10_eq]
  refine (deqRows_entry _ _ r l).trans ?_
  rw [b0_apply, b2_apply, word32_half _ _ (by omega), ofBits_word16]
  rfl

theorem blk11 (c : Dev nD) (t : Fin cfg0.N) (r : Fin 1536) (l : Fin 512) :
    (out0_11 (F := Ideal) (b0 m c t) (b1 m c t) (b2 m c t) (b3 m c t) (b4 m c t) (b5 m c t) (b6 m c t) (b7 m c t) (b8 m c t) (b9 m c t) (ix2 r l) : EReal)
      = wRows (guc m c 1) (gue m c 1) (ix2 r (at512 t l)) := by
  rw [out11_eq]
  refine (deqRows_entry _ _ r l).trans ?_
  rw [b1_apply, b3_apply, word32_half _ _ (by omega), ofBits_word16]
  rfl

theorem blk12 (c : Dev nD) (t : Fin cfg0.N) (r : Fin 1536) (l : Fin 512) :
    (out0_12 (F := Ideal) (b0 m c t) (b1 m c t) (b2 m c t) (b3 m c t) (b4 m c t) (b5 m c t) (b6 m c t) (b7 m c t) (b8 m c t) (b9 m c t) (ix2 r l) : EReal)
      = wLanes (C := 1536) (M := 48) (by norm_num) (wdc m c) (wde m c) (ix2 r (at512 t l)) := by
  have hr := r.isLt
  rw [out12_eq]
  refine (transD_apply _ r l).trans ((deqD_entry _ _ l r (by omega)).trans ?_)
  rw [b4_apply, show b5 m c t (ix2 l (⟨r.val / 32, by omega⟩ : Fin 128)) = _ from b5_apply m c t l (⟨r.val / 32, by omega⟩ : Fin 48) _, ofBits_word16]
  rfl

theorem blk13 (c : Dev nD) (t : Fin cfg0.N) (r : Fin 512) (l : Fin 1536) :
    (out0_13 (F := Ideal) (b0 m c t) (b1 m c t) (b2 m c t) (b3 m c t) (b4 m c t) (b5 m c t) (b6 m c t) (b7 m c t) (b8 m c t) (b9 m c t) (ix2 r l) : EReal)
      = wLanes (C := 6144) (M := 192) (by norm_num) (gutc m c 0) (gute m c 0) (ix2 (at512 t r) l) := by
  have hr := r.isLt
  have ht := N_lt t
  have hi : (⟨t.val * 16 + r.val / 32, by omega⟩ : Fin 192) = ⟨(at512 t r).val / 32, by have := (at512 t r).isLt; omega⟩ :=
    Fin.ext (by show t.val * 16 + r.val / 32 = (t.val * 512 + r.val) / 32; omega)
  rw [out13_eq]
  refine (transT_apply _ r l).trans ((deqT_entry _ _ l r (by omega)).trans ?_)
  rw [words_apply, b6_apply, show b8 m c t (ix3 (0 : Fin 1) l (⟨r.val / 32, by omega⟩ : Fin 128)) = _ from
    b8_apply m c t l (⟨r.val / 32, by omega⟩ : Fin 16) _ (by show t.val * 16 + r.val / 32 < 192; omega), ofBits_word16]
  exact congrArg (fun i => gutc m c 0 (ix2 l (at512 t r)) * scale (gute m c 0 (ix2 l i))) hi

theorem blk14 (c : Dev nD) (t : Fin cfg0.N) (r : Fin 512) (l : Fin 1536) :
    (out0_14 (F := Ideal) (b0 m c t) (b1 m c t) (b2 m c t) (b3 m c t) (b4 m c t) (b5 m c t) (b6 m c t) (b7 m c t) (b8 m c t) (b9 m c t) (ix2 r l) : EReal)
      = wLanes (C := 6144) (M := 192) (by norm_num) (gutc m c 1) (gute m c 1) (ix2 (at512 t r) l) := by
  have hr := r.isLt
  have ht := N_lt t
  have hi : (⟨t.val * 16 + r.val / 32, by omega⟩ : Fin 192) = ⟨(at512 t r).val / 32, by have := (at512 t r).isLt; omega⟩ :=
    Fin.ext (by show t.val * 16 + r.val / 32 = (t.val * 512 + r.val) / 32; omega)
  rw [out14_eq]
  refine (transT_apply _ r l).trans ((deqT_entry _ _ l r (by omega)).trans ?_)
  rw [words_apply, b7_apply, show b9 m c t (ix3 (0 : Fin 1) l (⟨r.val / 32, by omega⟩ : Fin 128)) = _ from
    b9_apply m c t l (⟨r.val / 32, by omega⟩ : Fin 16) _ (by show t.val * 16 + r.val / 32 < 192; omega), ofBits_word16]
  exact congrArg (fun i => gutc m c 1 (ix2 l (at512 t r)) * scale (gute m c 1 (ix2 l i))) hi

/-! The result arrays after the run. -/

theorem final10 (c : Dev nD) : (dats m 0 c).arrAt 10 cfg0.N = wRows (guc m c 0) (gue m c 0) := by
  refine (dats m 0 c).arrAt_eq_of_covers 10 _ (by decide +kernel) fun t hf y => ?_
  blk_simp
  rw [after0_10]
  obtain ⟨h0, h1⟩ := (out_index t).1
  rw [show (win0_10.blk t).view.emb y = ix2 (y 0) (at512 t (y 1)) from by
    funext a; apply Fin.ext
    match a with
    | ⟨0, _⟩ => show win0_10.index t 0 * 1536 + 1 * (y 0).val = (y 0).val; rw [h0]; omega
    | ⟨1, _⟩ => show win0_10.index t 1 * 512 + 1 * (y 1).val = t.val * 512 + (y 1).val; rw [h1, Nat.one_mul]]
  exact (congrArg _ (ValueIdx.eq_ix2 y)).trans (blk10 m c t (y 0) (y 1))

theorem final11 (c : Dev nD) : (dats m 0 c).arrAt 11 cfg0.N = wRows (guc m c 1) (gue m c 1) := by
  refine (dats m 0 c).arrAt_eq_of_covers 11 _ (by decide +kernel) fun t hf y => ?_
  blk_simp
  rw [after0_11]
  obtain ⟨h0, h1⟩ := (out_index t).2.1
  rw [show (win0_11.blk t).view.emb y = ix2 (y 0) (at512 t (y 1)) from by
    funext a; apply Fin.ext
    match a with
    | ⟨0, _⟩ => show win0_11.index t 0 * 1536 + 1 * (y 0).val = (y 0).val; rw [h0]; omega
    | ⟨1, _⟩ => show win0_11.index t 1 * 512 + 1 * (y 1).val = t.val * 512 + (y 1).val; rw [h1, Nat.one_mul]]
  exact (congrArg _ (ValueIdx.eq_ix2 y)).trans (blk11 m c t (y 0) (y 1))

theorem final12 (c : Dev nD) : (dats m 0 c).arrAt 12 cfg0.N = wLanes (C := 1536) (M := 48) (by norm_num) (wdc m c) (wde m c) := by
  refine (dats m 0 c).arrAt_eq_of_covers 12 _ (by decide +kernel) fun t hf y => ?_
  blk_simp
  rw [after0_12]
  obtain ⟨h0, h1⟩ := (out_index t).2.2.1
  rw [show (win0_12.blk t).view.emb y = ix2 (y 0) (at512 t (y 1)) from by
    funext a; apply Fin.ext
    match a with
    | ⟨0, _⟩ => show win0_12.index t 0 * 1536 + 1 * (y 0).val = (y 0).val; rw [h0]; omega
    | ⟨1, _⟩ => show win0_12.index t 1 * 512 + 1 * (y 1).val = t.val * 512 + (y 1).val; rw [h1, Nat.one_mul]]
  exact (congrArg _ (ValueIdx.eq_ix2 y)).trans (blk12 m c t (y 0) (y 1))

theorem final13 (c : Dev nD) : (dats m 0 c).arrAt 13 cfg0.N = wLanes (C := 6144) (M := 192) (by norm_num) (gutc m c 0) (gute m c 0) := by
  refine (dats m 0 c).arrAt_eq_of_covers 13 _ (by decide +kernel) fun t hf y => ?_
  blk_simp
  rw [after0_13]
  obtain ⟨h0, h1⟩ := (out_index t).2.2.2.1
  rw [show (win0_13.blk t).view.emb y = ix2 (at512 t (y 0)) (y 1) from by
    funext a; apply Fin.ext
    match a with
    | ⟨0, _⟩ => show win0_13.index t 0 * 512 + 1 * (y 0).val = t.val * 512 + (y 0).val; rw [h0, Nat.one_mul]
    | ⟨1, _⟩ => show win0_13.index t 1 * 1536 + 1 * (y 1).val = (y 1).val; rw [h1]; omega]
  exact (congrArg _ (ValueIdx.eq_ix2 y)).trans (blk13 m c t (y 0) (y 1))

theorem final14 (c : Dev nD) : (dats m 0 c).arrAt 14 cfg0.N = wLanes (C := 6144) (M := 192) (by norm_num) (gutc m c 1) (gute m c 1) := by
  refine (dats m 0 c).arrAt_eq_of_covers 14 _ (by decide +kernel) fun t hf y => ?_
  blk_simp
  rw [after0_14]
  obtain ⟨h0, h1⟩ := (out_index t).2.2.2.2
  rw [show (win0_14.blk t).view.emb y = ix2 (at512 t (y 0)) (y 1) from by
    funext a; apply Fin.ext
    match a with
    | ⟨0, _⟩ => show win0_14.index t 0 * 512 + 1 * (y 0).val = t.val * 512 + (y 0).val; rw [h0, Nat.one_mul]
    | ⟨1, _⟩ => show win0_14.index t 1 * 1536 + 1 * (y 1).val = (y 1).val; rw [h1]; omega]
  exact (congrArg _ (ValueIdx.eq_ix2 y)).trans (blk14 m c t (y 0) (y 1))

end Cert.PrepIdeal.Array

end
-- ==== Proof.PrepRef.lean ====
/-
  What the reference for the weight call computes over the extended reals.
-/
module

public import proofs.«01_k».proof.Proof.PrepSpec
public import proofs.«01_k».proof.Proof.Gen.PrepRefIdeal.Value
public import Idealize.ShloMosaic.Lib.StableHlo.ReadAt
public import Idealize.ShloMosaic.Lib.Pipeline.ValueKit.Point
public import Idealize.ShloMosaic.Lib.Pointwise

@[expose] public section

noncomputable section

namespace Cert.PrepRefIdeal.Array

open Cert.PrepRefIdeal Cert.PrepRefIdeal.Gen Cert.PrepRefIdeal.Value Cert.Proof
open Idealize.ShloMosaic Idealize.ShloMosaic.TcCoe Idealize.SL.Sem

theorem hz : (![0, 0] : Fin 2 → Nat) = fun _ => 0 := funext fun a => by fin_cases a <;> rfl

/-- Codes dequantised with the scales of 32 rows, and with the scales of 32 columns in both shapes. -/
def rw48 (x : FVec Ideal S1536x6144 .fp8e4m3) (e : IVec S48x6144 8) : FVec Ideal S1536x6144 .bf16 :=
  refRows (N := 48) x e natLt_8_32 bitsLt_bf16_f32 bitsLt_fp8e4m3_bf16 shapeCasts_S1536x6144_S48x32x6144 shapeCasts_S48x32x6144_S1536x6144
    shapeCasts_S48x6144_S48x1x6144 broadcasts_S48x1x6144_S48x32x6144
def ln48 (x : FVec Ideal S6144x1536 .fp8e4m3) (e : IVec S6144x48 8) : FVec Ideal S6144x1536 .bf16 :=
  refLanes (M := 48) x e natLt_8_32 bitsLt_bf16_f32 bitsLt_fp8e4m3_bf16 shapeCasts_S6144x1536_S6144x48x32 shapeCasts_S6144x48x32_S6144x1536
    shapeCasts_S6144x48_S6144x48x1 broadcasts_S6144x48x1_S6144x48x32
def ln192 (x : FVec Ideal S1536x6144 .fp8e4m3) (e : IVec S1536x192 8) : FVec Ideal S1536x6144 .bf16 :=
  refLanes (M := 192) x e natLt_8_32 bitsLt_bf16_f32 bitsLt_fp8e4m3_bf16 shapeCasts_S1536x6144_S1536x192x32 shapeCasts_S1536x192x32_S1536x6144
    shapeCasts_S1536x192_S1536x192x1 broadcasts_S1536x192x1_S1536x192x32

theorem rw48_apply (x : FVec Ideal S1536x6144 .fp8e4m3) (e : IVec S48x6144 8) (r : Fin 1536) (k : Fin 6144) :
    (rw48 x e (ix2 r k) : EReal) = wRows x e (ix2 r k) :=
  refRows_apply (N := 48) x e _ _ _ _ _ _ _ (by norm_num) (by norm_num) (by norm_num) r k

theorem tr48_apply (x : FVec Ideal S6144x1536 .fp8e4m3) (e : IVec S6144x48 8) (r : Fin 1536) (k : Fin 6144) :
    (transpose S1536x6144 [1, 0] (ln48 x e) transposes_S6144x1536_p1_0_S1536x6144 (ix2 r k) : EReal)
      = wLanes (C := 1536) (M := 48) (by norm_num) x e (ix2 r k) :=
  (transpose_apply _ _ _ _ (ix2 k r) fun a => by
    match a with
    | ⟨0, _⟩ => rfl
    | ⟨1, _⟩ => rfl).trans (refLanes_apply (M := 48) x e _ _ _ _ _ _ _ (by norm_num) (by norm_num) (by norm_num) k r)

theorem tr192_apply (x : FVec Ideal S1536x6144 .fp8e4m3) (e : IVec S1536x192 8) (r : Fin 6144) (k : Fin 1536) :
    (transpose S6144x1536 [1, 0] (ln192 x e) transposes_S1536x6144_p1_0_S6144x1536 (ix2 r k) : EReal)
      = wLanes (C := 6144) (M := 192) (by norm_num) x e (ix2 r k) :=
  (transpose_apply _ _ _ _ (ix2 k r) fun a => by
    match a with
    | ⟨0, _⟩ => rfl
    | ⟨1, _⟩ => rfl).trans (refLanes_apply (M := 192) x e _ _ _ _ _ _ _ (by norm_num) (by norm_num) (by norm_num) k r)

variable (x0 : Vec Ideal S1536x6144 .fp8e4m3) (x1 : Vec Ideal S48x6144 .i8) (x2 : Vec Ideal S1536x6144 .fp8e4m3) (x3 : Vec Ideal S48x6144 .i8)
    (x4 : Vec Ideal S1536x6144 .fp8e4m3) (x5 : Vec Ideal S1536x192 .i8) (x6 : Vec Ideal S1536x6144 .fp8e4m3) (x7 : Vec Ideal S1536x192 .i8)
    (x8 : Vec Ideal S6144x1536 .fp8e4m3) (x9 : Vec Ideal S6144x48 .i8)

theorem out10_apply (r : Fin 1536) (l : Fin 6144) : (out0_10 (F := Ideal) x0 x1 x2 x3 x4 x5 x6 x7 x8 x9 (ix2 r l) : EReal) = wRows x0 x1 (ix2 r l) := by
  unfold out0_10
  rw [View.canon_unit_zero (S := S1536x6144) hz]
  refine (congrFun ((show _ = rw48 (shapeCast S1536x6144 (View.ld x0 r0_0 : FVec Ideal S1536x6144 .fp8e4m3) shapeCasts_S1536x6144_S1536x6144)
    (shapeCast S48x6144 (View.ld x1 r0_1 : IVec S48x6144 8) shapeCasts_S48x6144_S48x6144) from rfl).trans (congrArg₂ rw48
    ((shapeCast_self _ _).trans (View.ld_unit_zero (S := S1536x6144) hz _ _))
    ((shapeCast_self _ _).trans (View.ld_unit_zero (S := S48x6144) hz _ _)))) _).trans ?_
  exact rw48_apply _ _ r l
theorem out11_apply (r : Fin 1536) (l : Fin 6144) : (out0_11 (F := Ideal) x0 x1 x2 x3 x4 x5 x6 x7 x8 x9 (ix2 r l) : EReal) = wRows x2 x3 (ix2 r l) := by
  unfold out0_11
  rw [View.canon_unit_zero (S := S1536x6144) hz]
  refine (congrFun ((show _ = rw48 (shapeCast S1536x6144 (View.ld x2 r0_0 : FVec Ideal S1536x6144 .fp8e4m3) shapeCasts_S1536x6144_S1536x6144)
    (shapeCast S48x6144 (View.ld x3 r0_1 : IVec S48x6144 8) shapeCasts_S48x6144_S48x6144) from rfl).trans (congrArg₂ rw48
    ((shapeCast_self _ _).trans (View.ld_unit_zero (S := S1536x6144) hz _ _))
    ((shapeCast_self _ _).trans (View.ld_unit_zero (S := S48x6144) hz _ _)))) _).trans ?_
  exact rw48_apply _ _ r l
theorem out12_apply (r : Fin 1536) (l : Fin 6144) :
    (out0_12 (F := Ideal) x0 x1 x2 x3 x4 x5 x6 x7 x8 x9 (ix2 r l) : EReal) = wLanes (C := 1536) (M := 48) (by norm_num) x8 x9 (ix2 r l) := by
  unfold out0_12
  rw [View.canon_unit_zero (S := S1536x6144) hz, View.ld_unit_zero (S := S6144x1536) hz, View.ld_unit_zero (S := S6144x48) hz]
  exact tr48_apply x8 x9 r l
theorem out13_apply (r : Fin 6144) (l : Fin 1536) :
    (out0_13 (F := Ideal) x0 x1 x2 x3 x4 x5 x6 x7 x8 x9 (ix2 r l) : EReal) = wLanes (C := 6144) (M := 192) (by norm_num) x4 x5 (ix2 r l) := by
  unfold out0_13
  rw [View.canon_unit_zero (S := S6144x1536) hz]
  refine (congrFun ((show _ = transpose S6144x1536 [1, 0] (ln192 (shapeCast S1536x6144 (View.ld x4 r0_0 : FVec Ideal S1536x6144 .fp8e4m3) shapeCasts_S1536x6144_S1536x6144)
    (shapeCast S1536x192 (View.ld x5 r0_4 : IVec S1536x192 8) shapeCasts_S1536x192_S1536x192)) transposes_S1536x6144_p1_0_S6144x1536 from rfl).trans
    (congrArg (fun a => transpose S6144x1536 [1, 0] a transposes_S1536x6144_p1_0_S6144x1536) (congrArg₂ ln192
    ((shapeCast_self _ _).trans (View.ld_unit_zero (S := S1536x6144) hz _ _))
    ((shapeCast_self _ _).trans (View.ld_unit_zero (S := S1536x192) hz _ _))))) _).trans ?_
  exact tr192_apply _ _ r l
theorem out14_apply (r : Fin 6144) (l : Fin 1536) :
    (out0_14 (F := Ideal) x0 x1 x2 x3 x4 x5 x6 x7 x8 x9 (ix2 r l) : EReal) = wLanes (C := 6144) (M := 192) (by norm_num) x6 x7 (ix2 r l) := by
  unfold out0_14
  rw [View.canon_unit_zero (S := S6144x1536) hz]
  refine (congrFun ((show _ = transpose S6144x1536 [1, 0] (ln192 (shapeCast S1536x6144 (View.ld x6 r0_0 : FVec Ideal S1536x6144 .fp8e4m3) shapeCasts_S1536x6144_S1536x6144)
    (shapeCast S1536x192 (View.ld x7 r0_4 : IVec S1536x192 8) shapeCasts_S1536x192_S1536x192)) transposes_S1536x6144_p1_0_S6144x1536 from rfl).trans
    (congrArg (fun a => transpose S6144x1536 [1, 0] a transposes_S1536x6144_p1_0_S6144x1536) (congrArg₂ ln192
    ((shapeCast_self _ _).trans (View.ld_unit_zero (S := S1536x6144) hz _ _))
    ((shapeCast_self _ _).trans (View.ld_unit_zero (S := S1536x192) hz _ _))))) _).trans ?_
  exact tr192_apply _ _ r l

variable (m : (ℓ : Loc nD τ sig) → Buf (Elt Ideal) ℓ)

/-- The gate (`0`) and up (`1`) codes and exponents of device `c`, in both layouts, and the down codes and exponents. -/
abbrev guc (c : Dev nD) (b : Fin 2) : (sh 1536 6144).Idx → EReal := member (m ((c : Thread nD τ).loc main_arg0) : S1536x2x6144.Idx → EReal) b
abbrev gue (c : Dev nD) (b : Fin 2) : (sh 48 6144).Idx → BitVec 8 := member (m ((c : Thread nD τ).loc main_arg1) : S48x2x6144.Idx → BitVec 8) b
abbrev gutc (c : Dev nD) (b : Fin 2) : (sh 1536 6144).Idx → EReal := member (m ((c : Thread nD τ).loc main_arg2) : S1536x2x6144.Idx → EReal) b
abbrev gute (c : Dev nD) (b : Fin 2) : (sh 1536 192).Idx → BitVec 8 := member (m ((c : Thread nD τ).loc main_arg3) : S1536x2x192.Idx → BitVec 8) b
abbrev wdc (c : Dev nD) : (sh 6144 1536).Idx → EReal := m ((c : Thread nD τ).loc main_arg4)
abbrev wde (c : Dev nD) : (sh 6144 48).Idx → BitVec 8 := m ((c : Thread nD τ).loc main_arg5)

theorem V1 (c : Dev nD) : (V m c main_v1 : S1536x6144.Idx → EReal) = guc m c 0 := by
  unfold V
  after_reads_simp
  exact member_slice _ 0 _ _
theorem V3 (c : Dev nD) : (V m c main_v3 : S48x6144.Idx → BitVec 8) = gue m c 0 := by
  unfold V
  after_reads_simp
  exact member_slice _ 0 _ _
theorem V5 (c : Dev nD) : (V m c main_v5 : S1536x6144.Idx → EReal) = guc m c 1 := by
  unfold V
  after_reads_simp
  exact member_slice _ 1 _ _
theorem V7 (c : Dev nD) : (V m c main_v7 : S48x6144.Idx → BitVec 8) = gue m c 1 := by
  unfold V
  after_reads_simp
  exact member_slice _ 1 _ _
theorem V9 (c : Dev nD) : (V m c main_v9 : S1536x6144.Idx → EReal) = gutc m c 0 := by
  unfold V
  after_reads_simp
  exact member_slice _ 0 _ _
theorem V11 (c : Dev nD) : (V m c main_v11 : S1536x192.Idx → BitVec 8) = gute m c 0 := by
  unfold V
  after_reads_simp
  exact member_slice _ 0 _ _
theorem V13 (c : Dev nD) : (V m c main_v13 : S1536x6144.Idx → EReal) = gutc m c 1 := by
  unfold V
  after_reads_simp
  exact member_slice _ 1 _ _
theorem V15 (c : Dev nD) : (V m c main_v15 : S1536x192.Idx → BitVec 8) = gute m c 1 := by
  unfold V
  after_reads_simp
  exact member_slice _ 1 _ _

theorem index_eq : ∀ t : Fin cfg0.N, ∀ a : Fin 2, win0_0.index t a = 0 ∧ win0_1.index t a = 0 ∧ win0_2.index t a = 0 ∧ win0_3.index t a = 0 ∧ win0_4.index t a = 0
    ∧ win0_5.index t a = 0 ∧ win0_6.index t a = 0 ∧ win0_7.index t a = 0 ∧ win0_8.index t a = 0 ∧ win0_9.index t a = 0
    ∧ win0_10.index t a = 0 ∧ win0_11.index t a = 0 ∧ win0_12.index t a = 0 ∧ win0_13.index t a = 0 ∧ win0_14.index t a = 0 :=
  (by decide +kernel : ∀ t : Fin grid0.N, ∀ a : Fin 2, _)

/-- The one block of each operand is the operand. -/
theorem b0_eq (c : Dev nD) (t : Fin cfg0.N) : (iblk m c 0 t : S1536x6144.Idx → EReal) = guc m c 0 := by
  funext j
  unfold iblk
  rw [View.read_apply]
  refine (congrArg (V m c main_v1) (idx_ext2 _ j ?_ ?_)).trans (congrFun (V1 m c) j)
  · show win0_0.index t 0 * 1536 + 1 * (j 0).val = (j 0).val; rw [(index_eq t 0).1]; omega
  · show win0_0.index t 1 * 6144 + 1 * (j 1).val = (j 1).val; rw [(index_eq t 1).1]; omega
theorem b1_eq (c : Dev nD) (t : Fin cfg0.N) : (iblk m c 1 t : S48x6144.Idx → BitVec 8) = gue m c 0 := by
  funext j
  unfold iblk
  rw [View.read_apply]
  refine (congrArg (V m c main_v3) (idx_ext2 _ j ?_ ?_)).trans (congrFun (V3 m c) j)
  · show win0_1.index t 0 * 48 + 1 * (j 0).val = (j 0).val; rw [(index_eq t 0).2.1]; omega
  · show win0_1.index t 1 * 6144 + 1 * (j 1).val = (j 1).val; rw [(index_eq t 1).2.1]; omega
theorem b2_eq (c : Dev nD) (t : Fin cfg0.N) : (iblk m c 2 t : S1536x6144.Idx → EReal) = guc m c 1 := by
  funext j
  unfold iblk
  rw [View.read_apply]
  refine (congrArg (V m c main_v5) (idx_ext2 _ j ?_ ?_)).trans (congrFun (V5 m c) j)
  · show win0_2.index t 0 * 1536 + 1 * (j 0).val = (j 0).val; rw [(index_eq t 0).2.2.1]; omega
  · show win0_2.index t 1 * 6144 + 1 * (j 1).val = (j 1).val; rw [(index_eq t 1).2.2.1]; omega
theorem b3_eq (c : Dev nD) (t : Fin cfg0.N) : (iblk m c 3 t : S48x6144.Idx → BitVec 8) = gue m c 1 := by
  funext j
  unfold iblk
  rw [View.read_apply]
  refine (congrArg (V m c main_v7) (idx_ext2 _ j ?_ ?_)).trans (congrFun (V7 m c) j)
  · show win0_3.index t 0 * 48 + 1 * (j 0).val = (j 0).val; rw [(index_eq t 0).2.2.2.1]; omega
  · show win0_3.index t 1 * 6144 + 1 * (j 1).val = (j 1).val; rw [(index_eq t 1).2.2.2.1]; omega
theorem b4_eq (c : Dev nD) (t : Fin cfg0.N) : (iblk m c 4 t : S1536x6144.Idx → EReal) = gutc m c 0 := by
  funext j
  unfold iblk
  rw [View.read_apply]
  refine (congrArg (V m c main_v9) (idx_ext2 _ j ?_ ?_)).trans (congrFun (V9 m c) j)
  · show win0_4.index t 0 * 1536 + 1 * (j 0).val = (j 0).val; rw [(index_eq t 0).2.2.2.2.1]; omega
  · show win0_4.index t 1 * 6144 + 1 * (j 1).val = (j 1).val; rw [(index_eq t 1).2.2.2.2.1]; omega
theorem b5_eq (c : Dev nD) (t : Fin cfg0.N) : (iblk m c 5 t : S1536x192.Idx → BitVec 8) = gute m c 0 := by
  funext j
  unfold iblk
  rw [View.read_apply]
  refine (congrArg (V m c main_v11) (idx_ext2 _ j ?_ ?_)).trans (congrFun (V11 m c) j)
  · show win0_5.index t 0 * 1536 + 1 * (j 0).val = (j 0).val; rw [(index_eq t 0).2.2.2.2.2.1]; omega
  · show win0_5.index t 1 * 192 + 1 * (j 1).val = (j 1).val; rw [(index_eq t 1).2.2.2.2.2.1]; omega
theorem b6_eq (c : Dev nD) (t : Fin cfg0.N) : (iblk m c 6 t : S1536x6144.Idx → EReal) = gutc m c 1 := by
  funext j
  unfold iblk
  rw [View.read_apply]
  refine (congrArg (V m c main_v13) (idx_ext2 _ j ?_ ?_)).trans (congrFun (V13 m c) j)
  · show win0_6.index t 0 * 1536 + 1 * (j 0).val = (j 0).val; rw [(index_eq t 0).2.2.2.2.2.2.1]; omega
  · show win0_6.index t 1 * 6144 + 1 * (j 1).val = (j 1).val; rw [(index_eq t 1).2.2.2.2.2.2.1]; omega
theorem b7_eq (c : Dev nD) (t : Fin cfg0.N) : (iblk m c 7 t : S1536x192.Idx → BitVec 8) = gute m c 1 := by
  funext j
  unfold iblk
  rw [View.read_apply]
  refine (congrArg (V m c main_v15) (idx_ext2 _ j ?_ ?_)).trans (congrFun (V15 m c) j)
  · show win0_7.index t 0 * 1536 + 1 * (j 0).val = (j 0).val; rw [(index_eq t 0).2.2.2.2.2.2.2.1]; omega
  · show win0_7.index t 1 * 192 + 1 * (j 1).val = (j 1).val; rw [(index_eq t 1).2.2.2.2.2.2.2.1]; omega
theorem b8_eq (c : Dev nD) (t : Fin cfg0.N) : (iblk m c 8 t : S6144x1536.Idx → EReal) = wdc m c := by
  funext j
  unfold iblk
  rw [View.read_apply]
  refine (congrFun (V_main_arg4 m c) _).trans (congrArg (m ((c : Thread nD τ).loc main_arg4)) (idx_ext2 _ j ?_ ?_))
  · show win0_8.index t 0 * 6144 + 1 * (j 0).val = (j 0).val; rw [(index_eq t 0).2.2.2.2.2.2.2.2.1]; omega
  · show win0_8.index t 1 * 1536 + 1 * (j 1).val = (j 1).val; rw [(index_eq t 1).2.2.2.2.2.2.2.2.1]; omega
theorem b9_eq (c : Dev nD) (t : Fin cfg0.N) : (iblk m c 9 t : S6144x48.Idx → BitVec 8) = wde m c := by
  funext j
  unfold iblk
  rw [View.read_apply]
  refine (congrFun (V_main_arg5 m c) _).trans (congrArg (m ((c : Thread nD τ).loc main_arg5)) (idx_ext2 _ j ?_ ?_))
  · show win0_9.index t 0 * 6144 + 1 * (j 0).val = (j 0).val; rw [(index_eq t 0).2.2.2.2.2.2.2.2.2.1]; omega
  · show win0_9.index t 1 * 48 + 1 * (j 1).val = (j 1).val; rw [(index_eq t 1).2.2.2.2.2.2.2.2.2.1]; omega

/-! The result arrays after the run. -/

theorem final10 (c : Dev nD) : (dats m 0 c).arrAt 10 cfg0.N = wRows (guc m c 0) (gue m c 0) := by
  refine (dats m 0 c).arrAt_eq_of_covers 10 _ (by decide +kernel) fun t hf y => ?_
  blk_simp
  rw [after0_10, show (win0_10.blk t).view.emb y = ix2 (y 0) (y 1) from idx_ext2 _ _
    (by show win0_10.index t 0 * 1536 + 1 * (y 0).val = (y 0).val; rw [(index_eq t 0).2.2.2.2.2.2.2.2.2.2.1]; omega)
    (by show win0_10.index t 1 * 6144 + 1 * (y 1).val = (y 1).val; rw [(index_eq t 1).2.2.2.2.2.2.2.2.2.2.1]; omega)]
  rw [show iblk m c 0 t = guc m c 0 from b0_eq m c t, show iblk m c 1 t = gue m c 0 from b1_eq m c t, show iblk m c 2 t = guc m c 1 from b2_eq m c t, show iblk m c 3 t = gue m c 1 from b3_eq m c t, show iblk m c 4 t = gutc m c 0 from b4_eq m c t, show iblk m c 5 t = gute m c 0 from b5_eq m c t, show iblk m c 6 t = gutc m c 1 from b6_eq m c t, show iblk m c 7 t = gute m c 1 from b7_eq m c t, show iblk m c 8 t = wdc m c from b8_eq m c t, show iblk m c 9 t = wde m c from b9_eq m c t]
  exact (congrArg _ (ValueIdx.eq_ix2 y)).trans (out10_apply _ _ _ _ _ _ _ _ _ _ (y 0) (y 1))

theorem final11 (c : Dev nD) : (dats m 0 c).arrAt 11 cfg0.N = wRows (guc m c 1) (gue m c 1) := by
  refine (dats m 0 c).arrAt_eq_of_covers 11 _ (by decide +kernel) fun t hf y => ?_
  blk_simp
  rw [after0_11, show (win0_11.blk t).view.emb y = ix2 (y 0) (y 1) from idx_ext2 _ _
    (by show win0_11.index t 0 * 1536 + 1 * (y 0).val = (y 0).val; rw [(index_eq t 0).2.2.2.2.2.2.2.2.2.2.2.1]; omega)
    (by show win0_11.index t 1 * 6144 + 1 * (y 1).val = (y 1).val; rw [(index_eq t 1).2.2.2.2.2.2.2.2.2.2.2.1]; omega)]
  rw [show iblk m c 0 t = guc m c 0 from b0_eq m c t, show iblk m c 1 t = gue m c 0 from b1_eq m c t, show iblk m c 2 t = guc m c 1 from b2_eq m c t, show iblk m c 3 t = gue m c 1 from b3_eq m c t, show iblk m c 4 t = gutc m c 0 from b4_eq m c t, show iblk m c 5 t = gute m c 0 from b5_eq m c t, show iblk m c 6 t = gutc m c 1 from b6_eq m c t, show iblk m c 7 t = gute m c 1 from b7_eq m c t, show iblk m c 8 t = wdc m c from b8_eq m c t, show iblk m c 9 t = wde m c from b9_eq m c t]
  exact (congrArg _ (ValueIdx.eq_ix2 y)).trans (out11_apply _ _ _ _ _ _ _ _ _ _ (y 0) (y 1))

theorem final12 (c : Dev nD) : (dats m 0 c).arrAt 12 cfg0.N = wLanes (C := 1536) (M := 48) (by norm_num) (wdc m c) (wde m c) := by
  refine (dats m 0 c).arrAt_eq_of_covers 12 _ (by decide +kernel) fun t hf y => ?_
  blk_simp
  rw [after0_12, show (win0_12.blk t).view.emb y = ix2 (y 0) (y 1) from idx_ext2 _ _
    (by show win0_12.index t 0 * 1536 + 1 * (y 0).val = (y 0).val; rw [(index_eq t 0).2.2.2.2.2.2.2.2.2.2.2.2.1]; omega)
    (by show win0_12.index t 1 * 6144 + 1 * (y 1).val = (y 1).val; rw [(index_eq t 1).2.2.2.2.2.2.2.2.2.2.2.2.1]; omega)]
  rw [show iblk m c 0 t = guc m c 0 from b0_eq m c t, show iblk m c 1 t = gue m c 0 from b1_eq m c t, show iblk m c 2 t = guc m c 1 from b2_eq m c t, show iblk m c 3 t = gue m c 1 from b3_eq m c t, show iblk m c 4 t = gutc m c 0 from b4_eq m c t, show iblk m c 5 t = gute m c 0 from b5_eq m c t, show iblk m c 6 t = gutc m c 1 from b6_eq m c t, show iblk m c 7 t = gute m c 1 from b7_eq m c t, show iblk m c 8 t = wdc m c from b8_eq m c t, show iblk m c 9 t = wde m c from b9_eq m c t]
  exact (congrArg _ (ValueIdx.eq_ix2 y)).trans (out12_apply _ _ _ _ _ _ _ _ _ _ (y 0) (y 1))

theorem final13 (c : Dev nD) : (dats m 0 c).arrAt 13 cfg0.N = wLanes (C := 6144) (M := 192) (by norm_num) (gutc m c 0) (gute m c 0) := by
  refine (dats m 0 c).arrAt_eq_of_covers 13 _ (by decide +kernel) fun t hf y => ?_
  blk_simp
  rw [after0_13, show (win0_13.blk t).view.emb y = ix2 (y 0) (y 1) from idx_ext2 _ _
    (by show win0_13.index t 0 * 6144 + 1 * (y 0).val = (y 0).val; rw [(index_eq t 0).2.2.2.2.2.2.2.2.2.2.2.2.2.1]; omega)
    (by show win0_13.index t 1 * 1536 + 1 * (y 1).val = (y 1).val; rw [(index_eq t 1).2.2.2.2.2.2.2.2.2.2.2.2.2.1]; omega)]
  rw [show iblk m c 0 t = guc m c 0 from b0_eq m c t, show iblk m c 1 t = gue m c 0 from b1_eq m c t, show iblk m c 2 t = guc m c 1 from b2_eq m c t, show iblk m c 3 t = gue m c 1 from b3_eq m c t, show iblk m c 4 t = gutc m c 0 from b4_eq m c t, show iblk m c 5 t = gute m c 0 from b5_eq m c t, show iblk m c 6 t = gutc m c 1 from b6_eq m c t, show iblk m c 7 t = gute m c 1 from b7_eq m c t, show iblk m c 8 t = wdc m c from b8_eq m c t, show iblk m c 9 t = wde m c from b9_eq m c t]
  exact (congrArg _ (ValueIdx.eq_ix2 y)).trans (out13_apply _ _ _ _ _ _ _ _ _ _ (y 0) (y 1))

theorem final14 (c : Dev nD) : (dats m 0 c).arrAt 14 cfg0.N = wLanes (C := 6144) (M := 192) (by norm_num) (gutc m c 1) (gute m c 1) := by
  refine (dats m 0 c).arrAt_eq_of_covers 14 _ (by decide +kernel) fun t hf y => ?_
  blk_simp
  rw [after0_14, show (win0_14.blk t).view.emb y = ix2 (y 0) (y 1) from idx_ext2 _ _
    (by show win0_14.index t 0 * 6144 + 1 * (y 0).val = (y 0).val; rw [(index_eq t 0).2.2.2.2.2.2.2.2.2.2.2.2.2.2]; omega)
    (by show win0_14.index t 1 * 1536 + 1 * (y 1).val = (y 1).val; rw [(index_eq t 1).2.2.2.2.2.2.2.2.2.2.2.2.2.2]; omega)]
  rw [show iblk m c 0 t = guc m c 0 from b0_eq m c t, show iblk m c 1 t = gue m c 0 from b1_eq m c t, show iblk m c 2 t = guc m c 1 from b2_eq m c t, show iblk m c 3 t = gue m c 1 from b3_eq m c t, show iblk m c 4 t = gutc m c 0 from b4_eq m c t, show iblk m c 5 t = gute m c 0 from b5_eq m c t, show iblk m c 6 t = gutc m c 1 from b6_eq m c t, show iblk m c 7 t = gute m c 1 from b7_eq m c t, show iblk m c 8 t = wdc m c from b8_eq m c t, show iblk m c 9 t = wde m c from b9_eq m c t]
  exact (congrArg _ (ValueIdx.eq_ix2 y)).trans (out14_apply _ _ _ _ _ _ _ _ _ _ (y 0) (y 1))

end Cert.PrepRefIdeal.Array

end
-- ==== Proof.PrepClaim.lean ====
/-
  The weight kernel and its reference compute the same five arrays over the extended reals.
-/
module

public import proofs.«01_k».proof.Defs
public import proofs.«01_k».proof.Proof.PrepValue
public import proofs.«01_k».proof.Proof.PrepRef

@[expose] public section

noncomputable section

namespace Cert.Proof.Prep

open Idealize.ShloMosaic Idealize.ShloMosaic.TcCoe Idealize.SL.Sem

/-- The kernel and the reference leave equal results on equal arguments, the arguments unchanged. -/
theorem algebraic : Cert.algebraic_PrepIdeal_PrepRefIdeal (hPrepIdeal := Cert.PrepIdeal.Gen.facts) (hPrepRefIdeal := Cert.PrepRefIdeal.Gen.facts) := by
  intro m g m' g' _ hm
  refine ⟨fun c => wRows (Cert.PrepIdeal.Array.guc m c 0) (Cert.PrepIdeal.Array.gue m c 0),
    fun c => wRows (Cert.PrepIdeal.Array.guc m c 1) (Cert.PrepIdeal.Array.gue m c 1),
    fun c => wLanes (C := 1536) (M := 48) (by norm_num) (Cert.PrepIdeal.Array.wdc m c) (Cert.PrepIdeal.Array.wde m c),
    fun c => wLanes (C := 6144) (M := 192) (by norm_num) (Cert.PrepIdeal.Array.gutc m c 0) (Cert.PrepIdeal.Array.gute m c 0),
    fun c => wLanes (C := 6144) (M := 192) (by norm_num) (Cert.PrepIdeal.Array.gutc m c 1) (Cert.PrepIdeal.Array.gute m c 1), ?_, ?_⟩
  · exact (θ_run _ _ _).mono (fun r h c => ⟨(h c).1.trans (Cert.PrepIdeal.Array.final10 m c),
      (h c).2.1.trans (Cert.PrepIdeal.Array.final11 m c),
      (h c).2.2.1.trans (Cert.PrepIdeal.Array.final12 m c),
      (h c).2.2.2.1.trans (Cert.PrepIdeal.Array.final13 m c),
      (h c).2.2.2.2.1.trans (Cert.PrepIdeal.Array.final14 m c), (h c).2.2.2.2.2⟩) (Cert.PrepIdeal.Value.run_blocks m g)
  · refine (θ_run _ _ _).mono (fun r h c => ⟨(h c).1.trans ((Cert.PrepRefIdeal.Array.final10 m' c).trans ?_),
      (h c).2.1.trans ((Cert.PrepRefIdeal.Array.final11 m' c).trans ?_),
      (h c).2.2.1.trans ((Cert.PrepRefIdeal.Array.final12 m' c).trans ?_),
      (h c).2.2.2.1.trans ((Cert.PrepRefIdeal.Array.final13 m' c).trans ?_),
      (h c).2.2.2.2.1.trans ((Cert.PrepRefIdeal.Array.final14 m' c).trans ?_), (h c).2.2.2.2.2⟩) (Cert.PrepRefIdeal.Value.run_blocks m' g')
    all_goals obtain ⟨e0, e1, e2, e3, e4, e5⟩ := hm c
    · unfold Cert.PrepRefIdeal.Array.guc Cert.PrepRefIdeal.Array.gue
      rw [e0, e1]
    · unfold Cert.PrepRefIdeal.Array.guc Cert.PrepRefIdeal.Array.gue
      rw [e0, e1]
    · unfold Cert.PrepRefIdeal.Array.wdc Cert.PrepRefIdeal.Array.wde
      rw [e4, e5]
    · unfold Cert.PrepRefIdeal.Array.gutc Cert.PrepRefIdeal.Array.gute
      rw [e2, e3]
    · unfold Cert.PrepRefIdeal.Array.gutc Cert.PrepRefIdeal.Array.gute
      rw [e2, e3]

end Cert.Proof.Prep

end
-- ==== Proof.MlpSpec.lean ====
/-
  The mathematics of the gated feed-forward layer's forward pass and of its activation gradients, entry by entry over the
  extended reals: codes with one scale for 32 columns, three products with weight matrices, and the gate.
-/
module

public import proofs.«01_k».proof.Proof.Scale
public import proofs.«01_k».proof.Proof.Lanes

@[expose] public section

noncomputable section

namespace Cert.Proof

open Idealize.ShloMosaic

/-- The gate's forward value: `g · σ(g) · u`. -/
def actH (g u : EReal) : EReal := g * Ideal.logistic g * u
/-- Its gradient in `g`: `dh · u · σ(g) · (1 + g · (1 - σ(g)))`. -/
def actG (g u dh : EReal) : EReal := dh * u * Ideal.logistic g * (1 + g * (1 - Ideal.logistic g))
/-- Its gradient in `u`: `dh · (g · σ(g))`. -/
def actU (g dh : EReal) : EReal := dh * (g * Ideal.logistic g)

/-- Entry `(i, k)` of codes `X` dequantised with the exponents `E`, one for 32 columns. -/
def deq (X : (sh 40960 1536).Idx → EReal) (E : (sh 40960 48).Idx → BitVec 8) (i : Fin 40960) (k : Fin 1536) : EReal :=
  X (ix2 i k) * scale (E (ix2 i (⟨k.val / 32, by have := k.isLt; omega⟩ : Fin 48)))

/-- Entry `(i, l)` of the product of the dequantised codes with a weight matrix. -/
def deqMul (X : (sh 40960 1536).Idx → EReal) (E : (sh 40960 48).Idx → BitVec 8) (W : (sh 1536 6144).Idx → EReal)
    (i : Fin 40960) (l : Fin 6144) : EReal := ∑ k : Fin 1536, deq X E i k * W (ix2 k l)

end Cert.Proof

end
-- ==== Proof.MlpBlock.lean ====
/-
  What one block of the forward and activation-gradient kernel computes over the extended reals: the three products of a
  dequantised block with a weight block, and the gate's pointwise mathematics on them.
-/
module

public import proofs.«01_k».proof.Proof.MlpSpec
public import proofs.«01_k».proof.Proof.Gen.MlpIdeal.Value

@[expose] public section

noncomputable section

namespace Cert.MlpIdeal.Block

open Cert.MlpIdeal Cert.MlpIdeal.Gen Cert.Proof
open Idealize.ShloMosaic Idealize.ShloMosaic.TcCoe Idealize.SL.Sem

theorem hz : (![0, 0] : Fin 2 → Nat) = fun _ => 0 := funext fun a => by fin_cases a <;> rfl

/-- The dequantised block of `x`. -/
def xb (x : FVec Ideal S1024x1536 .fp8e4m3) (w : IVec S1024x128 16) : FVec Ideal S1024x1536 .bf16 :=
  lanes (N := 12) (H := 512) x w bitcasts_S1024x128_w16_S512x128_w32 iota_S512x128_d1_w32 natLt_1_32
    shapeCasts_S512x128_S512x128x1 shapeCasts_S512x128x1_S512x128 (by decide) bitsLt_fp8e4m3_bf16 bitcasts_S512x128_w32_S1024x128_w16
    concatenates_S1024x128_S1024x128_S1024x128_S1024x128_S1024x128_S1024x128_S1024x128_S1024x128_S1024x128_S1024x128_S1024x128_S1024x128_S1024x1536_d1

/-- The dequantised block of `dy`. -/
def dyb (x : FVec Ideal S1024x1536 .fp8e5m2) (w : IVec S1024x128 16) : FVec Ideal S1024x1536 .bf16 :=
  lanes (N := 12) (H := 512) x w bitcasts_S1024x128_w16_S512x128_w32 iota_S512x128_d1_w32 natLt_1_32
    shapeCasts_S512x128_S512x128x1 shapeCasts_S512x128x1_S512x128 (by decide) bitsLt_fp8e5m2_bf16 bitcasts_S512x128_w32_S1024x128_w16
    concatenates_S1024x128_S1024x128_S1024x128_S1024x128_S1024x128_S1024x128_S1024x128_S1024x128_S1024x128_S1024x128_S1024x128_S1024x128_S1024x1536_d1

/-- Their entries: the code times the value of the word of its group. -/
theorem xb_entry (x : FVec Ideal S1024x1536 .fp8e4m3) (w : IVec S1024x128 16) (r : Fin 1024) (k : Fin 1536) (hk : k.val / 32 < 128) :
    (xb x w (ix2 r k) : EReal) = (x (ix2 r k) : EReal) * Ideal.ofBits .bf16 (w (ix2 r (⟨k.val / 32, hk⟩ : Fin 128))) :=
  lanes_apply (N := 12) x w _ _ _ _ _ _ _ _ _ (by norm_num) (by norm_num) r k
theorem dyb_entry (x : FVec Ideal S1024x1536 .fp8e5m2) (w : IVec S1024x128 16) (r : Fin 1024) (k : Fin 1536) (hk : k.val / 32 < 128) :
    (dyb x w (ix2 r k) : EReal) = (x (ix2 r k) : EReal) * Ideal.ofBits .bf16 (w (ix2 r (⟨k.val / 32, hk⟩ : Fin 128))) :=
  lanes_apply (N := 12) x w _ _ _ _ _ _ _ _ _ (by norm_num) (by norm_num) r k

/-- The kernel's value for the dequantised block of `x`. -/
theorem pay_xb (x0 : Vec Ideal S1024x1536 .fp8e4m3) (x1 : Vec Ideal S1024x128 .i16) (x2 : Vec Ideal S1024x1536 .fp8e5m2)
    (x3 : Vec Ideal S1024x128 .i16) (x4 x5 x6 : Vec Ideal S1536x1024 .bf16) :
    k0_pay49 (F := Ideal) x0 x1 x2 x3 x4 x5 x6 = xb x0 x1 := by
  have h : k0_pay49 (F := Ideal) x0 x1 x2 x3 x4 x5 x6
      = xb (shapeCast S1024x1536 (View.ld x0 r0_0 : FVec Ideal S1024x1536 .fp8e4m3) shapeCasts_S1024x1536_S1024x1536)
        (shapeCast S1024x128 (View.ld x1 r0_1 : IVec S1024x128 16) shapeCasts_S1024x128_S1024x128) := rfl
  exact h.trans (congrArg₂ xb ((shapeCast_self _ _).trans (View.ld_unit_zero (S := S1024x1536) hz _ _))
    ((shapeCast_self _ _).trans (View.ld_unit_zero (S := S1024x128) hz _ _)))

/-- The product of a dequantised block with a weight block. -/
def mm (a : FVec Ideal S1024x1536 .bf16) (b : FVec Ideal S1536x1024 .bf16) : FVec Ideal S1024x1024 .f32 :=
  matmul (φ₁ := .bf16) (φ₂ := .bf16) dot_S1024x1536_S1536x1024_S1024x1024_1_0_0_1_n_n none a b (constant S1024x1024 .f32 0x00000000#32)

/-- The kernel's value for the product of the dequantised block of `dy` with the third weight block. -/
theorem pay_dh (x0 : Vec Ideal S1024x1536 .fp8e4m3) (x1 : Vec Ideal S1024x128 .i16) (x2 : Vec Ideal S1024x1536 .fp8e5m2)
    (x3 : Vec Ideal S1024x128 .i16) (x4 x5 x6 : Vec Ideal S1536x1024 .bf16) :
    k0_pay53 (F := Ideal) x0 x1 x2 x3 x4 x5 x6 = mm (dyb x2 x3) x6 := by
  have h : k0_pay53 (F := Ideal) x0 x1 x2 x3 x4 x5 x6
      = mm (dyb (shapeCast S1024x1536 (View.ld x2 r0_0 : FVec Ideal S1024x1536 .fp8e5m2) shapeCasts_S1024x1536_S1024x1536)
          (shapeCast S1024x128 (View.ld x3 r0_1 : IVec S1024x128 16) shapeCasts_S1024x128_S1024x128))
        (View.ld x6 r0_2 : FVec Ideal S1536x1024 .bf16) := rfl
  exact h.trans (congrArg₂ mm (congrArg₂ dyb ((shapeCast_self _ _).trans (View.ld_unit_zero (S := S1024x1536) hz _ _))
    ((shapeCast_self _ _).trans (View.ld_unit_zero (S := S1024x128) hz _ _))) (View.ld_unit_zero (S := S1536x1024) hz _ _))

variable (x0 : Vec Ideal S1024x1536 .fp8e4m3) (x1 : Vec Ideal S1024x128 .i16) (x2 : Vec Ideal S1024x1536 .fp8e5m2)
    (x3 : Vec Ideal S1024x128 .i16) (x4 x5 x6 : Vec Ideal S1536x1024 .bf16)

/-- The product of a dequantised block with a weight block, at an index. -/
abbrev prod (a : FVec Ideal S1024x1536 .bf16) (b : FVec Ideal S1536x1024 .bf16) (r l : Fin 1024) : EReal :=
  ∑ k : Fin 1536, (a (ix2 r k) : EReal) * (b (ix2 k l) : EReal)

theorem mm_apply (a : FVec Ideal S1024x1536 .bf16) (b : FVec Ideal S1536x1024 .bf16) (r l : Fin 1024) :
    (mm a b (ix2 r l) : EReal) = prod a b r l := by
  pointwise [mm]

/-- The block of `h`. -/
theorem out7_apply (r l : Fin 1024) :
    (out0_7 (F := Ideal) x0 x1 x2 x3 x4 x5 x6 (ix2 r l) : EReal)
      = actH (prod (xb x0 x1) x4 r l) (prod (xb x0 x1) x5 r l) := by
  unfold out0_7
  rw [View.canon_unit_zero (S := S1024x1024) hz, pay_xb, View.ld_unit_zero (S := S1536x1024) hz, View.ld_unit_zero (S := S1536x1024) hz]
  pointwise [k0_pay44, k0_pay43, k0_pay42, k0_pay40, k0_pay39]
  rfl

/-- The block of `dg`. -/
theorem out8_apply (r l : Fin 1024) :
    (out0_8 (F := Ideal) x0 x1 x2 x3 x4 x5 x6 (ix2 r l) : EReal)
      = actG (prod (xb x0 x1) x4 r l) (prod (xb x0 x1) x5 r l) (prod (dyb x2 x3) x6 r l) := by
  unfold out0_8
  rw [View.canon_unit_zero (S := S1024x1024) hz, pay_xb, pay_dh, View.ld_unit_zero (S := S1536x1024) hz, View.ld_unit_zero (S := S1536x1024) hz]
  pointwise [k0_pay45, k0_pay43, k0_pay42, k0_pay40, k0_pay39]
  rw [mm_apply]
  rfl

/-- The block of `du`. -/
theorem out9_apply (r l : Fin 1024) :
    (out0_9 (F := Ideal) x0 x1 x2 x3 x4 x5 x6 (ix2 r l) : EReal)
      = actU (prod (xb x0 x1) x4 r l) (prod (dyb x2 x3) x6 r l) := by
  unfold out0_9
  rw [View.canon_unit_zero (S := S1024x1024) hz, pay_xb, pay_dh, View.ld_unit_zero (S := S1536x1024) hz]
  pointwise [k0_pay1, k0_pay43, k0_pay42, k0_pay40, k0_pay39]
  rw [mm_apply]
  rfl

end Cert.MlpIdeal.Block

end
-- ==== Proof.MlpValue.lean ====
/-
  What the three result arrays of the forward and activation-gradient kernel hold over the extended reals.
-/
module

public import proofs.«01_k».proof.Proof.MlpBlock
public import proofs.«01_k».proof.Proof.Words
public import Idealize.ShloMosaic.Lib.StableHlo.ReadAt
public import Idealize.ShloMosaic.Lib.Pipeline.ValueKit.Point

@[expose] public section

noncomputable section

namespace Cert.MlpIdeal.Array

open Cert.MlpIdeal Cert.MlpIdeal.Gen Cert.MlpIdeal.Value Cert.MlpIdeal.Block Cert.Proof
open Idealize.ShloMosaic Idealize.ShloMosaic.TcCoe Idealize.SL.Sem

variable (m : (ℓ : Loc nD τ sig) → Buf (Elt Ideal) ℓ)

/-- The codes and exponents of `x` and `dy` of device `c`, one row for a token, and the three weight matrices. -/
abbrev xc (c : Dev nD) : (sh 40960 1536).Idx → EReal :=
  shapeCast S40960x1536 (m ((c : Thread nD τ).loc main_arg0) : S5x8192x1536.Idx → EReal) shapeCasts_S5x8192x1536_S40960x1536
abbrev xe (c : Dev nD) : (sh 40960 48).Idx → BitVec 8 :=
  shapeCast S40960x48 (m ((c : Thread nD τ).loc main_arg1) : S5x8192x48.Idx → BitVec 8) shapeCasts_S5x8192x48_S40960x48
abbrev dyc (c : Dev nD) : (sh 40960 1536).Idx → EReal :=
  shapeCast S40960x1536 (m ((c : Thread nD τ).loc main_arg2) : S5x8192x1536.Idx → EReal) shapeCasts_S5x8192x1536_S40960x1536
abbrev dye (c : Dev nD) : (sh 40960 48).Idx → BitVec 8 :=
  shapeCast S40960x48 (m ((c : Thread nD τ).loc main_arg3) : S5x8192x48.Idx → BitVec 8) shapeCasts_S5x8192x48_S40960x48
abbrev wg (c : Dev nD) : (sh 1536 6144).Idx → EReal := m ((c : Thread nD τ).loc main_arg4)
abbrev wu (c : Dev nD) : (sh 1536 6144).Idx → EReal := m ((c : Thread nD τ).loc main_arg5)
abbrev wt (c : Dev nD) : (sh 1536 6144).Idx → EReal := m ((c : Thread nD τ).loc main_arg6)

theorem V0 (c : Dev nD) : (V m c main_v0 : S40960x1536.Idx → EReal) = xc m c := by
  entry_read
  rfl
theorem V1 (c : Dev nD) : (V m c main_v1 : S40960x1536.Idx → EReal) = dyc m c := by
  entry_read
  rfl

/-- The word of group `g` of token `i`'s scales. -/
theorem V7 (c : Dev nD) (i : Fin 40960) (g : Fin 48) (hg : g.val < 128) :
    (V m c main_v7 : S40960x128.Idx → BitVec 16) (ix2 i (⟨g.val, hg⟩ : Fin 128)) = word16 (xe m c (ix2 i g)) := by
  unfold V
  after_reads_simp
  simp only [StableHlo.TRef.toBuf, StableHlo.TRef.ofBuf, cast_eq]
  exact (padCols_apply _ _ _ _ i g hg).trans (shift16_apply _ _ _ _ (fun _ => rfl) _)

theorem V13 (c : Dev nD) (i : Fin 40960) (g : Fin 48) (hg : g.val < 128) :
    (V m c main_v13 : S40960x128.Idx → BitVec 16) (ix2 i (⟨g.val, hg⟩ : Fin 128)) = word16 (dye m c (ix2 i g)) := by
  unfold V
  after_reads_simp
  simp only [StableHlo.TRef.toBuf, StableHlo.TRef.ofBuf, cast_eq]
  exact (padCols_apply _ _ _ _ i g hg).trans (shift16_apply _ _ _ _ (fun _ => rfl) _)

/-- Point `t` has token block `t % 40` and column block `t / 40`. -/
theorem index_eq : ∀ t : Fin cfg0.N, win0_0.index t (0 : Fin 2) = t.val % 40 ∧ win0_0.index t (1 : Fin 2) = 0
    ∧ win0_1.index t (0 : Fin 2) = t.val % 40 ∧ win0_1.index t (1 : Fin 2) = 0
    ∧ win0_2.index t (0 : Fin 2) = t.val % 40 ∧ win0_2.index t (1 : Fin 2) = 0
    ∧ win0_3.index t (0 : Fin 2) = t.val % 40 ∧ win0_3.index t (1 : Fin 2) = 0
    ∧ win0_4.index t (0 : Fin 2) = 0 ∧ win0_4.index t (1 : Fin 2) = t.val / 40
    ∧ win0_5.index t (0 : Fin 2) = 0 ∧ win0_5.index t (1 : Fin 2) = t.val / 40
    ∧ win0_6.index t (0 : Fin 2) = 0 ∧ win0_6.index t (1 : Fin 2) = t.val / 40 :=
  (by decide +kernel : ∀ t : Fin grid0.N, _)

theorem out_index : ∀ t : Fin cfg0.N, win0_7.index t (0 : Fin 2) = t.val % 40 ∧ win0_7.index t (1 : Fin 2) = t.val / 40
    ∧ win0_8.index t (0 : Fin 2) = t.val % 40 ∧ win0_8.index t (1 : Fin 2) = t.val / 40
    ∧ win0_9.index t (0 : Fin 2) = t.val % 40 ∧ win0_9.index t (1 : Fin 2) = t.val / 40 :=
  (by decide +kernel : ∀ t : Fin grid0.N, _)

theorem N_lt (t : Fin cfg0.N) : t.val < 240 := lt_of_lt_of_eq t.isLt N_0

/-- Row `r` of point `t`'s token block, and column `l` of its column block. -/
abbrev row (t : Fin cfg0.N) (r : Fin 1024) : Fin 40960 := ⟨t.val % 40 * 1024 + r.val, by omega⟩
abbrev col (t : Fin cfg0.N) (l : Fin 1024) : Fin 6144 := ⟨t.val / 40 * 1024 + l.val, by have := N_lt t; omega⟩

abbrev b0 (c : Dev nD) (t : Fin cfg0.N) : S1024x1536.Idx → EReal := iblk m c 0 t
abbrev b1 (c : Dev nD) (t : Fin cfg0.N) : S1024x128.Idx → BitVec 16 := iblk m c 1 t
abbrev b2 (c : Dev nD) (t : Fin cfg0.N) : S1024x1536.Idx → EReal := iblk m c 2 t
abbrev b3 (c : Dev nD) (t : Fin cfg0.N) : S1024x128.Idx → BitVec 16 := iblk m c 3 t
abbrev b4 (c : Dev nD) (t : Fin cfg0.N) : S1536x1024.Idx → EReal := iblk m c 4 t
abbrev b5 (c : Dev nD) (t : Fin cfg0.N) : S1536x1024.Idx → EReal := iblk m c 5 t
abbrev b6 (c : Dev nD) (t : Fin cfg0.N) : S1536x1024.Idx → EReal := iblk m c 6 t

theorem b0_apply (c : Dev nD) (t : Fin cfg0.N) (r : Fin 1024) (k : Fin 1536) : b0 m c t (ix2 r k) = xc m c (ix2 (row t r) k) := by
  obtain ⟨h0, h1, -⟩ := index_eq t
  unfold b0 iblk
  rw [View.read_apply, ← V0]
  show V m c main_v0 _ = V m c main_v0 _
  congr 1
  funext a; apply Fin.ext
  match a with
  | ⟨0, _⟩ => show win0_0.index t 0 * 1024 + 1 * r.val = t.val % 40 * 1024 + r.val; rw [h0, Nat.one_mul]
  | ⟨1, _⟩ => show win0_0.index t 1 * 1536 + 1 * k.val = k.val; rw [h1]; omega

theorem b1_apply (c : Dev nD) (t : Fin cfg0.N) (r : Fin 1024) (g : Fin 48) (hg : g.val < 128) :
    b1 m c t (ix2 r (⟨g.val, hg⟩ : Fin 128)) = word16 (xe m c (ix2 (row t r) g)) := by
  obtain ⟨-, -, h0, h1, -⟩ := index_eq t
  unfold b1 iblk
  rw [View.read_apply, ← V7 m c (row t r) g hg]
  show V m c main_v7 _ = V m c main_v7 _
  congr 1
  funext a; apply Fin.ext
  match a with
  | ⟨0, _⟩ => show win0_1.index t 0 * 1024 + 1 * r.val = t.val % 40 * 1024 + r.val; rw [h0, Nat.one_mul]
  | ⟨1, _⟩ => show win0_1.index t 1 * 128 + 1 * g.val = g.val; rw [h1]; omega

theorem b2_apply (c : Dev nD) (t : Fin cfg0.N) (r : Fin 1024) (k : Fin 1536) : b2 m c t (ix2 r k) = dyc m c (ix2 (row t r) k) := by
  obtain ⟨-, -, -, -, h0, h1, -⟩ := index_eq t
  unfold b2 iblk
  rw [View.read_apply, ← V1]
  show V m c main_v1 _ = V m c main_v1 _
  congr 1
  funext a; apply Fin.ext
  match a with
  | ⟨0, _⟩ => show win0_2.index t 0 * 1024 + 1 * r.val = t.val % 40 * 1024 + r.val; rw [h0, Nat.one_mul]
  | ⟨1, _⟩ => show win0_2.index t 1 * 1536 + 1 * k.val = k.val; rw [h1]; omega

theorem b3_apply (c : Dev nD) (t : Fin cfg0.N) (r : Fin 1024) (g : Fin 48) (hg : g.val < 128) :
    b3 m c t (ix2 r (⟨g.val, hg⟩ : Fin 128)) = word16 (dye m c (ix2 (row t r) g)) := by
  obtain ⟨-, -, -, -, -, -, h0, h1, -⟩ := index_eq t
  unfold b3 iblk
  rw [View.read_apply, ← V13 m c (row t r) g hg]
  show V m c main_v13 _ = V m c main_v13 _
  congr 1
  funext a; apply Fin.ext
  match a with
  | ⟨0, _⟩ => show win0_3.index t 0 * 1024 + 1 * r.val = t.val % 40 * 1024 + r.val; rw [h0, Nat.one_mul]
  | ⟨1, _⟩ => show win0_3.index t 1 * 128 + 1 * g.val = g.val; rw [h1]; omega

theorem b4_apply (c : Dev nD) (t : Fin cfg0.N) (k : Fin 1536) (l : Fin 1024) : b4 m c t (ix2 k l) = wg m c (ix2 k (col t l)) := by
  obtain ⟨-, -, -, -, -, -, -, -, h0, h1, -⟩ := index_eq t
  unfold b4 iblk
  rw [View.read_apply]
  refine (congrFun (V_main_arg4 m c) _).trans (congrArg (m ((c : Thread nD τ).loc main_arg4)) ?_)
  funext a; apply Fin.ext
  match a with
  | ⟨0, _⟩ => show win0_4.index t 0 * 1536 + 1 * k.val = k.val; rw [h0]; omega
  | ⟨1, _⟩ => show win0_4.index t 1 * 1024 + 1 * l.val = t.val / 40 * 1024 + l.val; rw [h1, Nat.one_mul]

theorem b5_apply (c : Dev nD) (t : Fin cfg0.N) (k : Fin 1536) (l : Fin 1024) : b5 m c t (ix2 k l) = wu m c (ix2 k (col t l)) := by
  obtain ⟨-, -, -, -, -, -, -, -, -, -, h0, h1, -⟩ := index_eq t
  unfold b5 iblk
  rw [View.read_apply]
  refine (congrFun (V_main_arg5 m c) _).trans (congrArg (m ((c : Thread nD τ).loc main_arg5)) ?_)
  funext a; apply Fin.ext
  match a with
  | ⟨0, _⟩ => show win0_5.index t 0 * 1536 + 1 * k.val = k.val; rw [h0]; omega
  | ⟨1, _⟩ => show win0_5.index t 1 * 1024 + 1 * l.val = t.val / 40 * 1024 + l.val; rw [h1, Nat.one_mul]

theorem b6_apply (c : Dev nD) (t : Fin cfg0.N) (k : Fin 1536) (l : Fin 1024) : b6 m c t (ix2 k l) = wt m c (ix2 k (col t l)) := by
  obtain ⟨-, -, -, -, -, -, -, -, -, -, -, -, h0, h1⟩ := index_eq t
  unfold b6 iblk
  rw [View.read_apply]
  refine (congrFun (V_main_arg6 m c) _).trans (congrArg (m ((c : Thread nD τ).loc main_arg6)) ?_)
  funext a; apply Fin.ext
  match a with
  | ⟨0, _⟩ => show win0_6.index t 0 * 1536 + 1 * k.val = k.val; rw [h0]; omega
  | ⟨1, _⟩ => show win0_6.index t 1 * 1024 + 1 * l.val = t.val / 40 * 1024 + l.val; rw [h1, Nat.one_mul]

/-- A dequantised block of `x` holds the dequantised entries of its tokens. -/
theorem xb_apply (c : Dev nD) (t : Fin cfg0.N) (r : Fin 1024) (k : Fin 1536) :
    (xb (b0 m c t) (b1 m c t) (ix2 r k) : EReal) = deq (xc m c) (xe m c) (row t r) k := by
  have hk := k.isLt
  rw [xb_entry _ _ r k (by omega), b0_apply, b1_apply m c t r (⟨k.val / 32, by omega⟩ : Fin 48) (by show k.val / 32 < 128; omega), ofBits_word16]
  rfl

/-- And one of `dy`. -/
theorem dyb_apply (c : Dev nD) (t : Fin cfg0.N) (r : Fin 1024) (k : Fin 1536) :
    (dyb (b2 m c t) (b3 m c t) (ix2 r k) : EReal) = deq (dyc m c) (dye m c) (row t r) k := by
  have hk := k.isLt
  rw [dyb_entry _ _ r k (by omega), b2_apply, b3_apply m c t r (⟨k.val / 32, by omega⟩ : Fin 48) (by show k.val / 32 < 128; omega), ofBits_word16]
  rfl

/-- The three products of point `t`. -/
theorem g_apply (c : Dev nD) (t : Fin cfg0.N) (r l : Fin 1024) :
    prod (xb (b0 m c t) (b1 m c t)) (b4 m c t) r l = deqMul (xc m c) (xe m c) (wg m c) (row t r) (col t l) :=
  Finset.sum_congr rfl fun k _ => congrArg₂ (· * ·) (xb_apply m c t r k) (b4_apply m c t k l)
theorem u_apply (c : Dev nD) (t : Fin cfg0.N) (r l : Fin 1024) :
    prod (xb (b0 m c t) (b1 m c t)) (b5 m c t) r l = deqMul (xc m c) (xe m c) (wu m c) (row t r) (col t l) :=
  Finset.sum_congr rfl fun k _ => congrArg₂ (· * ·) (xb_apply m c t r k) (b5_apply m c t k l)
theorem dh_apply (c : Dev nD) (t : Fin cfg0.N) (r l : Fin 1024) :
    prod (dyb (b2 m c t) (b3 m c t)) (b6 m c t) r l = deqMul (dyc m c) (dye m c) (wt m c) (row t r) (col t l) :=
  Finset.sum_congr rfl fun k _ => congrArg₂ (· * ·) (dyb_apply m c t r k) (b6_apply m c t k l)

/-- The arrays of `h`, `dg` and `du`, entry by entry. -/
def hArr (c : Dev nD) : (sh 40960 6144).Idx → EReal := fun j =>
  actH (deqMul (xc m c) (xe m c) (wg m c) (j 0) (j 1)) (deqMul (xc m c) (xe m c) (wu m c) (j 0) (j 1))
def dgArr (c : Dev nD) : (sh 40960 6144).Idx → EReal := fun j =>
  actG (deqMul (xc m c) (xe m c) (wg m c) (j 0) (j 1)) (deqMul (xc m c) (xe m c) (wu m c) (j 0) (j 1))
    (deqMul (dyc m c) (dye m c) (wt m c) (j 0) (j 1))
def duArr (c : Dev nD) : (sh 40960 6144).Idx → EReal := fun j =>
  actU (deqMul (xc m c) (xe m c) (wg m c) (j 0) (j 1)) (deqMul (dyc m c) (dye m c) (wt m c) (j 0) (j 1))

/-- What point `t` leaves in its blocks is its part of these arrays. -/
theorem blk7 (c : Dev nD) (t : Fin cfg0.N) (r l : Fin 1024) :
    (out0_7 (F := Ideal) (b0 m c t) (b1 m c t) (b2 m c t) (b3 m c t) (b4 m c t) (b5 m c t) (b6 m c t) (ix2 r l) : EReal)
      = hArr m c (ix2 (row t r) (col t l)) := by
  refine (out7_apply _ _ _ _ _ _ _ r l).trans ?_
  rw [g_apply, u_apply]
  rfl
theorem blk8 (c : Dev nD) (t : Fin cfg0.N) (r l : Fin 1024) :
    (out0_8 (F := Ideal) (b0 m c t) (b1 m c t) (b2 m c t) (b3 m c t) (b4 m c t) (b5 m c t) (b6 m c t) (ix2 r l) : EReal)
      = dgArr m c (ix2 (row t r) (col t l)) := by
  refine (out8_apply _ _ _ _ _ _ _ r l).trans ?_
  rw [g_apply, u_apply, dh_apply]
  rfl
theorem blk9 (c : Dev nD) (t : Fin cfg0.N) (r l : Fin 1024) :
    (out0_9 (F := Ideal) (b0 m c t) (b1 m c t) (b2 m c t) (b3 m c t) (b4 m c t) (b5 m c t) (b6 m c t) (ix2 r l) : EReal)
      = duArr m c (ix2 (row t r) (col t l)) := by
  refine (out9_apply _ _ _ _ _ _ _ r l).trans ?_
  rw [g_apply, dh_apply]
  rfl

/-- The result arrays after the run are these. -/
theorem final7 (c : Dev nD) : (dats m 0 c).arrAt 7 cfg0.N = hArr m c := by
  refine (dats m 0 c).arrAt_eq_of_covers 7 _ (by decide +kernel) fun t hf y => ?_
  blk_simp
  rw [after0_7]
  obtain ⟨h0, h1, -⟩ := out_index t
  rw [show (win0_7.blk t).view.emb y = ix2 (row t (y 0)) (col t (y 1)) from by
    funext a; apply Fin.ext
    match a with
    | ⟨0, _⟩ => show win0_7.index t 0 * 1024 + 1 * (y 0).val = t.val % 40 * 1024 + (y 0).val; rw [h0, Nat.one_mul]
    | ⟨1, _⟩ => show win0_7.index t 1 * 1024 + 1 * (y 1).val = t.val / 40 * 1024 + (y 1).val; rw [h1, Nat.one_mul]]
  exact (congrArg _ (ValueIdx.eq_ix2 y)).trans (blk7 m c t (y 0) (y 1))

theorem final8 (c : Dev nD) : (dats m 0 c).arrAt 8 cfg0.N = dgArr m c := by
  refine (dats m 0 c).arrAt_eq_of_covers 8 _ (by decide +kernel) fun t hf y => ?_
  blk_simp
  rw [after0_8]
  obtain ⟨-, -, h0, h1, -⟩ := out_index t
  rw [show (win0_8.blk t).view.emb y = ix2 (row t (y 0)) (col t (y 1)) from by
    funext a; apply Fin.ext
    match a with
    | ⟨0, _⟩ => show win0_8.index t 0 * 1024 + 1 * (y 0).val = t.val % 40 * 1024 + (y 0).val; rw [h0, Nat.one_mul]
    | ⟨1, _⟩ => show win0_8.index t 1 * 1024 + 1 * (y 1).val = t.val / 40 * 1024 + (y 1).val; rw [h1, Nat.one_mul]]
  exact (congrArg _ (ValueIdx.eq_ix2 y)).trans (blk8 m c t (y 0) (y 1))

theorem final9 (c : Dev nD) : (dats m 0 c).arrAt 9 cfg0.N = duArr m c := by
  refine (dats m 0 c).arrAt_eq_of_covers 9 _ (by decide +kernel) fun t hf y => ?_
  blk_simp
  rw [after0_9]
  obtain ⟨-, -, -, -, h0, h1⟩ := out_index t
  rw [show (win0_9.blk t).view.emb y = ix2 (row t (y 0)) (col t (y 1)) from by
    funext a; apply Fin.ext
    match a with
    | ⟨0, _⟩ => show win0_9.index t 0 * 1024 + 1 * (y 0).val = t.val % 40 * 1024 + (y 0).val; rw [h0, Nat.one_mul]
    | ⟨1, _⟩ => show win0_9.index t 1 * 1024 + 1 * (y 1).val = t.val / 40 * 1024 + (y 1).val; rw [h1, Nat.one_mul]]
  exact (congrArg _ (ValueIdx.eq_ix2 y)).trans (blk9 m c t (y 0) (y 1))

end Cert.MlpIdeal.Array

end
-- ==== Proof.MlpRef.lean ====
/-
  What the reference for the forward and activation-gradient call computes over the extended reals.
-/
module

public import proofs.«01_k».proof.Proof.MlpSpec
public import proofs.«01_k».proof.Proof.RefScale
public import proofs.«01_k».proof.Proof.Gen.MlpRefIdeal.Value
public import Idealize.ShloMosaic.Lib.Pipeline.ValueKit.Point

@[expose] public section

noncomputable section

namespace Cert.MlpRefIdeal.Array

open Cert.MlpRefIdeal Cert.MlpRefIdeal.Gen Cert.MlpRefIdeal.Value Cert.Proof
open Idealize.ShloMosaic Idealize.ShloMosaic.TcCoe Idealize.SL.Sem

theorem hz : (![0, 0] : Fin 2 → Nat) = fun _ => 0 := funext fun a => by fin_cases a <;> rfl

/-- The dequantised codes, of either code format. -/
def rb {φ : FTy} (x : FVec Ideal S40960x1536 φ) (e : IVec S40960x48 8) (h : FTy.bits φ < FTy.bits .bf16) : FVec Ideal S40960x1536 .bf16 :=
  refLanes (M := 48) x e natLt_8_32 bitsLt_bf16_f32 h shapeCasts_S40960x1536_S40960x48x32 shapeCasts_S40960x48x32_S40960x1536
    shapeCasts_S40960x48_S40960x48x1 broadcasts_S40960x48x1_S40960x48x32

theorem rb_apply {φ : FTy} (x : FVec Ideal S40960x1536 φ) (e : IVec S40960x48 8) (h : FTy.bits φ < FTy.bits .bf16)
    (r : Fin 40960) (k : Fin 1536) : (rb x e h (ix2 r k) : EReal) = deq x e r k :=
  refLanes_apply (M := 48) x e _ _ _ _ _ _ _ (by norm_num) (by norm_num) (by norm_num) r k

/-- The product of dequantised codes with a weight matrix. -/
def mm (a : FVec Ideal S40960x1536 .bf16) (b : FVec Ideal S1536x6144 .bf16) : FVec Ideal S40960x6144 .f32 :=
  matmul (φ₁ := .bf16) (φ₂ := .bf16) dot_S40960x1536_S1536x6144_S40960x6144_1_0_0_1_n_n none a b (constant S40960x6144 .f32 0x00000000#32)

theorem mm_apply (a : FVec Ideal S40960x1536 .bf16) (b : FVec Ideal S1536x6144 .bf16) (r : Fin 40960) (l : Fin 6144) :
    (mm a b (ix2 r l) : EReal) = ∑ k : Fin 1536, (a (ix2 r k) : EReal) * (b (ix2 k l) : EReal) := by
  pointwise [mm]

theorem mm_rb {φ : FTy} (x : FVec Ideal S40960x1536 φ) (e : IVec S40960x48 8) (h : FTy.bits φ < FTy.bits .bf16)
    (b : FVec Ideal S1536x6144 .bf16) (r : Fin 40960) (l : Fin 6144) : (mm (rb x e h) b (ix2 r l) : EReal) = deqMul x e b r l :=
  (mm_apply _ _ r l).trans (Finset.sum_congr rfl fun k _ => by rw [rb_apply])

/-- `1 / (1 + e^(0 - x))` is the logistic function. -/
theorem logistic_eq (x : EReal) : Ideal.div 1 (1 + Ideal.exp (0 - x)) = Ideal.logistic x := by
  rw [Ideal.logistic, zero_sub]

variable (x0 : Vec Ideal S40960x1536 .fp8e4m3) (x1 : Vec Ideal S40960x48 .i8) (x2 : Vec Ideal S40960x1536 .fp8e5m2)
    (x3 : Vec Ideal S40960x48 .i8) (x4 x5 x6 : Vec Ideal S1536x6144 .bf16)

theorem pay14 : k0_pay14 (F := Ideal) x0 x1 x2 x3 x4 x5 x6 = rb x0 x1 bitsLt_fp8e4m3_bf16 := by
  have h : k0_pay14 (F := Ideal) x0 x1 x2 x3 x4 x5 x6
      = rb (shapeCast S40960x1536 (View.ld x0 r0_0 : FVec Ideal S40960x1536 .fp8e4m3) shapeCasts_S40960x1536_S40960x1536)
        (shapeCast S40960x48 (View.ld x1 r0_1 : IVec S40960x48 8) shapeCasts_S40960x48_S40960x48) bitsLt_fp8e4m3_bf16 := rfl
  exact h.trans (congrArg₂ (fun a b => rb a b bitsLt_fp8e4m3_bf16)
    ((shapeCast_self _ _).trans (View.ld_unit_zero (S := S40960x1536) hz _ _))
    ((shapeCast_self _ _).trans (View.ld_unit_zero (S := S40960x48) hz _ _)))

theorem dh_eq (w : FVec Ideal S1536x6144 .bf16) :
    k0_pay9 (F := Ideal) (k0_pay15 x0 x1 x2 x3 x4 x5 x6) (k0_pay16 x0 x1 x2 x3 x4 x5 x6) (k0_pay17 x0 x1 x2 x3 x4 x5 x6)
      (k0_pay18 x0 x1 x2 x3 x4 x5 x6) w = mm (rb x2 x3 bitsLt_fp8e5m2_bf16) w := by
  have h : k0_pay9 (F := Ideal) (k0_pay15 x0 x1 x2 x3 x4 x5 x6) (k0_pay16 x0 x1 x2 x3 x4 x5 x6) (k0_pay17 x0 x1 x2 x3 x4 x5 x6)
      (k0_pay18 x0 x1 x2 x3 x4 x5 x6) w = mm (rb (shapeCast S40960x1536 (View.ld x2 r0_0 : FVec Ideal S40960x1536 .fp8e5m2) shapeCasts_S40960x1536_S40960x1536)
        (shapeCast S40960x48 (View.ld x3 r0_1 : IVec S40960x48 8) shapeCasts_S40960x48_S40960x48) bitsLt_fp8e5m2_bf16) w := rfl
  exact h.trans (congrArg (fun a => mm a w) (congrArg₂ (fun a b => rb a b bitsLt_fp8e5m2_bf16)
    ((shapeCast_self _ _).trans (View.ld_unit_zero (S := S40960x1536) hz _ _))
    ((shapeCast_self _ _).trans (View.ld_unit_zero (S := S40960x48) hz _ _))))

theorem pay7_eq (a : FVec Ideal S40960x1536 .bf16) (w : FVec Ideal S1536x6144 .bf16) : k0_pay7 (F := Ideal) a w = mm a w := rfl
theorem pay8_eq (a : FVec Ideal S40960x1536 .bf16) (w : FVec Ideal S1536x6144 .bf16) : k0_pay8 (F := Ideal) a w = mm a w := rfl

/-- The three results at an index. -/
theorem out7_apply (r : Fin 40960) (l : Fin 6144) :
    (out0_7 (F := Ideal) x0 x1 x2 x3 x4 x5 x6 (ix2 r l) : EReal) = actH (deqMul x0 x1 x4 r l) (deqMul x0 x1 x5 r l) := by
  unfold out0_7
  rw [View.canon_unit_zero (S := S40960x6144) hz, pay14, View.ld_unit_zero (S := S1536x6144) hz, View.ld_unit_zero (S := S1536x6144) hz]
  unfold k0_pay11 k0_pay10
  rw [pay7_eq, pay8_eq]
  pointwise
  rw [mm_rb, mm_rb]
  rw [logistic_eq]
  rfl

theorem out8_apply (r : Fin 40960) (l : Fin 6144) :
    (out0_8 (F := Ideal) x0 x1 x2 x3 x4 x5 x6 (ix2 r l) : EReal)
      = actG (deqMul x0 x1 x4 r l) (deqMul x0 x1 x5 r l) (deqMul x2 x3 x6 r l) := by
  unfold out0_8
  rw [View.canon_unit_zero (S := S40960x6144) hz, pay14, View.ld_unit_zero (S := S1536x6144) hz, View.ld_unit_zero (S := S1536x6144) hz,
    View.ld_unit_zero (S := S1536x6144) hz]
  unfold k0_pay12 k0_pay10
  rw [pay7_eq, pay8_eq, dh_eq]
  pointwise
  rw [mm_rb, mm_rb, mm_rb, logistic_eq]
  rfl

theorem out9_apply (r : Fin 40960) (l : Fin 6144) :
    (out0_9 (F := Ideal) x0 x1 x2 x3 x4 x5 x6 (ix2 r l) : EReal) = actU (deqMul x0 x1 x4 r l) (deqMul x2 x3 x6 r l) := by
  unfold out0_9
  rw [View.canon_unit_zero (S := S40960x6144) hz, pay14, View.ld_unit_zero (S := S1536x6144) hz, View.ld_unit_zero (S := S1536x6144) hz]
  unfold k0_pay13 k0_pay10
  rw [pay7_eq, dh_eq]
  pointwise
  rw [mm_rb, mm_rb, logistic_eq]
  exact mul_assoc _ _ _

variable (m : (ℓ : Loc nD τ sig) → Buf (Elt Ideal) ℓ)

/-- The codes and exponents of `x` and `dy` of device `c`, one row for a token, and the three weight matrices. -/
abbrev xc (c : Dev nD) : (sh 40960 1536).Idx → EReal :=
  shapeCast S40960x1536 (m ((c : Thread nD τ).loc main_arg0) : S5x8192x1536.Idx → EReal) shapeCasts_S5x8192x1536_S40960x1536
abbrev xe (c : Dev nD) : (sh 40960 48).Idx → BitVec 8 :=
  shapeCast S40960x48 (m ((c : Thread nD τ).loc main_arg1) : S5x8192x48.Idx → BitVec 8) shapeCasts_S5x8192x48_S40960x48
abbrev dyc (c : Dev nD) : (sh 40960 1536).Idx → EReal :=
  shapeCast S40960x1536 (m ((c : Thread nD τ).loc main_arg2) : S5x8192x1536.Idx → EReal) shapeCasts_S5x8192x1536_S40960x1536
abbrev dye (c : Dev nD) : (sh 40960 48).Idx → BitVec 8 :=
  shapeCast S40960x48 (m ((c : Thread nD τ).loc main_arg3) : S5x8192x48.Idx → BitVec 8) shapeCasts_S5x8192x48_S40960x48
abbrev wg (c : Dev nD) : (sh 1536 6144).Idx → EReal := m ((c : Thread nD τ).loc main_arg4)
abbrev wu (c : Dev nD) : (sh 1536 6144).Idx → EReal := m ((c : Thread nD τ).loc main_arg5)
abbrev wt (c : Dev nD) : (sh 1536 6144).Idx → EReal := m ((c : Thread nD τ).loc main_arg6)

theorem V0 (c : Dev nD) : (V m c main_v0 : S40960x1536.Idx → EReal) = xc m c := by
  entry_read
  rfl
theorem V1 (c : Dev nD) : (V m c main_v1 : S40960x48.Idx → BitVec 8) = xe m c := by
  entry_read
  rfl
theorem V2 (c : Dev nD) : (V m c main_v2 : S40960x1536.Idx → EReal) = dyc m c := by
  entry_read
  rfl
theorem V3 (c : Dev nD) : (V m c main_v3 : S40960x48.Idx → BitVec 8) = dye m c := by
  entry_read
  rfl

theorem index_eq : ∀ t : Fin cfg0.N, ∀ a : Fin 2, win0_0.index t a = 0 ∧ win0_1.index t a = 0 ∧ win0_2.index t a = 0
    ∧ win0_3.index t a = 0 ∧ win0_4.index t a = 0 ∧ win0_5.index t a = 0 ∧ win0_6.index t a = 0 ∧ win0_7.index t a = 0
    ∧ win0_8.index t a = 0 ∧ win0_9.index t a = 0 :=
  (by decide +kernel : ∀ t : Fin grid0.N, ∀ a : Fin 2, _)

/-- The one block of each operand is the operand. -/
theorem b0_eq (c : Dev nD) (t : Fin cfg0.N) : (iblk m c 0 t : S40960x1536.Idx → EReal) = xc m c := by
  funext j
  unfold iblk
  rw [View.read_apply]
  refine (congrArg (V m c main_v0) (idx_ext2 _ j ?_ ?_)).trans (congrFun (V0 m c) j)
  · show win0_0.index t 0 * 40960 + 1 * (j 0).val = (j 0).val; rw [(index_eq t 0).1]; omega
  · show win0_0.index t 1 * 1536 + 1 * (j 1).val = (j 1).val; rw [(index_eq t 1).1]; omega
theorem b1_eq (c : Dev nD) (t : Fin cfg0.N) : (iblk m c 1 t : S40960x48.Idx → BitVec 8) = xe m c := by
  funext j
  unfold iblk
  rw [View.read_apply]
  refine (congrArg (V m c main_v1) (idx_ext2 _ j ?_ ?_)).trans (congrFun (V1 m c) j)
  · show win0_1.index t 0 * 40960 + 1 * (j 0).val = (j 0).val; rw [(index_eq t 0).2.1]; omega
  · show win0_1.index t 1 * 48 + 1 * (j 1).val = (j 1).val; rw [(index_eq t 1).2.1]; omega
theorem b2_eq (c : Dev nD) (t : Fin cfg0.N) : (iblk m c 2 t : S40960x1536.Idx → EReal) = dyc m c := by
  funext j
  unfold iblk
  rw [View.read_apply]
  refine (congrArg (V m c main_v2) (idx_ext2 _ j ?_ ?_)).trans (congrFun (V2 m c) j)
  · show win0_2.index t 0 * 40960 + 1 * (j 0).val = (j 0).val; rw [(index_eq t 0).2.2.1]; omega
  · show win0_2.index t 1 * 1536 + 1 * (j 1).val = (j 1).val; rw [(index_eq t 1).2.2.1]; omega
theorem b3_eq (c : Dev nD) (t : Fin cfg0.N) : (iblk m c 3 t : S40960x48.Idx → BitVec 8) = dye m c := by
  funext j
  unfold iblk
  rw [View.read_apply]
  refine (congrArg (V m c main_v3) (idx_ext2 _ j ?_ ?_)).trans (congrFun (V3 m c) j)
  · show win0_3.index t 0 * 40960 + 1 * (j 0).val = (j 0).val; rw [(index_eq t 0).2.2.2.1]; omega
  · show win0_3.index t 1 * 48 + 1 * (j 1).val = (j 1).val; rw [(index_eq t 1).2.2.2.1]; omega
theorem b4_eq (c : Dev nD) (t : Fin cfg0.N) : (iblk m c 4 t : S1536x6144.Idx → EReal) = wg m c := by
  funext j
  unfold iblk
  rw [View.read_apply]
  refine (congrFun (V_main_arg4 m c) _).trans (congrArg (m ((c : Thread nD τ).loc main_arg4)) (idx_ext2 _ j ?_ ?_))
  · show win0_4.index t 0 * 1536 + 1 * (j 0).val = (j 0).val; rw [(index_eq t 0).2.2.2.2.1]; omega
  · show win0_4.index t 1 * 6144 + 1 * (j 1).val = (j 1).val; rw [(index_eq t 1).2.2.2.2.1]; omega
theorem b5_eq (c : Dev nD) (t : Fin cfg0.N) : (iblk m c 5 t : S1536x6144.Idx → EReal) = wu m c := by
  funext j
  unfold iblk
  rw [View.read_apply]
  refine (congrFun (V_main_arg5 m c) _).trans (congrArg (m ((c : Thread nD τ).loc main_arg5)) (idx_ext2 _ j ?_ ?_))
  · show win0_5.index t 0 * 1536 + 1 * (j 0).val = (j 0).val; rw [(index_eq t 0).2.2.2.2.2.1]; omega
  · show win0_5.index t 1 * 6144 + 1 * (j 1).val = (j 1).val; rw [(index_eq t 1).2.2.2.2.2.1]; omega
theorem b6_eq (c : Dev nD) (t : Fin cfg0.N) : (iblk m c 6 t : S1536x6144.Idx → EReal) = wt m c := by
  funext j
  unfold iblk
  rw [View.read_apply]
  refine (congrFun (V_main_arg6 m c) _).trans (congrArg (m ((c : Thread nD τ).loc main_arg6)) (idx_ext2 _ j ?_ ?_))
  · show win0_6.index t 0 * 1536 + 1 * (j 0).val = (j 0).val; rw [(index_eq t 0).2.2.2.2.2.2.1]; omega
  · show win0_6.index t 1 * 6144 + 1 * (j 1).val = (j 1).val; rw [(index_eq t 1).2.2.2.2.2.2.1]; omega

/-- The arrays of `h`, `dg` and `du`, entry by entry. -/
def hArr (c : Dev nD) : (sh 40960 6144).Idx → EReal := fun j =>
  actH (deqMul (xc m c) (xe m c) (wg m c) (j 0) (j 1)) (deqMul (xc m c) (xe m c) (wu m c) (j 0) (j 1))
def dgArr (c : Dev nD) : (sh 40960 6144).Idx → EReal := fun j =>
  actG (deqMul (xc m c) (xe m c) (wg m c) (j 0) (j 1)) (deqMul (xc m c) (xe m c) (wu m c) (j 0) (j 1))
    (deqMul (dyc m c) (dye m c) (wt m c) (j 0) (j 1))
def duArr (c : Dev nD) : (sh 40960 6144).Idx → EReal := fun j =>
  actU (deqMul (xc m c) (xe m c) (wg m c) (j 0) (j 1)) (deqMul (dyc m c) (dye m c) (wt m c) (j 0) (j 1))

/-- The result arrays after the run are these. -/
theorem final7 (c : Dev nD) : (dats m 0 c).arrAt 7 cfg0.N = hArr m c := by
  refine (dats m 0 c).arrAt_eq_of_covers 7 _ (by decide +kernel) fun t hf y => ?_
  blk_simp
  rw [after0_7, show (win0_7.blk t).view.emb y = ix2 (y 0) (y 1) from idx_ext2 _ _
    (by show win0_7.index t 0 * 40960 + 1 * (y 0).val = (y 0).val; rw [(index_eq t 0).2.2.2.2.2.2.2.1]; omega)
    (by show win0_7.index t 1 * 6144 + 1 * (y 1).val = (y 1).val; rw [(index_eq t 1).2.2.2.2.2.2.2.1]; omega)]
  rw [show iblk m c 0 t = xc m c from b0_eq m c t, show iblk m c 1 t = xe m c from b1_eq m c t, show iblk m c 2 t = dyc m c from b2_eq m c t,
    show iblk m c 3 t = dye m c from b3_eq m c t, show iblk m c 4 t = wg m c from b4_eq m c t, show iblk m c 5 t = wu m c from b5_eq m c t,
    show iblk m c 6 t = wt m c from b6_eq m c t]
  exact (congrArg _ (ValueIdx.eq_ix2 y)).trans (out7_apply _ _ _ _ _ _ _ (y 0) (y 1))

theorem final8 (c : Dev nD) : (dats m 0 c).arrAt 8 cfg0.N = dgArr m c := by
  refine (dats m 0 c).arrAt_eq_of_covers 8 _ (by decide +kernel) fun t hf y => ?_
  blk_simp
  rw [after0_8, show (win0_8.blk t).view.emb y = ix2 (y 0) (y 1) from idx_ext2 _ _
    (by show win0_8.index t 0 * 40960 + 1 * (y 0).val = (y 0).val; rw [(index_eq t 0).2.2.2.2.2.2.2.2.1]; omega)
    (by show win0_8.index t 1 * 6144 + 1 * (y 1).val = (y 1).val; rw [(index_eq t 1).2.2.2.2.2.2.2.2.1]; omega)]
  rw [show iblk m c 0 t = xc m c from b0_eq m c t, show iblk m c 1 t = xe m c from b1_eq m c t, show iblk m c 2 t = dyc m c from b2_eq m c t,
    show iblk m c 3 t = dye m c from b3_eq m c t, show iblk m c 4 t = wg m c from b4_eq m c t, show iblk m c 5 t = wu m c from b5_eq m c t,
    show iblk m c 6 t = wt m c from b6_eq m c t]
  exact (congrArg _ (ValueIdx.eq_ix2 y)).trans (out8_apply _ _ _ _ _ _ _ (y 0) (y 1))

theorem final9 (c : Dev nD) : (dats m 0 c).arrAt 9 cfg0.N = duArr m c := by
  refine (dats m 0 c).arrAt_eq_of_covers 9 _ (by decide +kernel) fun t hf y => ?_
  blk_simp
  rw [after0_9, show (win0_9.blk t).view.emb y = ix2 (y 0) (y 1) from idx_ext2 _ _
    (by show win0_9.index t 0 * 40960 + 1 * (y 0).val = (y 0).val; rw [(index_eq t 0).2.2.2.2.2.2.2.2.2]; omega)
    (by show win0_9.index t 1 * 6144 + 1 * (y 1).val = (y 1).val; rw [(index_eq t 1).2.2.2.2.2.2.2.2.2]; omega)]
  rw [show iblk m c 0 t = xc m c from b0_eq m c t, show iblk m c 1 t = xe m c from b1_eq m c t, show iblk m c 2 t = dyc m c from b2_eq m c t,
    show iblk m c 3 t = dye m c from b3_eq m c t, show iblk m c 4 t = wg m c from b4_eq m c t, show iblk m c 5 t = wu m c from b5_eq m c t,
    show iblk m c 6 t = wt m c from b6_eq m c t]
  exact (congrArg _ (ValueIdx.eq_ix2 y)).trans (out9_apply _ _ _ _ _ _ _ (y 0) (y 1))

end Cert.MlpRefIdeal.Array

end
-- ==== Proof.MlpClaim.lean ====
/-
  The forward and activation-gradient kernel computes the reference's `h`, `dg` and `du`, over the extended reals.
-/
module

public import proofs.«01_k».proof.Defs
public import proofs.«01_k».proof.Proof.MlpValue
public import proofs.«01_k».proof.Proof.MlpRef

@[expose] public section

noncomputable section

namespace Cert.Proof.Mlp

open Idealize.ShloMosaic Idealize.ShloMosaic.TcCoe Idealize.SL.Sem

/-- The kernel and the reference leave equal results on equal arguments, the arguments unchanged. -/
theorem algebraic : Cert.algebraic_MlpIdeal_MlpRefIdeal (hMlpIdeal := Cert.MlpIdeal.Gen.facts) (hMlpRefIdeal := Cert.MlpRefIdeal.Gen.facts) := by
  intro m g m' g' _ hm
  refine ⟨fun c => Cert.MlpIdeal.Array.hArr m c, fun c => Cert.MlpIdeal.Array.dgArr m c, fun c => Cert.MlpIdeal.Array.duArr m c, ?_, ?_⟩
  · exact (θ_run _ _ _).mono (fun r h c => ⟨(h c).1.trans (Cert.MlpIdeal.Array.final7 m c), (h c).2.1.trans (Cert.MlpIdeal.Array.final8 m c),
      (h c).2.2.1.trans (Cert.MlpIdeal.Array.final9 m c), (h c).2.2.2⟩) (Cert.MlpIdeal.Value.run_blocks m g)
  · refine (θ_run _ _ _).mono (fun r h c => ⟨(h c).1.trans ((Cert.MlpRefIdeal.Array.final7 m' c).trans ?_),
      (h c).2.1.trans ((Cert.MlpRefIdeal.Array.final8 m' c).trans ?_),
      (h c).2.2.1.trans ((Cert.MlpRefIdeal.Array.final9 m' c).trans ?_), (h c).2.2.2⟩) (Cert.MlpRefIdeal.Value.run_blocks m' g')
    all_goals obtain ⟨e0, e1, e2, e3, e4, e5, e6⟩ := hm c
    · unfold Cert.MlpRefIdeal.Array.hArr Cert.MlpRefIdeal.Array.xc Cert.MlpRefIdeal.Array.xe Cert.MlpRefIdeal.Array.wg Cert.MlpRefIdeal.Array.wu
      rw [e0, e1, e4, e5]
      rfl
    · unfold Cert.MlpRefIdeal.Array.dgArr Cert.MlpRefIdeal.Array.xc Cert.MlpRefIdeal.Array.xe Cert.MlpRefIdeal.Array.wg Cert.MlpRefIdeal.Array.wu
        Cert.MlpRefIdeal.Array.dyc Cert.MlpRefIdeal.Array.dye Cert.MlpRefIdeal.Array.wt
      rw [e0, e1, e2, e3, e4, e5, e6]
      rfl
    · unfold Cert.MlpRefIdeal.Array.duArr Cert.MlpRefIdeal.Array.xc Cert.MlpRefIdeal.Array.xe Cert.MlpRefIdeal.Array.wg
        Cert.MlpRefIdeal.Array.dyc Cert.MlpRefIdeal.Array.dye Cert.MlpRefIdeal.Array.wt
      rw [e0, e1, e2, e3, e4, e6]
      rfl

end Cert.Proof.Mlp

end
-- ==== Proof.DxBlock.lean ====
/-
  What one grid point of the input-gradient kernel leaves in its accumulator and in its output block: two matrix
  products added into the accumulator, which the first point of a row block starts from zero and the last point casts
  into the output.
-/
module

public import proofs.«01_k».proof.Proof.Gen.DxIdeal.Value
public import Idealize.ShloMosaic.Lib.Pointwise
public import Idealize.ShloMosaic.Lib.Tactic

@[expose] public section

noncomputable section

namespace Cert.DxIdeal.Block

open Cert.DxIdeal Cert.DxIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

/-- The accumulator after a point that found `acc` in it: the two products of the point's blocks added, one after the other. -/
abbrev step (acc : Vec F S2048x1536 .f32) (x0 x1 : Vec F S2048x1024 .bf16) (x2 x3 : Vec F S1024x1536 .bf16) : Vec F S2048x1536 .f32 :=
  k0_pay3 (k0_pay2 acc x0 x2) x1 x3

/-- The first point of a row block leaves the step from the zero block. -/
theorem sout_A (c : Dev nD) (i : grid0.Coords) (a2 : Memref sig .tc .vmem S2048x1024 .bf16) (h2 : a2.IsWhole)
    (a3 : Memref sig .tc .vmem S2048x1024 .bf16) (h3 : a3.IsWhole) (a4 : Memref sig .tc .vmem S1024x1536 .bf16) (h4 : a4.IsWhole)
    (a5 : Memref sig .tc .vmem S1024x1536 .bf16) (h5 : a5.IsWhole) (a6 : Memref sig .tc .vmem S2048x1536 .bf16) (h6 : a6.IsWhole)
    (a7 : Memref sig .tc .vmem S2048x1536 .f32) (h7 : a7.IsWhole) (hc0 : cond0_0 i) (hc1 : ¬cond0_1 i)
    (x0 x1 : Vec F S2048x1024 .bf16) (x2 x3 : Vec F S1024x1536 .bf16) :
    sout0_A_0 c i a2 h2 a3 h3 a4 h4 a5 h5 a6 h6 a7 h7 hc0 hc1 x0 x1 x2 x3 = step k0_pay1 x0 x1 x2 x3 := by
  unfold sout0_A_0
  rw [View.read_writes_eq_canon _ _ _ (scover0_A_0 c i a2 h2 a3 h3 a4 h4 a5 h5 a6 h6 a7 h7 hc0 hc1 x0 x1 x2 x3)]
  unfold kernelRun0_A
  dsimp only
  sl_unfold_words
  rw [View.canon_cons_unit_zero (S := S2048x1536) hz]
  simp only [View.readCov_cons_toLoadRect,
    View.readAt_eq_ld, h2.read_unread, h3.read_unread, h4.read_unread, h5.read_unread, View.ld_unit_zero (S := S2048x1024) hz, View.ld_unit_zero (S := S1024x1536) hz]

/-- A point that neither starts nor ends a row block leaves the step from what it found. -/
theorem sout_B (c : Dev nD) (i : grid0.Coords) (a2 : Memref sig .tc .vmem S2048x1024 .bf16) (h2 : a2.IsWhole)
    (a3 : Memref sig .tc .vmem S2048x1024 .bf16) (h3 : a3.IsWhole) (a4 : Memref sig .tc .vmem S1024x1536 .bf16) (h4 : a4.IsWhole)
    (a5 : Memref sig .tc .vmem S1024x1536 .bf16) (h5 : a5.IsWhole) (a6 : Memref sig .tc .vmem S2048x1536 .bf16) (h6 : a6.IsWhole)
    (a7 : Memref sig .tc .vmem S2048x1536 .f32) (h7 : a7.IsWhole) (hc0 : ¬cond0_0 i) (hc1 : ¬cond0_1 i)
    (x0 x1 : Vec F S2048x1024 .bf16) (x2 x3 : Vec F S1024x1536 .bf16) (xs : Vec F S2048x1536 .f32) :
    sout0_B_0 c i a2 h2 a3 h3 a4 h4 a5 h5 a6 h6 a7 h7 hc0 hc1 x0 x1 x2 x3 xs = step xs x0 x1 x2 x3 := by
  unfold sout0_B_0
  rw [View.read_writes_eq_canon _ _ _ (scover0_B_0 c i a2 h2 a3 h3 a4 h4 a5 h5 a6 h6 a7 h7 hc0 hc1 x0 x1 x2 x3 xs)]
  unfold kernelRun0_B
  dsimp only
  sl_unfold_words
  rw [View.canon_cons_unit_zero (S := S2048x1536) hz]
  simp only [View.readCov_cons_toLoadRect,
    View.readAt_eq_ld, h2.read_unread, h3.read_unread, h4.read_unread, h5.read_unread, h7.read_unread, View.ld_unit_zero (S := S2048x1536) hz, View.ld_unit_zero (S := S2048x1024) hz, View.ld_unit_zero (S := S1024x1536) hz]

/-- The last point of a row block writes the step from what it found, cast, into the output block. -/
theorem out_C (c : Dev nD) (i : grid0.Coords) (a2 : Memref sig .tc .vmem S2048x1024 .bf16) (h2 : a2.IsWhole)
    (a3 : Memref sig .tc .vmem S2048x1024 .bf16) (h3 : a3.IsWhole) (a4 : Memref sig .tc .vmem S1024x1536 .bf16) (h4 : a4.IsWhole)
    (a5 : Memref sig .tc .vmem S1024x1536 .bf16) (h5 : a5.IsWhole) (a6 : Memref sig .tc .vmem S2048x1536 .bf16) (h6 : a6.IsWhole)
    (a7 : Memref sig .tc .vmem S2048x1536 .f32) (h7 : a7.IsWhole) (hc0 : ¬cond0_0 i) (hc1 : cond0_1 i)
    (x0 x1 : Vec F S2048x1024 .bf16) (x2 x3 : Vec F S1024x1536 .bf16) (xs : Vec F S2048x1536 .f32) :
    out0_C_4 c i a2 h2 a3 h3 a4 h4 a5 h5 a6 h6 a7 h7 hc0 hc1 x0 x1 x2 x3 xs = k0_pay4 (step xs x0 x1 x2 x3) := by
  unfold out0_C_4
  rw [View.read_writes_eq_canon _ _ _ (cover0_C_4 c i a2 h2 a3 h3 a4 h4 a5 h5 a6 h6 a7 h7 hc0 hc1 x0 x1 x2 x3 xs)]
  unfold kernelRun0_C
  dsimp only
  sl_unfold_words
  rw [View.canon_unit_zero (S := S2048x1536) hz]
  simp only [View.readCov_cons_toLoadRect,
    View.readAt_eq_ld, h2.read_unread, h3.read_unread, h4.read_unread, h5.read_unread, h7.read_unread, View.ld_unit_zero (S := S2048x1536) hz, View.ld_unit_zero (S := S2048x1024) hz, View.ld_unit_zero (S := S1024x1536) hz]

/-- The step at an index, over the extended reals: the products' entries added to the accumulator's. -/
theorem step_apply (acc : Vec Ideal S2048x1536 .f32) (x0 x1 : Vec Ideal S2048x1024 .bf16) (x2 x3 : Vec Ideal S1024x1536 .bf16)
    (r : Fin 2048) (l : Fin 1536) :
    (step acc x0 x1 x2 x3 (ix2 r l) : EReal)
      = acc (ix2 r l) + ((∑ k : Fin 1024, x0 (ix2 r k) * x2 (ix2 k l)) + ∑ k : Fin 1024, x1 (ix2 r k) * x3 (ix2 k l)) := by
  pointwise [step, k0_pay2, k0_pay3]
  rw [add_assoc]

/-- The zero block. -/
theorem zero_apply (r : Fin 2048) (l : Fin 1536) : ((k0_pay1 : FVec Ideal S2048x1536 .f32) (ix2 r l) : EReal) = 0 := by
  pointwise [k0_pay1]

/-- The cast is the identity over the extended reals. -/
theorem cast_apply (x : Vec Ideal S2048x1536 .f32) (r : Fin 2048) (l : Fin 1536) :
    (k0_pay4 x (ix2 r l) : EReal) = x (ix2 r l) := by
  pointwise [k0_pay4]

end Cert.DxIdeal.Block

end
-- ==== Proof.DxValue.lean ====
/-
  What the input-gradient kernel's result array holds over the extended reals: entry `(i, l)` is the sum over all 6144
  columns of `dg · gt` plus that of `du · ut`. The six points of a row block add the six parts of both sums.
-/
module

public import proofs.«01_k».proof.Proof.DxBlock
public import Idealize.ShloMosaic.Lib.Pointwise.Sums

@[expose] public section

noncomputable section

namespace Cert.DxIdeal.Array

open Cert.DxIdeal Cert.DxIdeal.Gen Cert.DxIdeal.Value Cert.DxIdeal.Block
open Idealize.ShloMosaic Idealize.ShloMosaic.TcCoe Idealize.SL.Sem

variable (m : (ℓ : Loc nD τ sig) → Buf (Elt Ideal) ℓ)

/-- The four argument arrays of device `c`, as entries. -/
abbrev dg (c : Dev nD) : S40960x6144.Idx → EReal := m ((c : Thread nD τ).loc main_arg0)
abbrev du (c : Dev nD) : S40960x6144.Idx → EReal := m ((c : Thread nD τ).loc main_arg1)
abbrev gt (c : Dev nD) : S6144x1536.Idx → EReal := m ((c : Thread nD τ).loc main_arg2)
abbrev ut (c : Dev nD) : S6144x1536.Idx → EReal := m ((c : Thread nD τ).loc main_arg3)

/-- The blocks of point `t` lie at row block `t / 6` and column block `t % 6`. -/
theorem index_eq : ∀ t : Fin cfg0.N, win0_0.index t (0 : Fin 2) = t.val / 6 ∧ win0_0.index t (1 : Fin 2) = t.val % 6
    ∧ win0_1.index t (0 : Fin 2) = t.val / 6 ∧ win0_1.index t (1 : Fin 2) = t.val % 6
    ∧ win0_2.index t (0 : Fin 2) = t.val % 6 ∧ win0_2.index t (1 : Fin 2) = 0
    ∧ win0_3.index t (0 : Fin 2) = t.val % 6 ∧ win0_3.index t (1 : Fin 2) = 0 :=
  (by decide +kernel : ∀ t : Fin grid0.N, _)

theorem N_lt (t : Fin cfg0.N) : t.val < 120 := lt_of_lt_of_eq t.isLt N_0

/-- Point `t`'s blocks of them. -/
abbrev b0 (c : Dev nD) (t : Fin cfg0.N) : S2048x1024.Idx → EReal := iblk m c 0 t
abbrev b1 (c : Dev nD) (t : Fin cfg0.N) : S2048x1024.Idx → EReal := iblk m c 1 t
abbrev b2 (c : Dev nD) (t : Fin cfg0.N) : S1024x1536.Idx → EReal := iblk m c 2 t
abbrev b3 (c : Dev nD) (t : Fin cfg0.N) : S1024x1536.Idx → EReal := iblk m c 3 t

/-- Point `t`'s block of `dg` at an index. -/
theorem iblk0_apply (c : Dev nD) (t : Fin cfg0.N) (r : Fin 2048) (k : Fin 1024) :
    b0 m c t (ix2 r k) = dg m c (ix2 ⟨t.val / 6 * 2048 + r.val, by have := N_lt t; omega⟩ ⟨t.val % 6 * 1024 + k.val, by omega⟩) := by
  obtain ⟨h0, h1, -⟩ := index_eq t
  unfold b0 iblk
  rw [View.read_apply]
  show V m c main_arg0 _ = m (c.tc.loc main_arg0) _
  unfold V
  congr 1
  funext a; apply Fin.ext
  match a with
  | ⟨0, _⟩ => show win0_0.index t 0 * 2048 + 1 * r.val = t.val / 6 * 2048 + r.val; rw [h0, Nat.one_mul]
  | ⟨1, _⟩ => show win0_0.index t 1 * 1024 + 1 * k.val = t.val % 6 * 1024 + k.val; rw [h1, Nat.one_mul]

/-- Point `t`'s block of `du` at an index. -/
theorem iblk1_apply (c : Dev nD) (t : Fin cfg0.N) (r : Fin 2048) (k : Fin 1024) :
    b1 m c t (ix2 r k) = du m c (ix2 ⟨t.val / 6 * 2048 + r.val, by have := N_lt t; omega⟩ ⟨t.val % 6 * 1024 + k.val, by omega⟩) := by
  obtain ⟨-, -, h0, h1, -⟩ := index_eq t
  unfold b1 iblk
  rw [View.read_apply]
  show V m c main_arg1 _ = m (c.tc.loc main_arg1) _
  unfold V
  congr 1
  funext a; apply Fin.ext
  match a with
  | ⟨0, _⟩ => show win0_1.index t 0 * 2048 + 1 * r.val = t.val / 6 * 2048 + r.val; rw [h0, Nat.one_mul]
  | ⟨1, _⟩ => show win0_1.index t 1 * 1024 + 1 * k.val = t.val % 6 * 1024 + k.val; rw [h1, Nat.one_mul]

/-- Point `t`'s block of `gt` at an index. -/
theorem iblk2_apply (c : Dev nD) (t : Fin cfg0.N) (k : Fin 1024) (l : Fin 1536) :
    b2 m c t (ix2 k l) = gt m c (ix2 ⟨t.val % 6 * 1024 + k.val, by omega⟩ l) := by
  obtain ⟨-, -, -, -, h0, h1, -⟩ := index_eq t
  unfold b2 iblk
  rw [View.read_apply]
  show V m c main_arg2 _ = m (c.tc.loc main_arg2) _
  unfold V
  congr 1
  funext a; apply Fin.ext
  match a with
  | ⟨0, _⟩ => show win0_2.index t 0 * 1024 + 1 * k.val = t.val % 6 * 1024 + k.val; rw [h0, Nat.one_mul]
  | ⟨1, _⟩ => show win0_2.index t 1 * 1536 + 1 * l.val = l.val; rw [h1]; omega

/-- Point `t`'s block of `ut` at an index. -/
theorem iblk3_apply (c : Dev nD) (t : Fin cfg0.N) (k : Fin 1024) (l : Fin 1536) :
    b3 m c t (ix2 k l) = ut m c (ix2 ⟨t.val % 6 * 1024 + k.val, by omega⟩ l) := by
  obtain ⟨-, -, -, -, -, -, h0, h1⟩ := index_eq t
  unfold b3 iblk
  rw [View.read_apply]
  show V m c main_arg3 _ = m (c.tc.loc main_arg3) _
  unfold V
  congr 1
  funext a; apply Fin.ext
  match a with
  | ⟨0, _⟩ => show win0_3.index t 0 * 1024 + 1 * k.val = t.val % 6 * 1024 + k.val; rw [h0, Nat.one_mul]
  | ⟨1, _⟩ => show win0_3.index t 1 * 1536 + 1 * l.val = l.val; rw [h1]; omega

/-- The part of both sums that point `n` adds at row `r` of its block and column `l`. -/
def part (c : Dev nD) (n : ℕ) (r : Fin 2048) (l : Fin 1536) : EReal :=
  if h : n < cfg0.N then
    (∑ k : Fin 1024, b0 m c ⟨n, h⟩ (ix2 r k) * b2 m c ⟨n, h⟩ (ix2 k l))
      + ∑ k : Fin 1024, b1 m c ⟨n, h⟩ (ix2 r k) * b3 m c ⟨n, h⟩ (ix2 k l)
  else 0

theorem part_of_lt (c : Dev nD) (t : Fin cfg0.N) (r : Fin 2048) (l : Fin 1536) :
    part m c t.val r l = (∑ k : Fin 1024, b0 m c t (ix2 r k) * b2 m c t (ix2 k l))
      + ∑ k : Fin 1024, b1 m c t (ix2 r k) * b3 m c t (ix2 k l) := by
  unfold part; rw [dif_pos t.isLt]

/-- The accumulator after the first five points of row block `q`: at most the parts so far. -/
theorem acc_apply (c : Dev nD) (q : ℕ) : ∀ (j : ℕ) (hj : j < 5) (h : 6 * q + j < cfg0.N) (r : Fin 2048) (l : Fin 1536),
    ((outsAt0 m c (6 * q + j) h).2 (ix2 r l) : EReal) = ∑ s ∈ Finset.range (j + 1), part m c (6 * q + s) r l
  | 0, _, h, r, l => by
    have e := outsAt0_A m c ⟨6 * q + 0, h⟩ (by show (6 * q + 0) % 6 = 0; omega) (by show ¬(6 * q + 0) % 6 = 5; omega)
    rw [show outsAt0 m c (6 * q + 0) h = _ from e]
    dsimp only
    rw [sout_A, step_apply, Block.zero_apply, Finset.sum_range_one, zero_add]
    exact (part_of_lt m c ⟨6 * q + 0, h⟩ r l).symm
  | j + 1, hj, h, r, l => by
    have e := outsAt0_B m c ⟨6 * q + (j + 1), h⟩ (by show ¬(6 * q + (j + 1)) % 6 = 0; omega) (by show ¬(6 * q + (j + 1)) % 6 = 5; omega)
    rw [show outsAt0 m c (6 * q + (j + 1)) h = _ from e]
    dsimp only
    rw [sout_B, step_apply, Finset.sum_range_succ _ (j + 1)]
    refine congrArg₂ (· + ·) ?_ (part_of_lt m c ⟨6 * q + (j + 1), h⟩ r l).symm
    exact acc_apply c q j (by omega) (Nat.lt_of_succ_lt h) r l

/-- What the last point of row block `q` leaves in the output block: the six parts. -/
theorem out_apply (c : Dev nD) (q : ℕ) (h : 6 * q + 5 < cfg0.N) (r : Fin 2048) (l : Fin 1536) :
    ((outsAt0 m c (6 * q + 5) h).1 (ix2 r l) : EReal) = ∑ s ∈ Finset.range 6, part m c (6 * q + s) r l := by
  have e := outsAt0_C m c ⟨6 * q + 5, h⟩ (by show ¬(6 * q + 5) % 6 = 0; omega) (by show (6 * q + 5) % 6 = 5; omega)
  rw [show outsAt0 m c (6 * q + 5) h = _ from e]
  dsimp only
  rw [out_C, cast_apply, step_apply, Finset.sum_range_succ _ 5]
  refine congrArg₂ (· + ·) ?_ (part_of_lt m c ⟨6 * q + 5, h⟩ r l).symm
  exact acc_apply m c q 4 (by omega) (Nat.lt_of_succ_lt h) r l

/-- A part over the arrays. -/
theorem part_eq (c : Dev nD) (q : ℕ) (hq : q < 20) (s : Fin 6) (r : Fin 2048) (l : Fin 1536) :
    part m c (6 * q + s.val) r l
      = (∑ k : Fin 1024, dg m c (ix2 ⟨q * 2048 + r.val, by omega⟩ ⟨s.val * 1024 + k.val, by omega⟩) * gt m c (ix2 ⟨s.val * 1024 + k.val, by omega⟩ l))
        + ∑ k : Fin 1024, du m c (ix2 ⟨q * 2048 + r.val, by omega⟩ ⟨s.val * 1024 + k.val, by omega⟩) * ut m c (ix2 ⟨s.val * 1024 + k.val, by omega⟩ l) := by
  have hN : 6 * q + s.val < cfg0.N := lt_of_lt_of_eq (by omega : 6 * q + s.val < 120) N_0.symm
  have hd : (6 * q + s.val) / 6 = q := by omega
  have hm : (6 * q + s.val) % 6 = s.val := by omega
  rw [part_of_lt m c ⟨6 * q + s.val, hN⟩]
  simp only [iblk0_apply, iblk1_apply, iblk2_apply, iblk3_apply, hd, hm]

/-- The result array after the run, as entries. -/
abbrev result (c : Dev nD) : S40960x1536.Idx → EReal := G4 m c

/-- The result array, entry by entry. -/
theorem final (c : Dev nD) (i : Fin 40960) (l : Fin 1536) :
    result m c (ix2 i l)
      = (∑ k : Fin 6144, dg m c (ix2 i k) * gt m c (ix2 k l)) + ∑ k : Fin 6144, du m c (ix2 i k) * ut m c (ix2 k l) := by
  have hi := i.isLt
  have hl := l.isLt
  have hrun : run4Of (ix2 i l) = i.val / 2048 := by
    show 1 * (i.val / 2048 - 0) + 1 * (l.val / 1536 - 0) = _; omega
  have hp : pt4Of (ix2 i l) = 6 * (i.val / 2048) + 5 := by
    show 6 * run4Of (ix2 i l) + 5 = _; rw [hrun]
  have hN : 6 * (i.val / 2048) + 5 < cfg0.N := lt_of_lt_of_eq (by omega : 6 * (i.val / 2048) + 5 < 120) N_0.symm
  have hloc : loc4Of (ix2 i l) = ix2 ⟨i.val % 2048, by omega⟩ l := by
    funext a; apply Fin.ext
    match a with
    | ⟨0, _⟩ => rfl
    | ⟨1, _⟩ => show l.val % 1536 = l.val; omega
  have e : result m c (ix2 i l) = ∑ s ∈ Finset.range 6, part m c (6 * (i.val / 2048) + s) ⟨i.val % 2048, by omega⟩ l := by
    unfold result G4
    rw [dif_pos (by rw [hp]; exact hN), hloc, fold0_congr m c _ _ (6 * (i.val / 2048) + 5) (by omega) hp, ← outsAt0_sweep m c _ hN]
    exact out_apply m c _ hN _ l
  rw [e, Finset.sum_range, Fin.sum_univ_tiles 6 1024 (by norm_num) (fun k : Fin 6144 => dg m c (ix2 i k) * gt m c (ix2 k l)),
    Fin.sum_univ_tiles 6 1024 (by norm_num) (fun k : Fin 6144 => du m c (ix2 i k) * ut m c (ix2 k l)), ← Finset.sum_add_distrib]
  refine Finset.sum_congr rfl fun s _ => ?_
  rw [part_eq m c _ (by omega)]
  have hrow : (⟨i.val / 2048 * 2048 + i.val % 2048, by omega⟩ : Fin 40960) = i := Fin.ext (by show i.val / 2048 * 2048 + i.val % 2048 = i.val; omega)
  simp only [hrow]

end Cert.DxIdeal.Array

end
-- ==== Proof.DxClaim.lean ====
/-
  The input-gradient kernel computes the reference's `dg · gt + du · ut`, over the extended reals.
-/
module

public import proofs.«01_k».proof.Defs
public import proofs.«01_k».proof.Proof.DxValue
public import proofs.«01_k».proof.Proof.Gen.DxRefIdeal.Run

@[expose] public section

noncomputable section

namespace Cert.Proof.Dx

open Idealize.ShloMosaic Idealize.ShloMosaic.TcCoe Idealize.SL.Sem

/-- The reference's result at an index: the two full sums. -/
theorem ref_apply (a b : FVec Ideal Cert.DxRefIdeal.S40960x6144 .bf16) (p q : FVec Ideal Cert.DxRefIdeal.S6144x1536 .bf16)
    (h : FTy.bits .bf16 < FTy.bits .f32) (i : Fin 40960) (l : Fin 1536) :
    (truncf .bf16 (addf (Host.dotGeneral Cert.DxRefIdeal.dot_S40960x6144_S6144x1536_S40960x1536_1_0_0_1_n_n none a p : FVec Ideal Cert.DxRefIdeal.S40960x1536 .f32)
        (Host.dotGeneral Cert.DxRefIdeal.dot_S40960x6144_S6144x1536_S40960x1536_1_0_0_1_n_n none b q)) h (ix2 i l) : EReal)
      = (∑ k : Fin 6144, a (ix2 i k) * p (ix2 k l)) + ∑ k : Fin 6144, b (ix2 i k) * q (ix2 k l) := by
  pointwise

/-- The kernel and the reference leave equal results on equal arguments, the arguments unchanged. -/
theorem algebraic : Cert.algebraic_DxIdeal_DxRefIdeal (hDxIdeal := Cert.DxIdeal.Gen.facts) (hDxRefIdeal := Cert.DxRefIdeal.Gen.facts) := by
  intro m g m' g' _ hm
  refine ⟨fun c => Cert.DxIdeal.Value.G4 m c, Cert.DxIdeal.Value.run m g, ?_⟩
  refine (θ_run _ _ _).mono (fun r h c => ⟨(h c).1.trans ?_, (h c).2⟩) (Cert.DxRefIdeal.Value.run m' g')
  obtain ⟨e0, e1, e2, e3⟩ := hm c
  rw [e0, e1, e2, e3]
  funext j
  rw [ValueIdx.eq_ix2 j]
  exact (ref_apply _ _ _ _ _ _ _).trans (Cert.DxIdeal.Array.final m c _ _).symm

end Cert.Proof.Dx

end
-- ==== Proof.DwBlock.lean ====
/-
  What one grid point of the weight-gradient kernel leaves in its three output blocks: the product of the transposed
  dequantised tokens with a block of `dg` and of `du`, and of the transposed block of `h` with the dequantised output
  gradients, each added to the block found there, which the first point of a column block starts from zero.
-/
module

public import proofs.«01_k».proof.Proof.Rows
public import proofs.«01_k».proof.Proof.Gen.DwIdeal.Value
public import Idealize.ShloMosaic.Lib.Pointwise
public import Idealize.ShloMosaic.Lib.Tactic

@[expose] public section

noncomputable section

namespace Cert.DwIdeal.Block

open Cert.DwIdeal Cert.DwIdeal.Gen Cert.Proof
open Idealize.ShloMosaic Idealize.ShloMosaic.TcCoe Idealize.SL.Sem

theorem hz : (![0, 0] : Fin 2 → Nat) = fun _ => 0 := funext fun a => by fin_cases a <;> rfl

/-- Row `n` of the 64 rows of words lies inside. -/
theorem inb (n : Fin 64) : ∀ a, (![n.val, 0] : Fin (sh 64 1536).rank → ℕ) a + (sh 1 1536).size a ≤ (sh 64 1536).size a := fun a => by
  match a with
  | ⟨0, _⟩ => show n.val + 1 ≤ 64; omega
  | ⟨1, _⟩ => exact le_refl _

/-- The 32 rows of codes of words row `n` lie inside. -/
theorem slc (n : Fin 64) : (sh 2048 1536).Slices ![32 * n.val, 0] (sh 32 1536) := ⟨rfl, fun a => by
  match a with
  | ⟨0, _⟩ => show 32 * n.val + 32 ≤ 2048; omega
  | ⟨1, _⟩ => exact le_refl _⟩

/-- A dequantised block of tokens, of either code format. -/
def deqRows {φ : FTy} (x : FVec Ideal S2048x1536 φ) (w : Vec Ideal S64x1536 .i32) (hx : FTy.bits φ < FTy.bits .bf16) : FVec Ideal S2048x1536 .bf16 :=
  rows (N := 64) x w inb slc hx shapeCasts_S1x1536_S1x1536 broadcasts_S1x1536_S16x1536 bitcasts_S16x1536_w32_S32x1536_w16
    concatenates_S32x1536_S32x1536_S32x1536_S32x1536_S32x1536_S32x1536_S32x1536_S32x1536_S32x1536_S32x1536_S32x1536_S32x1536_S32x1536_S32x1536_S32x1536_S32x1536_S32x1536_S32x1536_S32x1536_S32x1536_S32x1536_S32x1536_S32x1536_S32x1536_S32x1536_S32x1536_S32x1536_S32x1536_S32x1536_S32x1536_S32x1536_S32x1536_S32x1536_S32x1536_S32x1536_S32x1536_S32x1536_S32x1536_S32x1536_S32x1536_S32x1536_S32x1536_S32x1536_S32x1536_S32x1536_S32x1536_S32x1536_S32x1536_S32x1536_S32x1536_S32x1536_S32x1536_S32x1536_S32x1536_S32x1536_S32x1536_S32x1536_S32x1536_S32x1536_S32x1536_S32x1536_S32x1536_S32x1536_S32x1536_S2048x1536_d0

/-- Its entries: the code times the value of the half word of its group. -/
theorem deqRows_entry {φ : FTy} (x : FVec Ideal S2048x1536 φ) (w : Vec Ideal S64x1536 .i32) (hx : FTy.bits φ < FTy.bits .bf16)
    (r : Fin 2048) (k : Fin 1536) :
    (deqRows x w hx (ix2 r k) : EReal) = (x (ix2 r k) : EReal) * Ideal.ofBits .bf16 (BitVec.extractLsb' (16 * (r.val % 32 % 2)) 16
      (w (ix2 (⟨r.val / 32, by have := r.isLt; omega⟩ : Fin 64) k) : BitVec 32)) :=
  rows_apply (N := 64) x w _ _ _ _ _ _ _ (by norm_num) (by norm_num) r k

/-- The cast of the codes to their own shape, as the kernel loads them. -/
theorem pay6_eq (x : Vec Ideal S2048x1536 .fp8e4m3) : k0_pay6 (F := Ideal) x = x := shapeCast_self _ _
theorem pay86_eq (x : Vec Ideal S2048x1536 .fp8e5m2) : k0_pay86 (F := Ideal) x = x := shapeCast_self _ _

/-- The blocks after a point that found `acc` in them. -/
abbrev stepG (x0 : Vec Ideal S2048x1536 .fp8e4m3) (x1 : Vec Ideal S64x1536 .i32) (x5 : Vec Ideal S2048x512 .bf16) (acc : Vec Ideal S1536x512 .f32) :
    Vec Ideal S1536x512 .f32 := k0_pay148 (F := Ideal) (deqRows x0 x1 bitsLt_fp8e4m3_bf16) acc x5
abbrev stepU (x0 : Vec Ideal S2048x1536 .fp8e4m3) (x1 : Vec Ideal S64x1536 .i32) (x6 : Vec Ideal S2048x512 .bf16) (acc : Vec Ideal S1536x512 .f32) :
    Vec Ideal S1536x512 .f32 := k0_pay1 (F := Ideal) (deqRows x0 x1 bitsLt_fp8e4m3_bf16) (k0_pay149 (F := Ideal) acc) x6 (constant S1536x512 .f32 0x00000000#32)
abbrev stepD (x2 : Vec Ideal S2048x1536 .fp8e5m2) (x3 : Vec Ideal S64x1536 .i32) (x4 : Vec Ideal S2048x512 .bf16) (acc : Vec Ideal S512x1536 .f32) :
    Vec Ideal S512x1536 .f32 := k0_pay2 (F := Ideal) (deqRows x2 x3 bitsLt_fp8e5m2_bf16) acc x4

variable (c : Dev nD) (i : grid0.Coords)
    (a2 : Memref sig .tc .vmem S2048x1536 .fp8e4m3) (h2 : a2.IsWhole)
    (a3 : Memref sig .tc .vmem S64x1536 .i32) (h3 : a3.IsWhole)
    (a4 : Memref sig .tc .vmem S2048x1536 .fp8e5m2) (h4 : a4.IsWhole)
    (a5 : Memref sig .tc .vmem S64x1536 .i32) (h5 : a5.IsWhole)
    (a6 : Memref sig .tc .vmem S2048x512 .bf16) (h6 : a6.IsWhole)
    (a7 : Memref sig .tc .vmem S2048x512 .bf16) (h7 : a7.IsWhole)
    (a8 : Memref sig .tc .vmem S2048x512 .bf16) (h8 : a8.IsWhole)
    (a9 : Memref sig .tc .vmem S1536x512 .f32) (h9 : a9.IsWhole)
    (a10 : Memref sig .tc .vmem S1536x512 .f32) (h10 : a10.IsWhole)
    (a11 : Memref sig .tc .vmem S512x1536 .f32) (h11 : a11.IsWhole)
    (x0 : Vec Ideal S2048x1536 .fp8e4m3) (x1 : Vec Ideal S64x1536 .i32) (x2 : Vec Ideal S2048x1536 .fp8e5m2)
    (x3 : Vec Ideal S64x1536 .i32) (x4 x5 x6 : Vec Ideal S2048x512 .bf16) (xo7 xo8 : Vec Ideal S1536x512 .f32) (xo9 : Vec Ideal S512x1536 .f32)

/-- The first point of a column block leaves the step from the zero block in `xᵀ · dg`. -/
theorem out_A7 (hc0 : cond0_0 i) :
    out0_A_7 (F := Ideal) c i a2 h2 a3 h3 a4 h4 a5 h5 a6 h6 a7 h7 a8 h8 a9 h9 a10 h10 a11 h11 hc0 x0 x1 x2 x3 x4 x5 x6 = stepG x0 x1 x5 (k0_pay3 (F := Ideal)) := by
  unfold out0_A_7
  rw [View.read_writes_eq_canon _ _ _ (cover0_A_7 c i a2 h2 a3 h3 a4 h4 a5 h5 a6 h6 a7 h7 a8 h8 a9 h9 a10 h10 a11 h11 hc0 x0 x1 x2 x3 x4 x5 x6)]
  unfold kernelRun0_A
  dsimp only
  sl_unfold_words
  rw [View.canon_cons_unit_zero (S := S1536x512) hz]
  simp only [View.readCov_cons_toLoadRect, View.readAt_eq_ld, h2.read_unread, h3.read_unread, h4.read_unread, h5.read_unread,
    h6.read_unread, h7.read_unread, h8.read_unread, h9.read_unread, h10.read_unread, h11.read_unread,
    View.ld_unit_zero (S := S2048x512) hz, View.ld_unit_zero (S := S2048x1536) hz, View.ld_unit_zero (S := S1536x512) hz]
  refine (congrArg (fun a => k0_pay148 (F := Ideal) a _ x5) (show _ = deqRows (k0_pay6 x0) x1 bitsLt_fp8e4m3_bf16 from rfl)).trans ?_
  rw [pay6_eq]

/-- The same of `xᵀ · du`. -/
theorem out_A8 (hc0 : cond0_0 i) :
    out0_A_8 (F := Ideal) c i a2 h2 a3 h3 a4 h4 a5 h5 a6 h6 a7 h7 a8 h8 a9 h9 a10 h10 a11 h11 hc0 x0 x1 x2 x3 x4 x5 x6 = stepU x0 x1 x6 (k0_pay4 (F := Ideal)) := by
  unfold out0_A_8
  rw [View.read_writes_eq_canon _ _ _ (cover0_A_8 c i a2 h2 a3 h3 a4 h4 a5 h5 a6 h6 a7 h7 a8 h8 a9 h9 a10 h10 a11 h11 hc0 x0 x1 x2 x3 x4 x5 x6)]
  unfold kernelRun0_A
  dsimp only
  sl_unfold_words
  rw [View.canon_cons_unit_zero (S := S1536x512) hz]
  simp only [View.readCov_cons_toLoadRect, View.readAt_eq_ld, h2.read_unread, h3.read_unread, h4.read_unread, h5.read_unread,
    h6.read_unread, h7.read_unread, h8.read_unread, h9.read_unread, h10.read_unread, h11.read_unread,
    View.ld_unit_zero (S := S2048x512) hz, View.ld_unit_zero (S := S2048x1536) hz, View.ld_unit_zero (S := S1536x512) hz]
  refine (congrArg (fun a => k0_pay1 (F := Ideal) a _ x6 _) (show _ = deqRows (k0_pay6 x0) x1 bitsLt_fp8e4m3_bf16 from rfl)).trans ?_
  rw [pay6_eq]

/-- The same of `hᵀ · dy`. -/
theorem out_A9 (hc0 : cond0_0 i) :
    out0_A_9 (F := Ideal) c i a2 h2 a3 h3 a4 h4 a5 h5 a6 h6 a7 h7 a8 h8 a9 h9 a10 h10 a11 h11 hc0 x0 x1 x2 x3 x4 x5 x6 = stepD x2 x3 x4 (k0_pay5 (F := Ideal)) := by
  unfold out0_A_9
  rw [View.read_writes_eq_canon _ _ _ (cover0_A_9 c i a2 h2 a3 h3 a4 h4 a5 h5 a6 h6 a7 h7 a8 h8 a9 h9 a10 h10 a11 h11 hc0 x0 x1 x2 x3 x4 x5 x6)]
  unfold kernelRun0_A
  dsimp only
  sl_unfold_words
  rw [View.canon_cons_unit_zero (S := S512x1536) hz]
  simp only [View.readCov_cons_toLoadRect, View.readAt_eq_ld, h2.read_unread, h3.read_unread, h4.read_unread, h5.read_unread,
    h6.read_unread, h7.read_unread, h8.read_unread, h9.read_unread, h10.read_unread, h11.read_unread,
    View.ld_unit_zero (S := S2048x512) hz, View.ld_unit_zero (S := S2048x1536) hz, View.ld_unit_zero (S := S512x1536) hz]
  refine (congrArg (fun a => k0_pay2 (F := Ideal) a _ x4) (show _ = deqRows (k0_pay86 x2) x3 bitsLt_fp8e5m2_bf16 from rfl)).trans ?_
  rw [pay86_eq]

/-- A later point leaves the step from what it found in `xᵀ · dg`. -/
theorem out_B7 (hc0 : ¬cond0_0 i) :
    out0_B_7 (F := Ideal) c i a2 h2 a3 h3 a4 h4 a5 h5 a6 h6 a7 h7 a8 h8 a9 h9 a10 h10 a11 h11 hc0 x0 x1 x2 x3 x4 x5 x6 xo7 xo8 xo9 = stepG x0 x1 x5 xo7 := by
  unfold out0_B_7
  rw [View.read_writes_eq_canon _ _ _ (cover0_B_7 c i a2 h2 a3 h3 a4 h4 a5 h5 a6 h6 a7 h7 a8 h8 a9 h9 a10 h10 a11 h11 hc0 x0 x1 x2 x3 x4 x5 x6 xo7 xo8 xo9)]
  unfold kernelRun0_B
  dsimp only
  sl_unfold_words
  rw [View.canon_unit_zero (S := S1536x512) hz]
  simp only [View.readCov_cons_toLoadRect, View.readAt_eq_ld, h2.read_unread, h3.read_unread, h4.read_unread, h5.read_unread,
    h6.read_unread, h7.read_unread, h8.read_unread, h9.read_unread, h10.read_unread, h11.read_unread,
    View.ld_unit_zero (S := S2048x512) hz, View.ld_unit_zero (S := S2048x1536) hz, View.ld_unit_zero (S := S1536x512) hz]
  refine (congrArg (fun a => k0_pay148 (F := Ideal) a _ x5) (show _ = deqRows (k0_pay6 x0) x1 bitsLt_fp8e4m3_bf16 from rfl)).trans ?_
  rw [pay6_eq]

/-- The same of `xᵀ · du`. -/
theorem out_B8 (hc0 : ¬cond0_0 i) :
    out0_B_8 (F := Ideal) c i a2 h2 a3 h3 a4 h4 a5 h5 a6 h6 a7 h7 a8 h8 a9 h9 a10 h10 a11 h11 hc0 x0 x1 x2 x3 x4 x5 x6 xo7 xo8 xo9 = stepU x0 x1 x6 xo8 := by
  unfold out0_B_8
  rw [View.read_writes_eq_canon _ _ _ (cover0_B_8 c i a2 h2 a3 h3 a4 h4 a5 h5 a6 h6 a7 h7 a8 h8 a9 h9 a10 h10 a11 h11 hc0 x0 x1 x2 x3 x4 x5 x6 xo7 xo8 xo9)]
  unfold kernelRun0_B
  dsimp only
  sl_unfold_words
  rw [View.canon_unit_zero (S := S1536x512) hz]
  simp only [View.readCov_cons_toLoadRect, View.readAt_eq_ld, h2.read_unread, h3.read_unread, h4.read_unread, h5.read_unread,
    h6.read_unread, h7.read_unread, h8.read_unread, h9.read_unread, h10.read_unread, h11.read_unread,
    View.ld_unit_zero (S := S2048x512) hz, View.ld_unit_zero (S := S2048x1536) hz, View.ld_unit_zero (S := S1536x512) hz]
  refine (congrArg (fun a => k0_pay1 (F := Ideal) a _ x6 _) (show _ = deqRows (k0_pay6 x0) x1 bitsLt_fp8e4m3_bf16 from rfl)).trans ?_
  rw [pay6_eq]

/-- The same of `hᵀ · dy`. -/
theorem out_B9 (hc0 : ¬cond0_0 i) :
    out0_B_9 (F := Ideal) c i a2 h2 a3 h3 a4 h4 a5 h5 a6 h6 a7 h7 a8 h8 a9 h9 a10 h10 a11 h11 hc0 x0 x1 x2 x3 x4 x5 x6 xo7 xo8 xo9 = stepD x2 x3 x4 xo9 := by
  unfold out0_B_9
  rw [View.read_writes_eq_canon _ _ _ (cover0_B_9 c i a2 h2 a3 h3 a4 h4 a5 h5 a6 h6 a7 h7 a8 h8 a9 h9 a10 h10 a11 h11 hc0 x0 x1 x2 x3 x4 x5 x6 xo7 xo8 xo9)]
  unfold kernelRun0_B
  dsimp only
  sl_unfold_words
  rw [View.canon_unit_zero (S := S512x1536) hz]
  simp only [View.readCov_cons_toLoadRect, View.readAt_eq_ld, h2.read_unread, h3.read_unread, h4.read_unread, h5.read_unread,
    h6.read_unread, h7.read_unread, h8.read_unread, h9.read_unread, h10.read_unread, h11.read_unread,
    View.ld_unit_zero (S := S2048x512) hz, View.ld_unit_zero (S := S2048x1536) hz, View.ld_unit_zero (S := S512x1536) hz]
  refine (congrArg (fun a => k0_pay2 (F := Ideal) a _ x4) (show _ = deqRows (k0_pay86 x2) x3 bitsLt_fp8e5m2_bf16 from rfl)).trans ?_
  rw [pay86_eq]

/-- A point's step at an index: the product's entry added. -/
theorem stepG_apply (r : Fin 1536) (l : Fin 512) :
    (stepG x0 x1 x5 xo7 (ix2 r l) : EReal)
      = xo7 (ix2 r l) + ∑ k : Fin 2048, (deqRows x0 x1 bitsLt_fp8e4m3_bf16 (ix2 k r) : EReal) * (x5 (ix2 k l) : EReal) := by
  pointwise [stepG, k0_pay148]
theorem stepU_apply (r : Fin 1536) (l : Fin 512) :
    (stepU x0 x1 x6 xo8 (ix2 r l) : EReal)
      = xo8 (ix2 r l) + ∑ k : Fin 2048, (deqRows x0 x1 bitsLt_fp8e4m3_bf16 (ix2 k r) : EReal) * (x6 (ix2 k l) : EReal) := by
  pointwise [stepU, k0_pay1, k0_pay149]
theorem stepD_apply (r : Fin 512) (l : Fin 1536) :
    (stepD x2 x3 x4 xo9 (ix2 r l) : EReal)
      = xo9 (ix2 r l) + ∑ k : Fin 2048, (x4 (ix2 k r) : EReal) * (deqRows x2 x3 bitsLt_fp8e5m2_bf16 (ix2 k l) : EReal) := by
  pointwise [stepD, k0_pay2]

/-- The zero blocks. -/
theorem zero7 (r : Fin 1536) (l : Fin 512) : ((k0_pay3 : FVec Ideal S1536x512 .f32) (ix2 r l) : EReal) = 0 := by pointwise [k0_pay3]
theorem zero8 (r : Fin 1536) (l : Fin 512) : ((k0_pay4 : FVec Ideal S1536x512 .f32) (ix2 r l) : EReal) = 0 := by pointwise [k0_pay4]
theorem zero9 (r : Fin 512) (l : Fin 1536) : ((k0_pay5 : FVec Ideal S512x1536 .f32) (ix2 r l) : EReal) = 0 := by pointwise [k0_pay5]

end Cert.DwIdeal.Block

end
-- ==== Proof.DwSpec.lean ====
/-
  The mathematics of the weight gradients, entry by entry over the extended reals: codes with one scale for 32 rows, and
  products summed over all 40960 tokens.
-/
module

public import proofs.«01_k».proof.Proof.Scale
public import proofs.«01_k».proof.Proof.Lanes

@[expose] public section

noncomputable section

namespace Cert.Proof

open Idealize.ShloMosaic

/-- Entry `(i, k)` of codes `X` dequantised with the exponents `E`, one for 32 rows. -/
def deqT (X : (sh 40960 1536).Idx → EReal) (E : (sh 1280 1536).Idx → BitVec 8) (i : Fin 40960) (k : Fin 1536) : EReal :=
  X (ix2 i k) * scale (E (ix2 (⟨i.val / 32, by have := i.isLt; omega⟩ : Fin 1280) k))

/-- The transposed dequantised codes times `B`. -/
def gradIn (X : (sh 40960 1536).Idx → EReal) (E : (sh 1280 1536).Idx → BitVec 8) (B : (sh 40960 6144).Idx → EReal) :
    (sh 1536 6144).Idx → EReal := fun j => ∑ i : Fin 40960, deqT X E i (j 0) * B (ix2 i (j 1))

/-- The transposed `B` times the dequantised codes. -/
def gradOut (B : (sh 40960 6144).Idx → EReal) (X : (sh 40960 1536).Idx → EReal) (E : (sh 1280 1536).Idx → BitVec 8) :
    (sh 6144 1536).Idx → EReal := fun j => ∑ i : Fin 40960, B (ix2 i (j 0)) * deqT X E i (j 1)

end Cert.Proof

end
-- ==== Proof.DwValue.lean ====
/-
  What the weight-gradient kernel's three result arrays hold over the extended reals: the 20 points of a column block add
  the 20 parts of the sum over all tokens.
-/
module

public import proofs.«01_k».proof.Proof.DwBlock
public import proofs.«01_k».proof.Proof.DwSpec
public import proofs.«01_k».proof.Proof.Words
public import Idealize.ShloMosaic.Lib.Pointwise.Sums
public import Idealize.ShloMosaic.Lib.StableHlo.ReadAt
public import Idealize.ShloMosaic.Lib.Pipeline.ValueKit.Point

@[expose] public section

noncomputable section

namespace Cert.DwIdeal.Array

open Cert.DwIdeal Cert.DwIdeal.Gen Cert.DwIdeal.Value Cert.DwIdeal.Block Cert.Proof
open Idealize.ShloMosaic Idealize.ShloMosaic.TcCoe Idealize.SL.Sem

variable (m : (ℓ : Loc nD τ sig) → Buf (Elt Ideal) ℓ)

/-- The codes and exponents of `x` and `dy` of device `c`, one row for a token and for 32 tokens, and `h`, `dg` and `du`. -/
abbrev xc (c : Dev nD) : (sh 40960 1536).Idx → EReal :=
  shapeCast S40960x1536 (m ((c : Thread nD τ).loc main_arg0) : S5x8192x1536.Idx → EReal) shapeCasts_S5x8192x1536_S40960x1536
abbrev xe (c : Dev nD) : (sh 1280 1536).Idx → BitVec 8 :=
  shapeCast S1280x1536 (m ((c : Thread nD τ).loc main_arg1) : S5x256x1536.Idx → BitVec 8) shapeCasts_S5x256x1536_S1280x1536
abbrev dyc (c : Dev nD) : (sh 40960 1536).Idx → EReal :=
  shapeCast S40960x1536 (m ((c : Thread nD τ).loc main_arg2) : S5x8192x1536.Idx → EReal) shapeCasts_S5x8192x1536_S40960x1536
abbrev dye (c : Dev nD) : (sh 1280 1536).Idx → BitVec 8 :=
  shapeCast S1280x1536 (m ((c : Thread nD τ).loc main_arg3) : S5x256x1536.Idx → BitVec 8) shapeCasts_S5x256x1536_S1280x1536
abbrev hh (c : Dev nD) : (sh 40960 6144).Idx → EReal := m ((c : Thread nD τ).loc main_arg4)
abbrev dg (c : Dev nD) : (sh 40960 6144).Idx → EReal := m ((c : Thread nD τ).loc main_arg5)
abbrev du (c : Dev nD) : (sh 40960 6144).Idx → EReal := m ((c : Thread nD τ).loc main_arg6)

theorem V0 (c : Dev nD) : (V m c main_v0 : S40960x1536.Idx → EReal) = xc m c := by
  entry_read
  rfl
theorem V1 (c : Dev nD) : (V m c main_v1 : S40960x1536.Idx → EReal) = dyc m c := by
  entry_read
  rfl

/-- The pair word of each exponent. -/
theorem V8 (c : Dev nD) (i : S1280x1536.Idx) : (V m c main_v8 : S1280x1536.Idx → BitVec 32) i = word32 (xe m c i) := by
  unfold V
  after_reads_simp
  exact shift32_apply _ _ _ _ (fun _ => rfl) (fun _ => rfl) _
theorem V15 (c : Dev nD) (i : S1280x1536.Idx) : (V m c main_v15 : S1280x1536.Idx → BitVec 32) i = word32 (dye m c i) := by
  unfold V
  after_reads_simp
  exact shift32_apply _ _ _ _ (fun _ => rfl) (fun _ => rfl) _

/-- Point `t` has column block `t / 20` and token block `t % 20`. -/
theorem index_eq : ∀ t : Fin cfg0.N, (win0_0.index t (0 : Fin 2) = t.val % 20 ∧ win0_0.index t (1 : Fin 2) = 0)
    ∧ (win0_1.index t (0 : Fin 2) = t.val % 20 ∧ win0_1.index t (1 : Fin 2) = 0)
    ∧ (win0_2.index t (0 : Fin 2) = t.val % 20 ∧ win0_2.index t (1 : Fin 2) = 0)
    ∧ (win0_3.index t (0 : Fin 2) = t.val % 20 ∧ win0_3.index t (1 : Fin 2) = 0)
    ∧ (win0_4.index t (0 : Fin 2) = t.val % 20 ∧ win0_4.index t (1 : Fin 2) = t.val / 20)
    ∧ (win0_5.index t (0 : Fin 2) = t.val % 20 ∧ win0_5.index t (1 : Fin 2) = t.val / 20)
    ∧ (win0_6.index t (0 : Fin 2) = t.val % 20 ∧ win0_6.index t (1 : Fin 2) = t.val / 20) :=
  (by decide +kernel : ∀ t : Fin grid0.N, _)

theorem out_index : ∀ t : Fin cfg0.N, (win0_7.index t (0 : Fin 2) = 0 ∧ win0_7.index t (1 : Fin 2) = t.val / 20)
    ∧ (win0_8.index t (0 : Fin 2) = 0 ∧ win0_8.index t (1 : Fin 2) = t.val / 20)
    ∧ (win0_9.index t (0 : Fin 2) = t.val / 20 ∧ win0_9.index t (1 : Fin 2) = 0) :=
  (by decide +kernel : ∀ t : Fin grid0.N, _)

/-- A block is written back at the last point of its column block. -/
theorem last7 : ∀ t : Fin cfg0.N, (cfg0.win 7).flush t = true → t.val % 20 = 19 := (by decide +kernel : ∀ t : Fin grid0.N, _)
theorem last8 : ∀ t : Fin cfg0.N, (cfg0.win 8).flush t = true → t.val % 20 = 19 := (by decide +kernel : ∀ t : Fin grid0.N, _)
theorem last9 : ∀ t : Fin cfg0.N, (cfg0.win 9).flush t = true → t.val % 20 = 19 := (by decide +kernel : ∀ t : Fin grid0.N, _)

theorem N_lt (t : Fin cfg0.N) : t.val < 240 := lt_of_lt_of_eq t.isLt N_0

/-- Token `r` of point `t`'s token block, and column `l` of its column block. -/
abbrev row (t : Fin cfg0.N) (r : Fin 2048) : Fin 40960 := ⟨t.val % 20 * 2048 + r.val, by omega⟩
abbrev col (t : Fin cfg0.N) (l : Fin 512) : Fin 6144 := ⟨t.val / 20 * 512 + l.val, by have := N_lt t; omega⟩

abbrev b0 (c : Dev nD) (t : Fin cfg0.N) : S2048x1536.Idx → EReal := iblk m c 0 t
abbrev b1 (c : Dev nD) (t : Fin cfg0.N) : S64x1536.Idx → BitVec 32 := iblk m c 1 t
abbrev b2 (c : Dev nD) (t : Fin cfg0.N) : S2048x1536.Idx → EReal := iblk m c 2 t
abbrev b3 (c : Dev nD) (t : Fin cfg0.N) : S64x1536.Idx → BitVec 32 := iblk m c 3 t
abbrev b4 (c : Dev nD) (t : Fin cfg0.N) : S2048x512.Idx → EReal := iblk m c 4 t
abbrev b5 (c : Dev nD) (t : Fin cfg0.N) : S2048x512.Idx → EReal := iblk m c 5 t
abbrev b6 (c : Dev nD) (t : Fin cfg0.N) : S2048x512.Idx → EReal := iblk m c 6 t

/-! Each block at an index. -/

theorem b0_apply (c : Dev nD) (t : Fin cfg0.N) (r : Fin 2048) (k : Fin 1536) : b0 m c t (ix2 r k) = xc m c (ix2 (row t r) k) := by
  obtain ⟨h0, h1⟩ := (index_eq t).1
  unfold b0 iblk
  rw [View.read_apply, ← V0]
  show V m c main_v0 _ = V m c main_v0 _
  congr 1
  funext a; apply Fin.ext
  match a with
  | ⟨0, _⟩ => show win0_0.index t 0 * 2048 + 1 * r.val = t.val % 20 * 2048 + r.val; rw [h0, Nat.one_mul]
  | ⟨1, _⟩ => show win0_0.index t 1 * 1536 + 1 * k.val = k.val; rw [h1]; omega

theorem b1_apply (c : Dev nD) (t : Fin cfg0.N) (n : Fin 64) (k : Fin 1536) :
    b1 m c t (ix2 n k) = word32 (xe m c (ix2 (⟨t.val % 20 * 64 + n.val, by omega⟩ : Fin 1280) k)) := by
  obtain ⟨h0, h1⟩ := (index_eq t).2.1
  unfold b1 iblk
  rw [View.read_apply, ← V8]
  show V m c main_v8 _ = V m c main_v8 _
  congr 1
  funext a; apply Fin.ext
  match a with
  | ⟨0, _⟩ => show win0_1.index t 0 * 64 + 1 * n.val = t.val % 20 * 64 + n.val; rw [h0, Nat.one_mul]
  | ⟨1, _⟩ => show win0_1.index t 1 * 1536 + 1 * k.val = k.val; rw [h1]; omega

theorem b2_apply (c : Dev nD) (t : Fin cfg0.N) (r : Fin 2048) (k : Fin 1536) : b2 m c t (ix2 r k) = dyc m c (ix2 (row t r) k) := by
  obtain ⟨h0, h1⟩ := (index_eq t).2.2.1
  unfold b2 iblk
  rw [View.read_apply, ← V1]
  show V m c main_v1 _ = V m c main_v1 _
  congr 1
  funext a; apply Fin.ext
  match a with
  | ⟨0, _⟩ => show win0_2.index t 0 * 2048 + 1 * r.val = t.val % 20 * 2048 + r.val; rw [h0, Nat.one_mul]
  | ⟨1, _⟩ => show win0_2.index t 1 * 1536 + 1 * k.val = k.val; rw [h1]; omega

theorem b3_apply (c : Dev nD) (t : Fin cfg0.N) (n : Fin 64) (k : Fin 1536) :
    b3 m c t (ix2 n k) = word32 (dye m c (ix2 (⟨t.val % 20 * 64 + n.val, by omega⟩ : Fin 1280) k)) := by
  obtain ⟨h0, h1⟩ := (index_eq t).2.2.2.1
  unfold b3 iblk
  rw [View.read_apply, ← V15]
  show V m c main_v15 _ = V m c main_v15 _
  congr 1
  funext a; apply Fin.ext
  match a with
  | ⟨0, _⟩ => show win0_3.index t 0 * 64 + 1 * n.val = t.val % 20 * 64 + n.val; rw [h0, Nat.one_mul]
  | ⟨1, _⟩ => show win0_3.index t 1 * 1536 + 1 * k.val = k.val; rw [h1]; omega

theorem b4_apply (c : Dev nD) (t : Fin cfg0.N) (r : Fin 2048) (l : Fin 512) : b4 m c t (ix2 r l) = hh m c (ix2 (row t r) (col t l)) := by
  obtain ⟨h0, h1⟩ := (index_eq t).2.2.2.2.1
  unfold b4 iblk
  rw [View.read_apply]
  refine (congrFun (V_main_arg4 m c) _).trans (congrArg (m ((c : Thread nD τ).loc main_arg4)) ?_)
  funext a; apply Fin.ext
  match a with
  | ⟨0, _⟩ => show win0_4.index t 0 * 2048 + 1 * r.val = t.val % 20 * 2048 + r.val; rw [h0, Nat.one_mul]
  | ⟨1, _⟩ => show win0_4.index t 1 * 512 + 1 * l.val = t.val / 20 * 512 + l.val; rw [h1, Nat.one_mul]

theorem b5_apply (c : Dev nD) (t : Fin cfg0.N) (r : Fin 2048) (l : Fin 512) : b5 m c t (ix2 r l) = dg m c (ix2 (row t r) (col t l)) := by
  obtain ⟨h0, h1⟩ := (index_eq t).2.2.2.2.2.1
  unfold b5 iblk
  rw [View.read_apply]
  refine (congrFun (V_main_arg5 m c) _).trans (congrArg (m ((c : Thread nD τ).loc main_arg5)) ?_)
  funext a; apply Fin.ext
  match a with
  | ⟨0, _⟩ => show win0_5.index t 0 * 2048 + 1 * r.val = t.val % 20 * 2048 + r.val; rw [h0, Nat.one_mul]
  | ⟨1, _⟩ => show win0_5.index t 1 * 512 + 1 * l.val = t.val / 20 * 512 + l.val; rw [h1, Nat.one_mul]

theorem b6_apply (c : Dev nD) (t : Fin cfg0.N) (r : Fin 2048) (l : Fin 512) : b6 m c t (ix2 r l) = du m c (ix2 (row t r) (col t l)) := by
  obtain ⟨h0, h1⟩ := (index_eq t).2.2.2.2.2.2
  unfold b6 iblk
  rw [View.read_apply]
  refine (congrFun (V_main_arg6 m c) _).trans (congrArg (m ((c : Thread nD τ).loc main_arg6)) ?_)
  funext a; apply Fin.ext
  match a with
  | ⟨0, _⟩ => show win0_6.index t 0 * 2048 + 1 * r.val = t.val % 20 * 2048 + r.val; rw [h0, Nat.one_mul]
  | ⟨1, _⟩ => show win0_6.index t 1 * 512 + 1 * l.val = t.val / 20 * 512 + l.val; rw [h1, Nat.one_mul]

/-- A dequantised block of `x` holds the dequantised entries of its tokens. -/
theorem x_apply (c : Dev nD) (t : Fin cfg0.N) (r : Fin 2048) (k : Fin 1536) :
    (deqRows (b0 m c t) (b1 m c t) bitsLt_fp8e4m3_bf16 (ix2 r k) : EReal) = deqT (xc m c) (xe m c) (row t r) k := by
  have hr := r.isLt
  have hi : (⟨t.val % 20 * 64 + r.val / 32, by omega⟩ : Fin 1280) = ⟨(row t r).val / 32, by have := (row t r).isLt; omega⟩ :=
    Fin.ext (by show t.val % 20 * 64 + r.val / 32 = (t.val % 20 * 2048 + r.val) / 32; omega)
  refine (deqRows_entry _ _ bitsLt_fp8e4m3_bf16 r k).trans ?_
  rw [b0_apply, b1_apply, word32_half _ _ (by omega), ofBits_word16, hi]
  rfl

/-- A dequantised block of `dy` holds the dequantised entries of its tokens. -/
theorem dy_apply (c : Dev nD) (t : Fin cfg0.N) (r : Fin 2048) (k : Fin 1536) :
    (deqRows (b2 m c t) (b3 m c t) bitsLt_fp8e5m2_bf16 (ix2 r k) : EReal) = deqT (dyc m c) (dye m c) (row t r) k := by
  have hr := r.isLt
  have hi : (⟨t.val % 20 * 64 + r.val / 32, by omega⟩ : Fin 1280) = ⟨(row t r).val / 32, by have := (row t r).isLt; omega⟩ :=
    Fin.ext (by show t.val % 20 * 64 + r.val / 32 = (t.val % 20 * 2048 + r.val) / 32; omega)
  refine (deqRows_entry _ _ bitsLt_fp8e5m2_bf16 r k).trans ?_
  rw [b2_apply, b3_apply, word32_half _ _ (by omega), ofBits_word16, hi]
  rfl

/-- The part of each sum that point `n` adds. -/
def partG (c : Dev nD) (r : Fin 1536) (l : Fin 512) (n : ℕ) : EReal :=
  if h : n < cfg0.N then ∑ k : Fin 2048, deqT (xc m c) (xe m c) (row ⟨n, h⟩ k) r * dg m c (ix2 (row ⟨n, h⟩ k) (col ⟨n, h⟩ l)) else 0
def partU (c : Dev nD) (r : Fin 1536) (l : Fin 512) (n : ℕ) : EReal :=
  if h : n < cfg0.N then ∑ k : Fin 2048, deqT (xc m c) (xe m c) (row ⟨n, h⟩ k) r * du m c (ix2 (row ⟨n, h⟩ k) (col ⟨n, h⟩ l)) else 0
def partD (c : Dev nD) (r : Fin 512) (l : Fin 1536) (n : ℕ) : EReal :=
  if h : n < cfg0.N then ∑ k : Fin 2048, hh m c (ix2 (row ⟨n, h⟩ k) (col ⟨n, h⟩ r)) * deqT (dyc m c) (dye m c) (row ⟨n, h⟩ k) l else 0

/-- A point's step adds its part. -/
theorem stepG_part (c : Dev nD) (t : Fin cfg0.N) (acc : Vec Ideal S1536x512 .f32) (r : Fin 1536) (l : Fin 512) :
    (stepG (b0 m c t) (b1 m c t) (b5 m c t) acc (ix2 r l) : EReal) = acc (ix2 r l) + partG m c r l t.val := by
  refine (stepG_apply _ _ _ _ r l).trans ?_
  unfold partG; rw [dif_pos t.isLt]
  exact congrArg _ (Finset.sum_congr rfl fun k _ => congrArg₂ (· * ·) (x_apply m c t k r) (b5_apply m c t k l))
theorem stepU_part (c : Dev nD) (t : Fin cfg0.N) (acc : Vec Ideal S1536x512 .f32) (r : Fin 1536) (l : Fin 512) :
    (stepU (b0 m c t) (b1 m c t) (b6 m c t) acc (ix2 r l) : EReal) = acc (ix2 r l) + partU m c r l t.val := by
  refine (stepU_apply _ _ _ _ r l).trans ?_
  unfold partU; rw [dif_pos t.isLt]
  exact congrArg _ (Finset.sum_congr rfl fun k _ => congrArg₂ (· * ·) (x_apply m c t k r) (b6_apply m c t k l))
theorem stepD_part (c : Dev nD) (t : Fin cfg0.N) (acc : Vec Ideal S512x1536 .f32) (r : Fin 512) (l : Fin 1536) :
    (stepD (b2 m c t) (b3 m c t) (b4 m c t) acc (ix2 r l) : EReal) = acc (ix2 r l) + partD m c r l t.val := by
  refine (stepD_apply _ _ _ _ r l).trans ?_
  unfold partD; rw [dif_pos t.isLt]
  exact congrArg _ (Finset.sum_congr rfl fun k _ => congrArg₂ (· * ·) (b4_apply m c t k r) (dy_apply m c t k l))

/-- What starts at a part and adds one part per point is, after `j + 1` points of column block `q`, the sum of its parts so far. -/
theorem accum (f : (n : ℕ) → n < cfg0.N → EReal) (p : ℕ → EReal) (h0 : ∀ n h, n % 20 = 0 → f n h = p n)
    (hs : ∀ n (h : n + 1 < cfg0.N), ¬(n + 1) % 20 = 0 → f (n + 1) h = f n (Nat.lt_of_succ_lt h) + p (n + 1)) (q : ℕ) :
    ∀ (j : ℕ) (_ : j < 20) (h : 20 * q + j < cfg0.N), f (20 * q + j) h = ∑ s ∈ Finset.range (j + 1), p (20 * q + s)
  | 0, _, h => by
    rw [h0 _ h (by omega), Finset.sum_range_one]
  | j + 1, hj, h => by
    rw [Finset.sum_range_succ _ (j + 1), ← accum f p h0 hs q j (by omega) (Nat.lt_of_succ_lt h)]
    exact hs (20 * q + j) h (by omega)

theorem acc7 (c : Dev nD) (r : Fin 1536) (l : Fin 512) (q : ℕ) (h : 20 * q + 19 < cfg0.N) :
    ((outsAt0 m c (20 * q + 19) h).1 (ix2 r l) : EReal) = ∑ s ∈ Finset.range 20, partG m c r l (20 * q + s) := by
  refine accum (fun n h => ((outsAt0 m c n h).1 (ix2 r l) : EReal)) (partG m c r l) (fun n h hn => ?_) (fun n h hn => ?_) q 19 (by omega) h
  · have e := outsAt0_A m c ⟨n, h⟩ hn
    show ((outsAt0 m c n h).1 (ix2 r l) : EReal) = _
    rw [show outsAt0 m c n h = _ from e]
    dsimp only
    rw [out_A7]
    refine (stepG_part m c ⟨n, h⟩ _ r l).trans ?_
    rw [zero7, zero_add]
  · have e := outsAt0_B m c ⟨n + 1, h⟩ hn
    show ((outsAt0 m c (n + 1) h).1 (ix2 r l) : EReal) = _
    rw [show outsAt0 m c (n + 1) h = _ from e]
    dsimp only
    rw [out_B7]
    exact stepG_part m c ⟨n + 1, h⟩ _ r l

theorem acc8 (c : Dev nD) (r : Fin 1536) (l : Fin 512) (q : ℕ) (h : 20 * q + 19 < cfg0.N) :
    ((outsAt0 m c (20 * q + 19) h).2.1 (ix2 r l) : EReal) = ∑ s ∈ Finset.range 20, partU m c r l (20 * q + s) := by
  refine accum (fun n h => ((outsAt0 m c n h).2.1 (ix2 r l) : EReal)) (partU m c r l) (fun n h hn => ?_) (fun n h hn => ?_) q 19 (by omega) h
  · have e := outsAt0_A m c ⟨n, h⟩ hn
    show ((outsAt0 m c n h).2.1 (ix2 r l) : EReal) = _
    rw [show outsAt0 m c n h = _ from e]
    dsimp only
    rw [out_A8]
    refine (stepU_part m c ⟨n, h⟩ _ r l).trans ?_
    rw [zero8, zero_add]
  · have e := outsAt0_B m c ⟨n + 1, h⟩ hn
    show ((outsAt0 m c (n + 1) h).2.1 (ix2 r l) : EReal) = _
    rw [show outsAt0 m c (n + 1) h = _ from e]
    dsimp only
    rw [out_B8]
    exact stepU_part m c ⟨n + 1, h⟩ _ r l

theorem acc9 (c : Dev nD) (r : Fin 512) (l : Fin 1536) (q : ℕ) (h : 20 * q + 19 < cfg0.N) :
    ((outsAt0 m c (20 * q + 19) h).2.2 (ix2 r l) : EReal) = ∑ s ∈ Finset.range 20, partD m c r l (20 * q + s) := by
  refine accum (fun n h => ((outsAt0 m c n h).2.2 (ix2 r l) : EReal)) (partD m c r l) (fun n h hn => ?_) (fun n h hn => ?_) q 19 (by omega) h
  · have e := outsAt0_A m c ⟨n, h⟩ hn
    show ((outsAt0 m c n h).2.2 (ix2 r l) : EReal) = _
    rw [show outsAt0 m c n h = _ from e]
    dsimp only
    rw [out_A9]
    refine (stepD_part m c ⟨n, h⟩ _ r l).trans ?_
    rw [zero9, zero_add]
  · have e := outsAt0_B m c ⟨n + 1, h⟩ hn
    show ((outsAt0 m c (n + 1) h).2.2 (ix2 r l) : EReal) = _
    rw [show outsAt0 m c (n + 1) h = _ from e]
    dsimp only
    rw [out_B9]
    exact stepD_part m c ⟨n + 1, h⟩ _ r l

/-- The last point of a column block leaves the whole sums in window 7's block. -/
theorem blk7 (c : Dev nD) (t : Fin cfg0.N) (ht : t.val % 20 = 19) (r : Fin 1536) (l : Fin 512) :
    ((outsAt0 m c t.val t.isLt).1 (ix2 r l) : EReal) = gradIn (xc m c) (xe m c) (dg m c) (ix2 r (col t l)) := by
  have hN := N_lt t
  have e : ∀ n (h : n < cfg0.N), n = 20 * (t.val / 20) + 19 →
      ((outsAt0 m c n h).1 (ix2 r l) : EReal) = ∑ s ∈ Finset.range 20, partG m c r l (20 * (t.val / 20) + s) := fun n h hn => by
    subst hn; exact acc7 m c r l _ h
  rw [e t.val t.isLt (by omega), Finset.sum_range]
  refine Eq.trans ?_ (Fin.sum_univ_tiles 20 2048 (by norm_num) (fun i : Fin 40960 => deqT (xc m c) (xe m c) i r * dg m c (ix2 i (col t l)))).symm
  refine Finset.sum_congr rfl fun s _ => ?_
  have hs := s.isLt
  have hlt : 20 * (t.val / 20) + s.val < cfg0.N := lt_of_lt_of_eq (by omega : 20 * (t.val / 20) + s.val < 240) N_0.symm
  have hm : (20 * (t.val / 20) + s.val) % 20 = s.val := by omega
  have hd : (20 * (t.val / 20) + s.val) / 20 = t.val / 20 := by omega
  unfold partG; rw [dif_pos hlt]
  simp only [row, col, hm, hd]

/-- Its result array after the run. -/
theorem final7 (c : Dev nD) : (dats m 0 c).arrAt 7 cfg0.N = gradIn (xc m c) (xe m c) (dg m c) := by
  refine (dats m 0 c).arrAt_eq_of_covers 7 _ (by decide +kernel) fun t hf y => ?_
  blk_simp
  rw [after0_7]
  obtain ⟨h0, h1⟩ := (out_index t).1
  rw [show (win0_7.blk t).view.emb y = ix2 (y 0) (col t (y 1)) from by
    funext a; apply Fin.ext
    match a with
    | ⟨0, _⟩ => show win0_7.index t 0 * 1536 + 1 * (y 0).val = (y 0).val; rw [h0]; omega
    | ⟨1, _⟩ => show win0_7.index t 1 * 512 + 1 * (y 1).val = t.val / 20 * 512 + (y 1).val; rw [h1, Nat.one_mul]]
  exact (congrArg _ (ValueIdx.eq_ix2 y)).trans (blk7 m c t (last7 t hf) (y 0) (y 1))

/-- The last point of a column block leaves the whole sums in window 8's block. -/
theorem blk8 (c : Dev nD) (t : Fin cfg0.N) (ht : t.val % 20 = 19) (r : Fin 1536) (l : Fin 512) :
    ((outsAt0 m c t.val t.isLt).2.1 (ix2 r l) : EReal) = gradIn (xc m c) (xe m c) (du m c) (ix2 r (col t l)) := by
  have hN := N_lt t
  have e : ∀ n (h : n < cfg0.N), n = 20 * (t.val / 20) + 19 →
      ((outsAt0 m c n h).2.1 (ix2 r l) : EReal) = ∑ s ∈ Finset.range 20, partU m c r l (20 * (t.val / 20) + s) := fun n h hn => by
    subst hn; exact acc8 m c r l _ h
  rw [e t.val t.isLt (by omega), Finset.sum_range]
  refine Eq.trans ?_ (Fin.sum_univ_tiles 20 2048 (by norm_num) (fun i : Fin 40960 => deqT (xc m c) (xe m c) i r * du m c (ix2 i (col t l)))).symm
  refine Finset.sum_congr rfl fun s _ => ?_
  have hs := s.isLt
  have hlt : 20 * (t.val / 20) + s.val < cfg0.N := lt_of_lt_of_eq (by omega : 20 * (t.val / 20) + s.val < 240) N_0.symm
  have hm : (20 * (t.val / 20) + s.val) % 20 = s.val := by omega
  have hd : (20 * (t.val / 20) + s.val) / 20 = t.val / 20 := by omega
  unfold partU; rw [dif_pos hlt]
  simp only [row, col, hm, hd]

/-- Its result array after the run. -/
theorem final8 (c : Dev nD) : (dats m 0 c).arrAt 8 cfg0.N = gradIn (xc m c) (xe m c) (du m c) := by
  refine (dats m 0 c).arrAt_eq_of_covers 8 _ (by decide +kernel) fun t hf y => ?_
  blk_simp
  rw [after0_8]
  obtain ⟨h0, h1⟩ := (out_index t).2.1
  rw [show (win0_8.blk t).view.emb y = ix2 (y 0) (col t (y 1)) from by
    funext a; apply Fin.ext
    match a with
    | ⟨0, _⟩ => show win0_8.index t 0 * 1536 + 1 * (y 0).val = (y 0).val; rw [h0]; omega
    | ⟨1, _⟩ => show win0_8.index t 1 * 512 + 1 * (y 1).val = t.val / 20 * 512 + (y 1).val; rw [h1, Nat.one_mul]]
  exact (congrArg _ (ValueIdx.eq_ix2 y)).trans (blk8 m c t (last8 t hf) (y 0) (y 1))

/-- The last point of a column block leaves the whole sums in window 9's block. -/
theorem blk9 (c : Dev nD) (t : Fin cfg0.N) (ht : t.val % 20 = 19) (r : Fin 512) (l : Fin 1536) :
    ((outsAt0 m c t.val t.isLt).2.2 (ix2 r l) : EReal) = gradOut (hh m c) (dyc m c) (dye m c) (ix2 (col t r) l) := by
  have hN := N_lt t
  have e : ∀ n (h : n < cfg0.N), n = 20 * (t.val / 20) + 19 →
      ((outsAt0 m c n h).2.2 (ix2 r l) : EReal) = ∑ s ∈ Finset.range 20, partD m c r l (20 * (t.val / 20) + s) := fun n h hn => by
    subst hn; exact acc9 m c r l _ h
  rw [e t.val t.isLt (by omega), Finset.sum_range]
  refine Eq.trans ?_ (Fin.sum_univ_tiles 20 2048 (by norm_num) (fun i : Fin 40960 => hh m c (ix2 i (col t r)) * deqT (dyc m c) (dye m c) i l)).symm
  refine Finset.sum_congr rfl fun s _ => ?_
  have hs := s.isLt
  have hlt : 20 * (t.val / 20) + s.val < cfg0.N := lt_of_lt_of_eq (by omega : 20 * (t.val / 20) + s.val < 240) N_0.symm
  have hm : (20 * (t.val / 20) + s.val) % 20 = s.val := by omega
  have hd : (20 * (t.val / 20) + s.val) / 20 = t.val / 20 := by omega
  unfold partD; rw [dif_pos hlt]
  simp only [row, col, hm, hd]

/-- Its result array after the run. -/
theorem final9 (c : Dev nD) : (dats m 0 c).arrAt 9 cfg0.N = gradOut (hh m c) (dyc m c) (dye m c) := by
  refine (dats m 0 c).arrAt_eq_of_covers 9 _ (by decide +kernel) fun t hf y => ?_
  blk_simp
  rw [after0_9]
  obtain ⟨h0, h1⟩ := (out_index t).2.2
  rw [show (win0_9.blk t).view.emb y = ix2 (col t (y 0)) (y 1) from by
    funext a; apply Fin.ext
    match a with
    | ⟨0, _⟩ => show win0_9.index t 0 * 512 + 1 * (y 0).val = t.val / 20 * 512 + (y 0).val; rw [h0, Nat.one_mul]
    | ⟨1, _⟩ => show win0_9.index t 1 * 1536 + 1 * (y 1).val = (y 1).val; rw [h1]; omega]
  exact (congrArg _ (ValueIdx.eq_ix2 y)).trans (blk9 m c t (last9 t hf) (y 0) (y 1))

end Cert.DwIdeal.Array

end
-- ==== Proof.DwRef.lean ====
/-
  What the reference for the weight-gradient call computes over the extended reals.
-/
module

public import proofs.«01_k».proof.Proof.DwSpec
public import proofs.«01_k».proof.Proof.RefScale
public import proofs.«01_k».proof.Proof.Gen.DwRefIdeal.Value
public import Idealize.ShloMosaic.Lib.Pipeline.ValueKit.Point
public import Idealize.ShloMosaic.Lib.Pointwise

@[expose] public section

noncomputable section

namespace Cert.DwRefIdeal.Array

open Cert.DwRefIdeal Cert.DwRefIdeal.Gen Cert.DwRefIdeal.Value Cert.Proof
open Idealize.ShloMosaic Idealize.ShloMosaic.TcCoe Idealize.SL.Sem

theorem hz : (![0, 0] : Fin 2 → Nat) = fun _ => 0 := funext fun a => by fin_cases a <;> rfl

/-- The dequantised codes, of either code format. -/
def rb {φ : FTy} (x : FVec Ideal S40960x1536 φ) (e : IVec S1280x1536 8) (h : FTy.bits φ < FTy.bits .bf16) : FVec Ideal S40960x1536 .bf16 :=
  refRows (N := 1280) x e natLt_8_32 bitsLt_bf16_f32 h shapeCasts_S40960x1536_S1280x32x1536 shapeCasts_S1280x32x1536_S40960x1536
    shapeCasts_S1280x1536_S1280x1x1536 broadcasts_S1280x1x1536_S1280x32x1536

theorem rb_apply {φ : FTy} (x : FVec Ideal S40960x1536 φ) (e : IVec S1280x1536 8) (h : FTy.bits φ < FTy.bits .bf16)
    (r : Fin 40960) (k : Fin 1536) : (rb x e h (ix2 r k) : EReal) = deqT x e r k :=
  refRows_apply (N := 1280) x e _ _ _ _ _ _ _ (by norm_num) (by norm_num) (by norm_num) r k

/-- The transposed first operand times the second, in both shapes. -/
def mmIn (a : FVec Ideal S40960x1536 .bf16) (b : FVec Ideal S40960x6144 .bf16) : FVec Ideal S1536x6144 .f32 :=
  matmul (φ₁ := .bf16) (φ₂ := .bf16) dot_S1536x40960_S40960x6144_S1536x6144_1_0_0_1_n_n none
    (transpose S1536x40960 [1, 0] a transposes_S40960x1536_p1_0_S1536x40960) b (constant S1536x6144 .f32 0x00000000#32)
def mmOut (b : FVec Ideal S40960x6144 .bf16) (a : FVec Ideal S40960x1536 .bf16) : FVec Ideal S6144x1536 .f32 :=
  matmul (φ₁ := .bf16) (φ₂ := .bf16) dot_S6144x40960_S40960x1536_S6144x1536_1_0_0_1_n_n none
    (transpose S6144x40960 [1, 0] b transposes_S40960x6144_p1_0_S6144x40960) a (constant S6144x1536 .f32 0x00000000#32)

theorem mmIn_apply (a : FVec Ideal S40960x1536 .bf16) (b : FVec Ideal S40960x6144 .bf16) (r : Fin 1536) (l : Fin 6144) :
    (mmIn a b (ix2 r l) : EReal) = ∑ k : Fin 40960, (a (ix2 k r) : EReal) * (b (ix2 k l) : EReal) := by
  pointwise [mmIn]
theorem mmOut_apply (b : FVec Ideal S40960x6144 .bf16) (a : FVec Ideal S40960x1536 .bf16) (r : Fin 6144) (l : Fin 1536) :
    (mmOut b a (ix2 r l) : EReal) = ∑ k : Fin 40960, (b (ix2 k r) : EReal) * (a (ix2 k l) : EReal) := by
  pointwise [mmOut]

variable (x0 : Vec Ideal S40960x1536 .fp8e4m3) (x1 : Vec Ideal S1280x1536 .i8) (x2 : Vec Ideal S40960x1536 .fp8e5m2)
    (x3 : Vec Ideal S1280x1536 .i8) (x4 x5 x6 : Vec Ideal S40960x6144 .bf16)

theorem out7_eq : out0_7 (F := Ideal) x0 x1 x2 x3 x4 x5 x6 = mmIn (rb x0 x1 bitsLt_fp8e4m3_bf16) x5 := by
  unfold out0_7
  rw [View.canon_unit_zero (S := S1536x6144) hz, View.ld_unit_zero (S := S40960x6144) hz]
  have h : k0_pay1 (F := Ideal) (k0_pay10 x0 x1 x2 x3 x4 x5 x6) x5
      = mmIn (rb (shapeCast S40960x1536 (View.ld x0 r0_0 : FVec Ideal S40960x1536 .fp8e4m3) shapeCasts_S40960x1536_S40960x1536)
        (shapeCast S1280x1536 (View.ld x1 r0_1 : IVec S1280x1536 8) shapeCasts_S1280x1536_S1280x1536) bitsLt_fp8e4m3_bf16) x5 := rfl
  exact h.trans (congrArg (fun a => mmIn a x5) (congrArg₂ (fun a b => rb a b bitsLt_fp8e4m3_bf16)
    ((shapeCast_self _ _).trans (View.ld_unit_zero (S := S40960x1536) hz _ _))
    ((shapeCast_self _ _).trans (View.ld_unit_zero (S := S1280x1536) hz _ _))))
theorem out8_eq : out0_8 (F := Ideal) x0 x1 x2 x3 x4 x5 x6 = mmIn (rb x0 x1 bitsLt_fp8e4m3_bf16) x6 := by
  unfold out0_8
  rw [View.canon_unit_zero (S := S1536x6144) hz, View.ld_unit_zero (S := S40960x6144) hz]
  have h : k0_pay2 (F := Ideal) (k0_pay10 x0 x1 x2 x3 x4 x5 x6) x6
      = mmIn (rb (shapeCast S40960x1536 (View.ld x0 r0_0 : FVec Ideal S40960x1536 .fp8e4m3) shapeCasts_S40960x1536_S40960x1536)
        (shapeCast S1280x1536 (View.ld x1 r0_1 : IVec S1280x1536 8) shapeCasts_S1280x1536_S1280x1536) bitsLt_fp8e4m3_bf16) x6 := rfl
  exact h.trans (congrArg (fun a => mmIn a x6) (congrArg₂ (fun a b => rb a b bitsLt_fp8e4m3_bf16)
    ((shapeCast_self _ _).trans (View.ld_unit_zero (S := S40960x1536) hz _ _))
    ((shapeCast_self _ _).trans (View.ld_unit_zero (S := S1280x1536) hz _ _))))
theorem out9_eq : out0_9 (F := Ideal) x0 x1 x2 x3 x4 x5 x6 = mmOut x4 (rb x2 x3 bitsLt_fp8e5m2_bf16) := by
  unfold out0_9
  rw [View.canon_unit_zero (S := S6144x1536) hz, View.ld_unit_zero (S := S40960x6144) hz]
  have h : k0_pay3 (F := Ideal) (k0_pay5 (View.ld x2 r0_0)) (k0_pay7 (F := Ideal) (View.ld x3 r0_1)) (k0_pay8 (View.ld x3 r0_1)) (k0_pay9 (F := Ideal)) x4
      = mmOut x4 (rb (shapeCast S40960x1536 (View.ld x2 r0_0 : FVec Ideal S40960x1536 .fp8e5m2) shapeCasts_S40960x1536_S40960x1536)
        (shapeCast S1280x1536 (View.ld x3 r0_1 : IVec S1280x1536 8) shapeCasts_S1280x1536_S1280x1536) bitsLt_fp8e5m2_bf16) := rfl
  exact h.trans (congrArg (mmOut x4) (congrArg₂ (fun a b => rb a b bitsLt_fp8e5m2_bf16)
    ((shapeCast_self _ _).trans (View.ld_unit_zero (S := S40960x1536) hz _ _))
    ((shapeCast_self _ _).trans (View.ld_unit_zero (S := S1280x1536) hz _ _))))

/-- The three results at an index. -/
theorem out7_apply (r : Fin 1536) (l : Fin 6144) :
    (out0_7 (F := Ideal) x0 x1 x2 x3 x4 x5 x6 (ix2 r l) : EReal) = gradIn x0 x1 x5 (ix2 r l) := by
  rw [out7_eq]
  exact (mmIn_apply _ _ r l).trans (Finset.sum_congr rfl fun k _ => congrArg (fun a : EReal => a * x5 (ix2 k l)) (rb_apply x0 x1 _ k r))
theorem out8_apply (r : Fin 1536) (l : Fin 6144) :
    (out0_8 (F := Ideal) x0 x1 x2 x3 x4 x5 x6 (ix2 r l) : EReal) = gradIn x0 x1 x6 (ix2 r l) := by
  rw [out8_eq]
  exact (mmIn_apply _ _ r l).trans (Finset.sum_congr rfl fun k _ => congrArg (fun a : EReal => a * x6 (ix2 k l)) (rb_apply x0 x1 _ k r))
theorem out9_apply (r : Fin 6144) (l : Fin 1536) :
    (out0_9 (F := Ideal) x0 x1 x2 x3 x4 x5 x6 (ix2 r l) : EReal) = gradOut x4 x2 x3 (ix2 r l) := by
  rw [out9_eq]
  exact (mmOut_apply _ _ r l).trans (Finset.sum_congr rfl fun k _ => congrArg (fun a : EReal => x4 (ix2 k r) * a) (rb_apply x2 x3 _ k l))

variable (m : (ℓ : Loc nD τ sig) → Buf (Elt Ideal) ℓ)

/-- The codes and exponents of `x` and `dy` of device `c`, one row for a token and for 32 tokens, and `h`, `dg` and `du`. -/
abbrev xc (c : Dev nD) : (sh 40960 1536).Idx → EReal :=
  shapeCast S40960x1536 (m ((c : Thread nD τ).loc main_arg0) : S5x8192x1536.Idx → EReal) shapeCasts_S5x8192x1536_S40960x1536
abbrev xe (c : Dev nD) : (sh 1280 1536).Idx → BitVec 8 :=
  shapeCast S1280x1536 (m ((c : Thread nD τ).loc main_arg1) : S5x256x1536.Idx → BitVec 8) shapeCasts_S5x256x1536_S1280x1536
abbrev dyc (c : Dev nD) : (sh 40960 1536).Idx → EReal :=
  shapeCast S40960x1536 (m ((c : Thread nD τ).loc main_arg2) : S5x8192x1536.Idx → EReal) shapeCasts_S5x8192x1536_S40960x1536
abbrev dye (c : Dev nD) : (sh 1280 1536).Idx → BitVec 8 :=
  shapeCast S1280x1536 (m ((c : Thread nD τ).loc main_arg3) : S5x256x1536.Idx → BitVec 8) shapeCasts_S5x256x1536_S1280x1536
abbrev hh (c : Dev nD) : (sh 40960 6144).Idx → EReal := m ((c : Thread nD τ).loc main_arg4)
abbrev dg (c : Dev nD) : (sh 40960 6144).Idx → EReal := m ((c : Thread nD τ).loc main_arg5)
abbrev du (c : Dev nD) : (sh 40960 6144).Idx → EReal := m ((c : Thread nD τ).loc main_arg6)

theorem V0 (c : Dev nD) : (V m c main_v0 : S40960x1536.Idx → EReal) = xc m c := by
  entry_read
  rfl
theorem V1 (c : Dev nD) : (V m c main_v1 : S1280x1536.Idx → BitVec 8) = xe m c := by
  entry_read
  rfl
theorem V2 (c : Dev nD) : (V m c main_v2 : S40960x1536.Idx → EReal) = dyc m c := by
  entry_read
  rfl
theorem V3 (c : Dev nD) : (V m c main_v3 : S1280x1536.Idx → BitVec 8) = dye m c := by
  entry_read
  rfl

theorem index_eq : ∀ t : Fin cfg0.N, ∀ a : Fin 2, win0_0.index t a = 0 ∧ win0_1.index t a = 0 ∧ win0_2.index t a = 0
    ∧ win0_3.index t a = 0 ∧ win0_4.index t a = 0 ∧ win0_5.index t a = 0 ∧ win0_6.index t a = 0 ∧ win0_7.index t a = 0
    ∧ win0_8.index t a = 0 ∧ win0_9.index t a = 0 :=
  (by decide +kernel : ∀ t : Fin grid0.N, ∀ a : Fin 2, _)

/-- The one block of each operand is the operand. -/
theorem b0_eq (c : Dev nD) (t : Fin cfg0.N) : (iblk m c 0 t : S40960x1536.Idx → EReal) = xc m c := by
  funext j
  unfold iblk
  rw [View.read_apply]
  refine (congrArg (V m c main_v0) (idx_ext2 _ j ?_ ?_)).trans (congrFun (V0 m c) j)
  · show win0_0.index t 0 * 40960 + 1 * (j 0).val = (j 0).val; rw [(index_eq t 0).1]; omega
  · show win0_0.index t 1 * 1536 + 1 * (j 1).val = (j 1).val; rw [(index_eq t 1).1]; omega
theorem b1_eq (c : Dev nD) (t : Fin cfg0.N) : (iblk m c 1 t : S1280x1536.Idx → BitVec 8) = xe m c := by
  funext j
  unfold iblk
  rw [View.read_apply]
  refine (congrArg (V m c main_v1) (idx_ext2 _ j ?_ ?_)).trans (congrFun (V1 m c) j)
  · show win0_1.index t 0 * 1280 + 1 * (j 0).val = (j 0).val; rw [(index_eq t 0).2.1]; omega
  · show win0_1.index t 1 * 1536 + 1 * (j 1).val = (j 1).val; rw [(index_eq t 1).2.1]; omega
theorem b2_eq (c : Dev nD) (t : Fin cfg0.N) : (iblk m c 2 t : S40960x1536.Idx → EReal) = dyc m c := by
  funext j
  unfold iblk
  rw [View.read_apply]
  refine (congrArg (V m c main_v2) (idx_ext2 _ j ?_ ?_)).trans (congrFun (V2 m c) j)
  · show win0_2.index t 0 * 40960 + 1 * (j 0).val = (j 0).val; rw [(index_eq t 0).2.2.1]; omega
  · show win0_2.index t 1 * 1536 + 1 * (j 1).val = (j 1).val; rw [(index_eq t 1).2.2.1]; omega
theorem b3_eq (c : Dev nD) (t : Fin cfg0.N) : (iblk m c 3 t : S1280x1536.Idx → BitVec 8) = dye m c := by
  funext j
  unfold iblk
  rw [View.read_apply]
  refine (congrArg (V m c main_v3) (idx_ext2 _ j ?_ ?_)).trans (congrFun (V3 m c) j)
  · show win0_3.index t 0 * 1280 + 1 * (j 0).val = (j 0).val; rw [(index_eq t 0).2.2.2.1]; omega
  · show win0_3.index t 1 * 1536 + 1 * (j 1).val = (j 1).val; rw [(index_eq t 1).2.2.2.1]; omega
theorem b4_eq (c : Dev nD) (t : Fin cfg0.N) : (iblk m c 4 t : S40960x6144.Idx → EReal) = hh m c := by
  funext j
  unfold iblk
  rw [View.read_apply]
  refine (congrFun (V_main_arg4 m c) _).trans (congrArg (m ((c : Thread nD τ).loc main_arg4)) (idx_ext2 _ j ?_ ?_))
  · show win0_4.index t 0 * 40960 + 1 * (j 0).val = (j 0).val; rw [(index_eq t 0).2.2.2.2.1]; omega
  · show win0_4.index t 1 * 6144 + 1 * (j 1).val = (j 1).val; rw [(index_eq t 1).2.2.2.2.1]; omega
theorem b5_eq (c : Dev nD) (t : Fin cfg0.N) : (iblk m c 5 t : S40960x6144.Idx → EReal) = dg m c := by
  funext j
  unfold iblk
  rw [View.read_apply]
  refine (congrFun (V_main_arg5 m c) _).trans (congrArg (m ((c : Thread nD τ).loc main_arg5)) (idx_ext2 _ j ?_ ?_))
  · show win0_5.index t 0 * 40960 + 1 * (j 0).val = (j 0).val; rw [(index_eq t 0).2.2.2.2.2.1]; omega
  · show win0_5.index t 1 * 6144 + 1 * (j 1).val = (j 1).val; rw [(index_eq t 1).2.2.2.2.2.1]; omega
theorem b6_eq (c : Dev nD) (t : Fin cfg0.N) : (iblk m c 6 t : S40960x6144.Idx → EReal) = du m c := by
  funext j
  unfold iblk
  rw [View.read_apply]
  refine (congrFun (V_main_arg6 m c) _).trans (congrArg (m ((c : Thread nD τ).loc main_arg6)) (idx_ext2 _ j ?_ ?_))
  · show win0_6.index t 0 * 40960 + 1 * (j 0).val = (j 0).val; rw [(index_eq t 0).2.2.2.2.2.2.1]; omega
  · show win0_6.index t 1 * 6144 + 1 * (j 1).val = (j 1).val; rw [(index_eq t 1).2.2.2.2.2.2.1]; omega

/-- The result arrays after the run. -/
theorem final7 (c : Dev nD) : (dats m 0 c).arrAt 7 cfg0.N = gradIn (xc m c) (xe m c) (dg m c) := by
  refine (dats m 0 c).arrAt_eq_of_covers 7 _ (by decide +kernel) fun t hf y => ?_
  blk_simp
  rw [after0_7, show (win0_7.blk t).view.emb y = ix2 (y 0) (y 1) from idx_ext2 _ _
    (by show win0_7.index t 0 * 1536 + 1 * (y 0).val = (y 0).val; rw [(index_eq t 0).2.2.2.2.2.2.2.1]; omega)
    (by show win0_7.index t 1 * 6144 + 1 * (y 1).val = (y 1).val; rw [(index_eq t 1).2.2.2.2.2.2.2.1]; omega)]
  rw [show iblk m c 0 t = xc m c from b0_eq m c t, show iblk m c 1 t = xe m c from b1_eq m c t, show iblk m c 2 t = dyc m c from b2_eq m c t,
    show iblk m c 3 t = dye m c from b3_eq m c t, show iblk m c 4 t = hh m c from b4_eq m c t, show iblk m c 5 t = dg m c from b5_eq m c t,
    show iblk m c 6 t = du m c from b6_eq m c t]
  exact (congrArg _ (ValueIdx.eq_ix2 y)).trans (out7_apply _ _ _ _ _ _ _ (y 0) (y 1))

theorem final8 (c : Dev nD) : (dats m 0 c).arrAt 8 cfg0.N = gradIn (xc m c) (xe m c) (du m c) := by
  refine (dats m 0 c).arrAt_eq_of_covers 8 _ (by decide +kernel) fun t hf y => ?_
  blk_simp
  rw [after0_8, show (win0_8.blk t).view.emb y = ix2 (y 0) (y 1) from idx_ext2 _ _
    (by show win0_8.index t 0 * 1536 + 1 * (y 0).val = (y 0).val; rw [(index_eq t 0).2.2.2.2.2.2.2.2.1]; omega)
    (by show win0_8.index t 1 * 6144 + 1 * (y 1).val = (y 1).val; rw [(index_eq t 1).2.2.2.2.2.2.2.2.1]; omega)]
  rw [show iblk m c 0 t = xc m c from b0_eq m c t, show iblk m c 1 t = xe m c from b1_eq m c t, show iblk m c 2 t = dyc m c from b2_eq m c t,
    show iblk m c 3 t = dye m c from b3_eq m c t, show iblk m c 4 t = hh m c from b4_eq m c t, show iblk m c 5 t = dg m c from b5_eq m c t,
    show iblk m c 6 t = du m c from b6_eq m c t]
  exact (congrArg _ (ValueIdx.eq_ix2 y)).trans (out8_apply _ _ _ _ _ _ _ (y 0) (y 1))

theorem final9 (c : Dev nD) : (dats m 0 c).arrAt 9 cfg0.N = gradOut (hh m c) (dyc m c) (dye m c) := by
  refine (dats m 0 c).arrAt_eq_of_covers 9 _ (by decide +kernel) fun t hf y => ?_
  blk_simp
  rw [after0_9, show (win0_9.blk t).view.emb y = ix2 (y 0) (y 1) from idx_ext2 _ _
    (by show win0_9.index t 0 * 6144 + 1 * (y 0).val = (y 0).val; rw [(index_eq t 0).2.2.2.2.2.2.2.2.2]; omega)
    (by show win0_9.index t 1 * 1536 + 1 * (y 1).val = (y 1).val; rw [(index_eq t 1).2.2.2.2.2.2.2.2.2]; omega)]
  rw [show iblk m c 0 t = xc m c from b0_eq m c t, show iblk m c 1 t = xe m c from b1_eq m c t, show iblk m c 2 t = dyc m c from b2_eq m c t,
    show iblk m c 3 t = dye m c from b3_eq m c t, show iblk m c 4 t = hh m c from b4_eq m c t, show iblk m c 5 t = dg m c from b5_eq m c t,
    show iblk m c 6 t = du m c from b6_eq m c t]
  exact (congrArg _ (ValueIdx.eq_ix2 y)).trans (out9_apply _ _ _ _ _ _ _ (y 0) (y 1))

end Cert.DwRefIdeal.Array

end
-- ==== Proof.DwClaim.lean ====
/-
  The weight-gradient kernel computes the reference's three products, over the extended reals.
-/
module

public import proofs.«01_k».proof.Defs
public import proofs.«01_k».proof.Proof.DwValue
public import proofs.«01_k».proof.Proof.DwRef

@[expose] public section

noncomputable section

namespace Cert.Proof.Dw

open Idealize.ShloMosaic Idealize.ShloMosaic.TcCoe Idealize.SL.Sem

/-- The kernel and the reference leave equal results on equal arguments, the arguments unchanged. -/
theorem algebraic : Cert.algebraic_DwIdeal_DwRefIdeal (hDwIdeal := Cert.DwIdeal.Gen.facts) (hDwRefIdeal := Cert.DwRefIdeal.Gen.facts) := by
  intro m g m' g' _ hm
  refine ⟨fun c => gradIn (Cert.DwIdeal.Array.xc m c) (Cert.DwIdeal.Array.xe m c) (Cert.DwIdeal.Array.dg m c),
    fun c => gradIn (Cert.DwIdeal.Array.xc m c) (Cert.DwIdeal.Array.xe m c) (Cert.DwIdeal.Array.du m c),
    fun c => gradOut (Cert.DwIdeal.Array.hh m c) (Cert.DwIdeal.Array.dyc m c) (Cert.DwIdeal.Array.dye m c), ?_, ?_⟩
  · exact (θ_run _ _ _).mono (fun r h c => ⟨(h c).1.trans (Cert.DwIdeal.Array.final7 m c), (h c).2.1.trans (Cert.DwIdeal.Array.final8 m c),
      (h c).2.2.1.trans (Cert.DwIdeal.Array.final9 m c), (h c).2.2.2⟩) (Cert.DwIdeal.Value.run_blocks m g)
  · refine (θ_run _ _ _).mono (fun r h c => ⟨(h c).1.trans ((Cert.DwRefIdeal.Array.final7 m' c).trans ?_),
      (h c).2.1.trans ((Cert.DwRefIdeal.Array.final8 m' c).trans ?_),
      (h c).2.2.1.trans ((Cert.DwRefIdeal.Array.final9 m' c).trans ?_), (h c).2.2.2⟩) (Cert.DwRefIdeal.Value.run_blocks m' g')
    all_goals obtain ⟨e0, e1, e2, e3, e4, e5, e6⟩ := hm c
    · unfold Cert.DwRefIdeal.Array.xc Cert.DwRefIdeal.Array.xe Cert.DwRefIdeal.Array.dg
      rw [e0, e1, e5]
    · unfold Cert.DwRefIdeal.Array.xc Cert.DwRefIdeal.Array.xe Cert.DwRefIdeal.Array.du
      rw [e0, e1, e6]
    · unfold Cert.DwRefIdeal.Array.hh Cert.DwRefIdeal.Array.dyc Cert.DwRefIdeal.Array.dye
      rw [e2, e3, e4]

end Cert.Proof.Dw

end
-- ==== Proof.lean ====
/-
  The certificate: the four kernels of a gated feed-forward layer's forward and backward pass, each run to its end with
  its arguments unchanged, and each computing over the extended reals what its reference computes.
-/
module

public import proofs.«01_k».proof.Defs
public import proofs.«01_k».proof.Proof.Gen.Prep
public import proofs.«01_k».proof.Proof.Gen.Prep.Skeleton
public import proofs.«01_k».proof.Proof.Gen.Prep.Launch
public import proofs.«01_k».proof.Proof.Gen.Prep.Points
public import proofs.«01_k».proof.Proof.Gen.Prep.Frame
public import proofs.«01_k».proof.Proof.Gen.PrepIdeal
public import proofs.«01_k».proof.Proof.Gen.PrepIdeal.Skeleton
public import proofs.«01_k».proof.Proof.Gen.PrepIdeal.Launch
public import proofs.«01_k».proof.Proof.Gen.PrepIdeal.Points
public import proofs.«01_k».proof.Proof.Gen.PrepIdeal.Frame
public import proofs.«01_k».proof.Proof.Gen.PrepRefIdeal
public import proofs.«01_k».proof.Proof.Gen.PrepRefIdeal.Skeleton
public import proofs.«01_k».proof.Proof.Gen.PrepRefIdeal.Launch
public import proofs.«01_k».proof.Proof.Gen.PrepRefIdeal.Points
public import proofs.«01_k».proof.Proof.Gen.PrepRefIdeal.Frame
public import proofs.«01_k».proof.Proof.Gen.Mlp
public import proofs.«01_k».proof.Proof.Gen.Mlp.Skeleton
public import proofs.«01_k».proof.Proof.Gen.Mlp.Launch
public import proofs.«01_k».proof.Proof.Gen.Mlp.Points
public import proofs.«01_k».proof.Proof.Gen.Mlp.Frame
public import proofs.«01_k».proof.Proof.Gen.MlpIdeal
public import proofs.«01_k».proof.Proof.Gen.MlpIdeal.Skeleton
public import proofs.«01_k».proof.Proof.Gen.MlpIdeal.Launch
public import proofs.«01_k».proof.Proof.Gen.MlpIdeal.Points
public import proofs.«01_k».proof.Proof.Gen.MlpIdeal.Frame
public import proofs.«01_k».proof.Proof.Gen.MlpRefIdeal
public import proofs.«01_k».proof.Proof.Gen.MlpRefIdeal.Skeleton
public import proofs.«01_k».proof.Proof.Gen.MlpRefIdeal.Launch
public import proofs.«01_k».proof.Proof.Gen.MlpRefIdeal.Points
public import proofs.«01_k».proof.Proof.Gen.MlpRefIdeal.Frame
public import proofs.«01_k».proof.Proof.Gen.Dx
public import proofs.«01_k».proof.Proof.Gen.Dx.Skeleton
public import proofs.«01_k».proof.Proof.Gen.Dx.Launch
public import proofs.«01_k».proof.Proof.Gen.Dx.Points
public import proofs.«01_k».proof.Proof.Gen.Dx.Frame
public import proofs.«01_k».proof.Proof.Gen.DxIdeal
public import proofs.«01_k».proof.Proof.Gen.DxIdeal.Skeleton
public import proofs.«01_k».proof.Proof.Gen.DxIdeal.Launch
public import proofs.«01_k».proof.Proof.Gen.DxIdeal.Points
public import proofs.«01_k».proof.Proof.Gen.DxIdeal.Frame
public import proofs.«01_k».proof.Proof.Gen.DxRefIdeal
public import proofs.«01_k».proof.Proof.Gen.Dw
public import proofs.«01_k».proof.Proof.Gen.Dw.Skeleton
public import proofs.«01_k».proof.Proof.Gen.Dw.Launch
public import proofs.«01_k».proof.Proof.Gen.Dw.Points
public import proofs.«01_k».proof.Proof.Gen.Dw.Frame
public import proofs.«01_k».proof.Proof.Gen.DwIdeal
public import proofs.«01_k».proof.Proof.Gen.DwIdeal.Skeleton
public import proofs.«01_k».proof.Proof.Gen.DwIdeal.Launch
public import proofs.«01_k».proof.Proof.Gen.DwIdeal.Points
public import proofs.«01_k».proof.Proof.Gen.DwIdeal.Frame
public import proofs.«01_k».proof.Proof.Gen.DwRefIdeal
public import proofs.«01_k».proof.Proof.Gen.DwRefIdeal.Skeleton
public import proofs.«01_k».proof.Proof.Gen.DwRefIdeal.Launch
public import proofs.«01_k».proof.Proof.Gen.DwRefIdeal.Points
public import proofs.«01_k».proof.Proof.Gen.DwRefIdeal.Frame
public import proofs.«01_k».proof.Proof.Gen.PrepIdeal.Value
public import proofs.«01_k».proof.Proof.Gen.MlpIdeal.Value
public import proofs.«01_k».proof.Proof.Gen.DxIdeal.Value
public import proofs.«01_k».proof.Proof.Gen.DwIdeal.Value
public import proofs.«01_k».proof.Proof.Gen.PrepRefIdeal.Value
public import proofs.«01_k».proof.Proof.Gen.MlpRefIdeal.Value
public import proofs.«01_k».proof.Proof.Gen.DwRefIdeal.Value
public import proofs.«01_k».proof.Proof.Gen.DxRefIdeal.Run
public import proofs.«01_k».proof.Proof.PrepClaim
public import proofs.«01_k».proof.Proof.MlpClaim
public import proofs.«01_k».proof.Proof.DxClaim
public import proofs.«01_k».proof.Proof.DwClaim
public import Idealize.ShloMosaic.Lib.Quiescent
public import Idealize.ShloMosaic.Adequacy
public import Idealize.ShloMosaic.Init

@[expose] public section

noncomputable section

namespace Cert.Proof

open Idealize.ShloMosaic Idealize.SL.Sem

/-- The input gradient's reference, a line of host operations, ends with its arguments unchanged; it has no semaphore. -/
theorem frame_DxRefIdeal : Cert.quiescent_DxRefIdeal (hDxRefIdeal := Cert.DxRefIdeal.Gen.facts) := fun m ρ _ =>
  (θ_run _ _ _).mono (fun r h => ⟨fun c => (h c).2, sem_eq_zero_of_no_sems (by decide) r.2⟩) (Cert.DxRefIdeal.Value.run m ρ)

/-- Every claim: the twelve programs' frames, and for each of the four kernels that its ideal program is the kernel over
    the extended reals and computes its reference's results. -/
theorem claim : Cert.Claim :=
  ⟨Cert.Prep.Gen.facts, Cert.PrepIdeal.Gen.facts,
    Cert.PrepRefIdeal.Gen.facts, Cert.Mlp.Gen.facts,
    Cert.MlpIdeal.Gen.facts, Cert.MlpRefIdeal.Gen.facts,
    Cert.Dx.Gen.facts, Cert.DxIdeal.Gen.facts,
    Cert.DxRefIdeal.Gen.facts, Cert.Dw.Gen.facts,
    Cert.DwIdeal.Gen.facts, Cert.DwRefIdeal.Gen.facts,
    fun m ρ _ => Cert.Prep.Gen.frame m ρ, fun m ρ _ => Cert.PrepIdeal.Gen.frame m ρ,
    fun m ρ _ => Cert.PrepRefIdeal.Gen.frame m ρ, fun m ρ _ => Cert.Mlp.Gen.frame m ρ,
    fun m ρ _ => Cert.MlpIdeal.Gen.frame m ρ, fun m ρ _ => Cert.MlpRefIdeal.Gen.frame m ρ,
    fun m ρ _ => Cert.Dx.Gen.frame m ρ, fun m ρ _ => Cert.DxIdeal.Gen.frame m ρ,
    frame_DxRefIdeal, fun m ρ _ => Cert.Dw.Gen.frame m ρ,
    fun m ρ _ => Cert.DwIdeal.Gen.frame m ρ, fun m ρ _ => Cert.DwRefIdeal.Gen.frame m ρ,
    trivial, Prep.algebraic, trivial, Mlp.algebraic,
    trivial, Dx.algebraic, trivial, Dw.algebraic⟩

end Cert.Proof

end
